-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_SsmIn (m : (ℓ : Loc Cert.SsmIn.nD Cert.SsmIn.τ Cert.SsmIn.sig) → Buf (Elt Bits) ℓ) : Prop :=
  True

def Pre_SsmInIdeal (m : (ℓ : Loc Cert.SsmInIdeal.nD Cert.SsmInIdeal.τ Cert.SsmInIdeal.sig) → Buf (Elt Ideal) ℓ) : Prop :=
  True

def Pre_SsmInRefIdeal (m : (ℓ : Loc Cert.SsmInRefIdeal.nD Cert.SsmInRefIdeal.τ Cert.SsmInRefIdeal.sig) → Buf (Elt Ideal) ℓ) : Prop :=
  True

def Pre_NsaA (m : (ℓ : Loc Cert.NsaA.nD Cert.NsaA.τ Cert.NsaA.sig) → Buf (Elt Bits) ℓ) : Prop :=
  True

def Pre_NsaAIdeal (m : (ℓ : Loc Cert.NsaAIdeal.nD Cert.NsaAIdeal.τ Cert.NsaAIdeal.sig) → Buf (Elt Ideal) ℓ) : Prop :=
  True

def Pre_NsaARefIdeal (m : (ℓ : Loc Cert.NsaARefIdeal.nD Cert.NsaARefIdeal.τ Cert.NsaARefIdeal.sig) → Buf (Elt Ideal) ℓ) : Prop :=
  True

def Pre_NsaB (m : (ℓ : Loc Cert.NsaB.nD Cert.NsaB.τ Cert.NsaB.sig) → Buf (Elt Bits) ℓ) : Prop :=
  True

def Pre_NsaBIdeal (m : (ℓ : Loc Cert.NsaBIdeal.nD Cert.NsaBIdeal.τ Cert.NsaBIdeal.sig) → Buf (Elt Ideal) ℓ) : Prop :=
  True

def Pre_NsaBRefIdeal (m : (ℓ : Loc Cert.NsaBRefIdeal.nD Cert.NsaBRefIdeal.τ Cert.NsaBRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_AddLn (m : (ℓ : Loc Cert.AddLn.nD Cert.AddLn.τ Cert.AddLn.sig) → Buf (Elt Bits) ℓ) : Prop :=
  True

def Pre_AddLnIdeal (m : (ℓ : Loc Cert.AddLnIdeal.nD Cert.AddLnIdeal.τ Cert.AddLnIdeal.sig) → Buf (Elt Ideal) ℓ) : Prop :=
  True

def Pre_AddLnRefIdeal (m : (ℓ : Loc Cert.AddLnRefIdeal.nD Cert.AddLnRefIdeal.τ Cert.AddLnRefIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterRefIdeal (m : (ℓ : Loc Cert.RouterRefIdeal.nD Cert.RouterRefIdeal.τ Cert.RouterRefIdeal.sig) → Buf (Elt Ideal) ℓ) : Prop :=
  True

def Pre_Experts [hPre_experts_named : Cert.Pre_experts_named.Facts] (m : (ℓ : Loc Cert.Experts.nD Cert.Experts.τ Cert.Experts.sig) → Buf (Elt Bits) ℓ) : Prop :=
  ∀ c : Dev Cert.Experts.nD,
    (Cert.Pre_experts_named.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_experts_named : Cert.Pre_experts_named.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_named.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_experts_named [hPre_experts_named : Cert.Pre_experts_named.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_experts_named.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6))) = (fun _ => 1#1)

def Pre_Cmp (m : (ℓ : Loc Cert.Cmp.nD Cert.Cmp.τ Cert.Cmp.sig) → Buf (Elt Bits) ℓ) : Prop :=
  True

def Pre_CmpIdeal (m : (ℓ : Loc Cert.CmpIdeal.nD Cert.CmpIdeal.τ Cert.CmpIdeal.sig) → Buf (Elt Ideal) ℓ) : Prop :=
  True

def Pre_CmpRefIdeal (m : (ℓ : Loc Cert.CmpRefIdeal.nD Cert.CmpRefIdeal.τ Cert.CmpRefIdeal.sig) → Buf (Elt Ideal) ℓ) : Prop :=
  True

def Pre_Nsa (m : (ℓ : Loc Cert.Nsa.nD Cert.Nsa.τ Cert.Nsa.sig) → Buf (Elt Bits) ℓ) : Prop :=
  True

def Pre_NsaIdeal (m : (ℓ : Loc Cert.NsaIdeal.nD Cert.NsaIdeal.τ Cert.NsaIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_SsmIn [hSsmIn : Cert.SsmIn.Facts] : Prop :=
  ∀ (m : (ℓ : Loc Cert.SsmIn.nD Cert.SsmIn.τ Cert.SsmIn.sig) → Buf (Elt Bits) ℓ) (g : Dev Cert.SsmIn.nD → PrngReg), Pre_SsmIn m →
    θ_run (Cert.SsmIn.defs (F := Bits)) (onTc (τ := Cert.SsmIn.τ) (Cert.SsmIn.main (F := Bits))) ⟨m, fun _ => 0, g⟩ (fun r => (∀ c : Dev Cert.SsmIn.nD,
      r.2.mem ((c.tc : Thread Cert.SsmIn.nD Cert.SsmIn.τ).loc Cert.SsmIn.main_arg0) = m ((c.tc : Thread Cert.SsmIn.nD Cert.SsmIn.τ).loc Cert.SsmIn.main_arg0)
      ∧ r.2.mem ((c.tc : Thread Cert.SsmIn.nD Cert.SsmIn.τ).loc Cert.SsmIn.main_arg1) = m ((c.tc : Thread Cert.SsmIn.nD Cert.SsmIn.τ).loc Cert.SsmIn.main_arg1))
      ∧ r.2.sem = fun _ => 0)

def quiescent_SsmInIdeal [hSsmInIdeal : Cert.SsmInIdeal.Facts] : Prop :=
  ∀ (m : (ℓ : Loc Cert.SsmInIdeal.nD Cert.SsmInIdeal.τ Cert.SsmInIdeal.sig) → Buf (Elt Ideal) ℓ) (g : Dev Cert.SsmInIdeal.nD → PrngReg), Pre_SsmInIdeal m →
    θ_run (Cert.SsmInIdeal.defs (F := Ideal)) (onTc (τ := Cert.SsmInIdeal.τ) (Cert.SsmInIdeal.main (F := Ideal))) ⟨m, fun _ => 0, g⟩ (fun r => (∀ c : Dev Cert.SsmInIdeal.nD,
      r.2.mem ((c.tc : Thread Cert.SsmInIdeal.nD Cert.SsmInIdeal.τ).loc Cert.SsmInIdeal.main_arg0) = m ((c.tc : Thread Cert.SsmInIdeal.nD Cert.SsmInIdeal.τ).loc Cert.SsmInIdeal.main_arg0)
      ∧ r.2.mem ((c.tc : Thread Cert.SsmInIdeal.nD Cert.SsmInIdeal.τ).loc Cert.SsmInIdeal.main_arg1) = m ((c.tc : Thread Cert.SsmInIdeal.nD Cert.SsmInIdeal.τ).loc Cert.SsmInIdeal.main_arg1))
      ∧ r.2.sem = fun _ => 0)

def quiescent_SsmInRefIdeal [hSsmInRefIdeal : Cert.SsmInRefIdeal.Facts] : Prop :=
  ∀ (m : (ℓ : Loc Cert.SsmInRefIdeal.nD Cert.SsmInRefIdeal.τ Cert.SsmInRefIdeal.sig) → Buf (Elt Ideal) ℓ) (g : Dev Cert.SsmInRefIdeal.nD → PrngReg), Pre_SsmInRefIdeal m →
    θ_run (Cert.SsmInRefIdeal.defs (F := Ideal)) (onTc (τ := Cert.SsmInRefIdeal.τ) (Cert.SsmInRefIdeal.main (F := Ideal))) ⟨m, fun _ => 0, g⟩ (fun r => (∀ c : Dev Cert.SsmInRefIdeal.nD,
      r.2.mem ((c.tc : Thread Cert.SsmInRefIdeal.nD Cert.SsmInRefIdeal.τ).loc Cert.SsmInRefIdeal.main_arg0) = m ((c.tc : Thread Cert.SsmInRefIdeal.nD Cert.SsmInRefIdeal.τ).loc Cert.SsmInRefIdeal.main_arg0)
      ∧ r.2.mem ((c.tc : Thread Cert.SsmInRefIdeal.nD Cert.SsmInRefIdeal.τ).loc Cert.SsmInRefIdeal.main_arg1) = m ((c.tc : Thread Cert.SsmInRefIdeal.nD Cert.SsmInRefIdeal.τ).loc Cert.SsmInRefIdeal.main_arg1))
      ∧ r.2.sem = fun _ => 0)

def quiescent_NsaA [hNsaA : Cert.NsaA.Facts] : Prop :=
  ∀ (m : (ℓ : Loc Cert.NsaA.nD Cert.NsaA.τ Cert.NsaA.sig) → Buf (Elt Bits) ℓ) (g : Dev Cert.NsaA.nD → PrngReg), Pre_NsaA m →
    θ_run (Cert.NsaA.defs (F := Bits)) (onTc (τ := Cert.NsaA.τ) (Cert.NsaA.main (F := Bits))) ⟨m, fun _ => 0, g⟩ (fun r => (∀ c : Dev Cert.NsaA.nD,
      r.2.mem ((c.tc : Thread Cert.NsaA.nD Cert.NsaA.τ).loc Cert.NsaA.main_arg0) = m ((c.tc : Thread Cert.NsaA.nD Cert.NsaA.τ).loc Cert.NsaA.main_arg0)
      ∧ r.2.mem ((c.tc : Thread Cert.NsaA.nD Cert.NsaA.τ).loc Cert.NsaA.main_arg1) = m ((c.tc : Thread Cert.NsaA.nD Cert.NsaA.τ).loc Cert.NsaA.main_arg1))
      ∧ r.2.sem = fun _ => 0)

def quiescent_NsaAIdeal [hNsaAIdeal : Cert.NsaAIdeal.Facts] : Prop :=
  ∀ (m : (ℓ : Loc Cert.NsaAIdeal.nD Cert.NsaAIdeal.τ Cert.NsaAIdeal.sig) → Buf (Elt Ideal) ℓ) (g : Dev Cert.NsaAIdeal.nD → PrngReg), Pre_NsaAIdeal m →
    θ_run (Cert.NsaAIdeal.defs (F := Ideal)) (onTc (τ := Cert.NsaAIdeal.τ) (Cert.NsaAIdeal.main (F := Ideal))) ⟨m, fun _ => 0, g⟩ (fun r => (∀ c : Dev Cert.NsaAIdeal.nD,
      r.2.mem ((c.tc : Thread Cert.NsaAIdeal.nD Cert.NsaAIdeal.τ).loc Cert.NsaAIdeal.main_arg0) = m ((c.tc : Thread Cert.NsaAIdeal.nD Cert.NsaAIdeal.τ).loc Cert.NsaAIdeal.main_arg0)
      ∧ r.2.mem ((c.tc : Thread Cert.NsaAIdeal.nD Cert.NsaAIdeal.τ).loc Cert.NsaAIdeal.main_arg1) = m ((c.tc : Thread Cert.NsaAIdeal.nD Cert.NsaAIdeal.τ).loc Cert.NsaAIdeal.main_arg1))
      ∧ r.2.sem = fun _ => 0)

def quiescent_NsaARefIdeal [hNsaARefIdeal : Cert.NsaARefIdeal.Facts] : Prop :=
  ∀ (m : (ℓ : Loc Cert.NsaARefIdeal.nD Cert.NsaARefIdeal.τ Cert.NsaARefIdeal.sig) → Buf (Elt Ideal) ℓ) (g : Dev Cert.NsaARefIdeal.nD → PrngReg), Pre_NsaARefIdeal m →
    θ_run (Cert.NsaARefIdeal.defs (F := Ideal)) (onTc (τ := Cert.NsaARefIdeal.τ) (Cert.NsaARefIdeal.main (F := Ideal))) ⟨m, fun _ => 0, g⟩ (fun r => (∀ c : Dev Cert.NsaARefIdeal.nD,
      r.2.mem ((c.tc : Thread Cert.NsaARefIdeal.nD Cert.NsaARefIdeal.τ).loc Cert.NsaARefIdeal.main_arg0) = m ((c.tc : Thread Cert.NsaARefIdeal.nD Cert.NsaARefIdeal.τ).loc Cert.NsaARefIdeal.main_arg0)
      ∧ r.2.mem ((c.tc : Thread Cert.NsaARefIdeal.nD Cert.NsaARefIdeal.τ).loc Cert.NsaARefIdeal.main_arg1) = m ((c.tc : Thread Cert.NsaARefIdeal.nD Cert.NsaARefIdeal.τ).loc Cert.NsaARefIdeal.main_arg1))
      ∧ r.2.sem = fun _ => 0)

def quiescent_NsaB [hNsaB : Cert.NsaB.Facts] : Prop :=
  ∀ (m : (ℓ : Loc Cert.NsaB.nD Cert.NsaB.τ Cert.NsaB.sig) → Buf (Elt Bits) ℓ) (g : Dev Cert.NsaB.nD → PrngReg), Pre_NsaB m →
    θ_run (Cert.NsaB.defs (F := Bits)) (onTc (τ := Cert.NsaB.τ) (Cert.NsaB.main (F := Bits))) ⟨m, fun _ => 0, g⟩ (fun r => (∀ c : Dev Cert.NsaB.nD,
      r.2.mem ((c.tc : Thread Cert.NsaB.nD Cert.NsaB.τ).loc Cert.NsaB.main_arg0) = m ((c.tc : Thread Cert.NsaB.nD Cert.NsaB.τ).loc Cert.NsaB.main_arg0)
      ∧ r.2.mem ((c.tc : Thread Cert.NsaB.nD Cert.NsaB.τ).loc Cert.NsaB.main_arg1) = m ((c.tc : Thread Cert.NsaB.nD Cert.NsaB.τ).loc Cert.NsaB.main_arg1))
      ∧ r.2.sem = fun _ => 0)

def quiescent_NsaBIdeal [hNsaBIdeal : Cert.NsaBIdeal.Facts] : Prop :=
  ∀ (m : (ℓ : Loc Cert.NsaBIdeal.nD Cert.NsaBIdeal.τ Cert.NsaBIdeal.sig) → Buf (Elt Ideal) ℓ) (g : Dev Cert.NsaBIdeal.nD → PrngReg), Pre_NsaBIdeal m →
    θ_run (Cert.NsaBIdeal.defs (F := Ideal)) (onTc (τ := Cert.NsaBIdeal.τ) (Cert.NsaBIdeal.main (F := Ideal))) ⟨m, fun _ => 0, g⟩ (fun r => (∀ c : Dev Cert.NsaBIdeal.nD,
      r.2.mem ((c.tc : Thread Cert.NsaBIdeal.nD Cert.NsaBIdeal.τ).loc Cert.NsaBIdeal.main_arg0) = m ((c.tc : Thread Cert.NsaBIdeal.nD Cert.NsaBIdeal.τ).loc Cert.NsaBIdeal.main_arg0)
      ∧ r.2.mem ((c.tc : Thread Cert.NsaBIdeal.nD Cert.NsaBIdeal.τ).loc Cert.NsaBIdeal.main_arg1) = m ((c.tc : Thread Cert.NsaBIdeal.nD Cert.NsaBIdeal.τ).loc Cert.NsaBIdeal.main_arg1))
      ∧ r.2.sem = fun _ => 0)

def quiescent_NsaBRefIdeal [hNsaBRefIdeal : Cert.NsaBRefIdeal.Facts] : Prop :=
  ∀ (m : (ℓ : Loc Cert.NsaBRefIdeal.nD Cert.NsaBRefIdeal.τ Cert.NsaBRefIdeal.sig) → Buf (Elt Ideal) ℓ) (g : Dev Cert.NsaBRefIdeal.nD → PrngReg), Pre_NsaBRefIdeal m →
    θ_run (Cert.NsaBRefIdeal.defs (F := Ideal)) (onTc (τ := Cert.NsaBRefIdeal.τ) (Cert.NsaBRefIdeal.main (F := Ideal))) ⟨m, fun _ => 0, g⟩ (fun r => (∀ c : Dev Cert.NsaBRefIdeal.nD,
      r.2.mem ((c.tc : Thread Cert.NsaBRefIdeal.nD Cert.NsaBRefIdeal.τ).loc Cert.NsaBRefIdeal.main_arg0) = m ((c.tc : Thread Cert.NsaBRefIdeal.nD Cert.NsaBRefIdeal.τ).loc Cert.NsaBRefIdeal.main_arg0)
      ∧ r.2.mem ((c.tc : Thread Cert.NsaBRefIdeal.nD Cert.NsaBRefIdeal.τ).loc Cert.NsaBRefIdeal.main_arg1) = m ((c.tc : Thread Cert.NsaBRefIdeal.nD Cert.NsaBRefIdeal.τ).loc Cert.NsaBRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_AddLn [hAddLn : Cert.AddLn.Facts] : Prop :=
  ∀ (m : (ℓ : Loc Cert.AddLn.nD Cert.AddLn.τ Cert.AddLn.sig) → Buf (Elt Bits) ℓ) (g : Dev Cert.AddLn.nD → PrngReg), Pre_AddLn m →
    θ_run (Cert.AddLn.defs (F := Bits)) (onTc (τ := Cert.AddLn.τ) (Cert.AddLn.main (F := Bits))) ⟨m, fun _ => 0, g⟩ (fun r => (∀ c : Dev Cert.AddLn.nD,
      r.2.mem ((c.tc : Thread Cert.AddLn.nD Cert.AddLn.τ).loc Cert.AddLn.main_arg0) = m ((c.tc : Thread Cert.AddLn.nD Cert.AddLn.τ).loc Cert.AddLn.main_arg0)
      ∧ r.2.mem ((c.tc : Thread Cert.AddLn.nD Cert.AddLn.τ).loc Cert.AddLn.main_arg1) = m ((c.tc : Thread Cert.AddLn.nD Cert.AddLn.τ).loc Cert.AddLn.main_arg1)
      ∧ r.2.mem ((c.tc : Thread Cert.AddLn.nD Cert.AddLn.τ).loc Cert.AddLn.main_arg2) = m ((c.tc : Thread Cert.AddLn.nD Cert.AddLn.τ).loc Cert.AddLn.main_arg2)
      ∧ r.2.mem ((c.tc : Thread Cert.AddLn.nD Cert.AddLn.τ).loc Cert.AddLn.main_arg3) = m ((c.tc : Thread Cert.AddLn.nD Cert.AddLn.τ).loc Cert.AddLn.main_arg3))
      ∧ r.2.sem = fun _ => 0)

def quiescent_AddLnIdeal [hAddLnIdeal : Cert.AddLnIdeal.Facts] : Prop :=
  ∀ (m : (ℓ : Loc Cert.AddLnIdeal.nD Cert.AddLnIdeal.τ Cert.AddLnIdeal.sig) → Buf (Elt Ideal) ℓ) (g : Dev Cert.AddLnIdeal.nD → PrngReg), Pre_AddLnIdeal m →
    θ_run (Cert.AddLnIdeal.defs (F := Ideal)) (onTc (τ := Cert.AddLnIdeal.τ) (Cert.AddLnIdeal.main (F := Ideal))) ⟨m, fun _ => 0, g⟩ (fun r => (∀ c : Dev Cert.AddLnIdeal.nD,
      r.2.mem ((c.tc : Thread Cert.AddLnIdeal.nD Cert.AddLnIdeal.τ).loc Cert.AddLnIdeal.main_arg0) = m ((c.tc : Thread Cert.AddLnIdeal.nD Cert.AddLnIdeal.τ).loc Cert.AddLnIdeal.main_arg0)
      ∧ r.2.mem ((c.tc : Thread Cert.AddLnIdeal.nD Cert.AddLnIdeal.τ).loc Cert.AddLnIdeal.main_arg1) = m ((c.tc : Thread Cert.AddLnIdeal.nD Cert.AddLnIdeal.τ).loc Cert.AddLnIdeal.main_arg1)
      ∧ r.2.mem ((c.tc : Thread Cert.AddLnIdeal.nD Cert.AddLnIdeal.τ).loc Cert.AddLnIdeal.main_arg2) = m ((c.tc : Thread Cert.AddLnIdeal.nD Cert.AddLnIdeal.τ).loc Cert.AddLnIdeal.main_arg2)
      ∧ r.2.mem ((c.tc : Thread Cert.AddLnIdeal.nD Cert.AddLnIdeal.τ).loc Cert.AddLnIdeal.main_arg3) = m ((c.tc : Thread Cert.AddLnIdeal.nD Cert.AddLnIdeal.τ).loc Cert.AddLnIdeal.main_arg3))
      ∧ r.2.sem = fun _ => 0)

def quiescent_AddLnRefIdeal [hAddLnRefIdeal : Cert.AddLnRefIdeal.Facts] : Prop :=
  ∀ (m : (ℓ : Loc Cert.AddLnRefIdeal.nD Cert.AddLnRefIdeal.τ Cert.AddLnRefIdeal.sig) → Buf (Elt Ideal) ℓ) (g : Dev Cert.AddLnRefIdeal.nD → PrngReg), Pre_AddLnRefIdeal m →
    θ_run (Cert.AddLnRefIdeal.defs (F := Ideal)) (onTc (τ := Cert.AddLnRefIdeal.τ) (Cert.AddLnRefIdeal.main (F := Ideal))) ⟨m, fun _ => 0, g⟩ (fun r => (∀ c : Dev Cert.AddLnRefIdeal.nD,
      r.2.mem ((c.tc : Thread Cert.AddLnRefIdeal.nD Cert.AddLnRefIdeal.τ).loc Cert.AddLnRefIdeal.main_arg0) = m ((c.tc : Thread Cert.AddLnRefIdeal.nD Cert.AddLnRefIdeal.τ).loc Cert.AddLnRefIdeal.main_arg0)
      ∧ r.2.mem ((c.tc : Thread Cert.AddLnRefIdeal.nD Cert.AddLnRefIdeal.τ).loc Cert.AddLnRefIdeal.main_arg1) = m ((c.tc : Thread Cert.AddLnRefIdeal.nD Cert.AddLnRefIdeal.τ).loc Cert.AddLnRefIdeal.main_arg1)
      ∧ r.2.mem ((c.tc : Thread Cert.AddLnRefIdeal.nD Cert.AddLnRefIdeal.τ).loc Cert.AddLnRefIdeal.main_arg2) = m ((c.tc : Thread Cert.AddLnRefIdeal.nD Cert.AddLnRefIdeal.τ).loc Cert.AddLnRefIdeal.main_arg2)
      ∧ r.2.mem ((c.tc : Thread Cert.AddLnRefIdeal.nD Cert.AddLnRefIdeal.τ).loc Cert.AddLnRefIdeal.main_arg3) = m ((c.tc : Thread Cert.AddLnRefIdeal.nD Cert.AddLnRefIdeal.τ).loc Cert.AddLnRefIdeal.main_arg3))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1))
      ∧ r.2.sem = fun _ => 0)

def quiescent_RouterRefIdeal [hRouterRefIdeal : Cert.RouterRefIdeal.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1))
      ∧ r.2.sem = fun _ => 0)

def quiescent_Experts [hExperts : Cert.Experts.Facts] [hPre_experts_named : Cert.Pre_experts_named.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_experts_named : Cert.Pre_experts_named.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def quiescent_ExpertsRefIdeal_pre_experts_named [hExpertsRefIdeal : Cert.ExpertsRefIdeal.Facts] [hPre_experts_named : Cert.Pre_experts_named.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_experts_named m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def quiescent_Cmp [hCmp : Cert.Cmp.Facts] : Prop :=
  ∀ (m : (ℓ : Loc Cert.Cmp.nD Cert.Cmp.τ Cert.Cmp.sig) → Buf (Elt Bits) ℓ) (g : Dev Cert.Cmp.nD → PrngReg), Pre_Cmp m →
    θ_run (Cert.Cmp.defs (F := Bits)) (onTc (τ := Cert.Cmp.τ) (Cert.Cmp.main (F := Bits))) ⟨m, fun _ => 0, g⟩ (fun r => (∀ c : Dev Cert.Cmp.nD,
      r.2.mem ((c.tc : Thread Cert.Cmp.nD Cert.Cmp.τ).loc Cert.Cmp.main_arg0) = m ((c.tc : Thread Cert.Cmp.nD Cert.Cmp.τ).loc Cert.Cmp.main_arg0)
      ∧ r.2.mem ((c.tc : Thread Cert.Cmp.nD Cert.Cmp.τ).loc Cert.Cmp.main_arg1) = m ((c.tc : Thread Cert.Cmp.nD Cert.Cmp.τ).loc Cert.Cmp.main_arg1)
      ∧ r.2.mem ((c.tc : Thread Cert.Cmp.nD Cert.Cmp.τ).loc Cert.Cmp.main_arg2) = m ((c.tc : Thread Cert.Cmp.nD Cert.Cmp.τ).loc Cert.Cmp.main_arg2)
      ∧ r.2.mem ((c.tc : Thread Cert.Cmp.nD Cert.Cmp.τ).loc Cert.Cmp.main_arg3) = m ((c.tc : Thread Cert.Cmp.nD Cert.Cmp.τ).loc Cert.Cmp.main_arg3)
      ∧ r.2.mem ((c.tc : Thread Cert.Cmp.nD Cert.Cmp.τ).loc Cert.Cmp.main_arg4) = m ((c.tc : Thread Cert.Cmp.nD Cert.Cmp.τ).loc Cert.Cmp.main_arg4)
      ∧ r.2.mem ((c.tc : Thread Cert.Cmp.nD Cert.Cmp.τ).loc Cert.Cmp.main_arg5) = m ((c.tc : Thread Cert.Cmp.nD Cert.Cmp.τ).loc Cert.Cmp.main_arg5)
      ∧ r.2.mem ((c.tc : Thread Cert.Cmp.nD Cert.Cmp.τ).loc Cert.Cmp.main_arg6) = m ((c.tc : Thread Cert.Cmp.nD Cert.Cmp.τ).loc Cert.Cmp.main_arg6))
      ∧ r.2.sem = fun _ => 0)

def quiescent_CmpIdeal [hCmpIdeal : Cert.CmpIdeal.Facts] : Prop :=
  ∀ (m : (ℓ : Loc Cert.CmpIdeal.nD Cert.CmpIdeal.τ Cert.CmpIdeal.sig) → Buf (Elt Ideal) ℓ) (g : Dev Cert.CmpIdeal.nD → PrngReg), Pre_CmpIdeal m →
    θ_run (Cert.CmpIdeal.defs (F := Ideal)) (onTc (τ := Cert.CmpIdeal.τ) (Cert.CmpIdeal.main (F := Ideal))) ⟨m, fun _ => 0, g⟩ (fun r => (∀ c : Dev Cert.CmpIdeal.nD,
      r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
      ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
      ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
      ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3)
      ∧ r.2.mem ((c.tc : Thread Cert.CmpIdeal.nD Cert.CmpIdeal.τ).loc Cert.CmpIdeal.main_arg4) = m ((c.tc : Thread Cert.CmpIdeal.nD Cert.CmpIdeal.τ).loc Cert.CmpIdeal.main_arg4)
      ∧ r.2.mem ((c.tc : Thread Cert.CmpIdeal.nD Cert.CmpIdeal.τ).loc Cert.CmpIdeal.main_arg5) = m ((c.tc : Thread Cert.CmpIdeal.nD Cert.CmpIdeal.τ).loc Cert.CmpIdeal.main_arg5)
      ∧ r.2.mem ((c.tc : Thread Cert.CmpIdeal.nD Cert.CmpIdeal.τ).loc Cert.CmpIdeal.main_arg6) = m ((c.tc : Thread Cert.CmpIdeal.nD Cert.CmpIdeal.τ).loc Cert.CmpIdeal.main_arg6))
      ∧ r.2.sem = fun _ => 0)

def quiescent_CmpRefIdeal [hCmpRefIdeal : Cert.CmpRefIdeal.Facts] : Prop :=
  ∀ (m : (ℓ : Loc Cert.CmpRefIdeal.nD Cert.CmpRefIdeal.τ Cert.CmpRefIdeal.sig) → Buf (Elt Ideal) ℓ) (g : Dev Cert.CmpRefIdeal.nD → PrngReg), Pre_CmpRefIdeal m →
    θ_run (Cert.CmpRefIdeal.defs (F := Ideal)) (onTc (τ := Cert.CmpRefIdeal.τ) (Cert.CmpRefIdeal.main (F := Ideal))) ⟨m, fun _ => 0, g⟩ (fun r => (∀ c : Dev Cert.CmpRefIdeal.nD,
      r.2.mem ((c.tc : Thread Cert.CmpRefIdeal.nD Cert.CmpRefIdeal.τ).loc Cert.CmpRefIdeal.main_arg0) = m ((c.tc : Thread Cert.CmpRefIdeal.nD Cert.CmpRefIdeal.τ).loc Cert.CmpRefIdeal.main_arg0)
      ∧ r.2.mem ((c.tc : Thread Cert.CmpRefIdeal.nD Cert.CmpRefIdeal.τ).loc Cert.CmpRefIdeal.main_arg1) = m ((c.tc : Thread Cert.CmpRefIdeal.nD Cert.CmpRefIdeal.τ).loc Cert.CmpRefIdeal.main_arg1)
      ∧ r.2.mem ((c.tc : Thread Cert.CmpRefIdeal.nD Cert.CmpRefIdeal.τ).loc Cert.CmpRefIdeal.main_arg2) = m ((c.tc : Thread Cert.CmpRefIdeal.nD Cert.CmpRefIdeal.τ).loc Cert.CmpRefIdeal.main_arg2)
      ∧ r.2.mem ((c.tc : Thread Cert.CmpRefIdeal.nD Cert.CmpRefIdeal.τ).loc Cert.CmpRefIdeal.main_arg3) = m ((c.tc : Thread Cert.CmpRefIdeal.nD Cert.CmpRefIdeal.τ).loc Cert.CmpRefIdeal.main_arg3)
      ∧ r.2.mem ((c.tc : Thread Cert.CmpRefIdeal.nD Cert.CmpRefIdeal.τ).loc Cert.CmpRefIdeal.main_arg4) = m ((c.tc : Thread Cert.CmpRefIdeal.nD Cert.CmpRefIdeal.τ).loc Cert.CmpRefIdeal.main_arg4)
      ∧ r.2.mem ((c.tc : Thread Cert.CmpRefIdeal.nD Cert.CmpRefIdeal.τ).loc Cert.CmpRefIdeal.main_arg5) = m ((c.tc : Thread Cert.CmpRefIdeal.nD Cert.CmpRefIdeal.τ).loc Cert.CmpRefIdeal.main_arg5)
      ∧ r.2.mem ((c.tc : Thread Cert.CmpRefIdeal.nD Cert.CmpRefIdeal.τ).loc Cert.CmpRefIdeal.main_arg6) = m ((c.tc : Thread Cert.CmpRefIdeal.nD Cert.CmpRefIdeal.τ).loc Cert.CmpRefIdeal.main_arg6))
      ∧ r.2.sem = fun _ => 0)

def quiescent_Nsa [hNsa : Cert.Nsa.Facts] : Prop :=
  ∀ (m : (ℓ : Loc Cert.Nsa.nD Cert.Nsa.τ Cert.Nsa.sig) → Buf (Elt Bits) ℓ) (g : Dev Cert.Nsa.nD → PrngReg), Pre_Nsa m →
    θ_run (Cert.Nsa.defs (F := Bits)) (onTc (τ := Cert.Nsa.τ) (Cert.Nsa.main (F := Bits))) ⟨m, fun _ => 0, g⟩ (fun r => (∀ c : Dev Cert.Nsa.nD,
      r.2.mem ((c.tc : Thread Cert.Nsa.nD Cert.Nsa.τ).loc Cert.Nsa.main_arg0) = m ((c.tc : Thread Cert.Nsa.nD Cert.Nsa.τ).loc Cert.Nsa.main_arg0)
      ∧ r.2.mem ((c.tc : Thread Cert.Nsa.nD Cert.Nsa.τ).loc Cert.Nsa.main_arg1) = m ((c.tc : Thread Cert.Nsa.nD Cert.Nsa.τ).loc Cert.Nsa.main_arg1)
      ∧ r.2.mem ((c.tc : Thread Cert.Nsa.nD Cert.Nsa.τ).loc Cert.Nsa.main_arg2) = m ((c.tc : Thread Cert.Nsa.nD Cert.Nsa.τ).loc Cert.Nsa.main_arg2)
      ∧ r.2.mem ((c.tc : Thread Cert.Nsa.nD Cert.Nsa.τ).loc Cert.Nsa.main_arg3) = m ((c.tc : Thread Cert.Nsa.nD Cert.Nsa.τ).loc Cert.Nsa.main_arg3))
      ∧ r.2.sem = fun _ => 0)

def quiescent_NsaIdeal [hNsaIdeal : Cert.NsaIdeal.Facts] : Prop :=
  ∀ (m : (ℓ : Loc Cert.NsaIdeal.nD Cert.NsaIdeal.τ Cert.NsaIdeal.sig) → Buf (Elt Ideal) ℓ) (g : Dev Cert.NsaIdeal.nD → PrngReg), Pre_NsaIdeal m →
    θ_run (Cert.NsaIdeal.defs (F := Ideal)) (onTc (τ := Cert.NsaIdeal.τ) (Cert.NsaIdeal.main (F := Ideal))) ⟨m, fun _ => 0, g⟩ (fun r => (∀ c : Dev Cert.NsaIdeal.nD,
      r.2.mem ((c.tc : Thread Cert.NsaIdeal.nD Cert.NsaIdeal.τ).loc Cert.NsaIdeal.main_arg0) = m ((c.tc : Thread Cert.NsaIdeal.nD Cert.NsaIdeal.τ).loc Cert.NsaIdeal.main_arg0)
      ∧ r.2.mem ((c.tc : Thread Cert.NsaIdeal.nD Cert.NsaIdeal.τ).loc Cert.NsaIdeal.main_arg1) = m ((c.tc : Thread Cert.NsaIdeal.nD Cert.NsaIdeal.τ).loc Cert.NsaIdeal.main_arg1)
      ∧ r.2.mem ((c.tc : Thread Cert.NsaIdeal.nD Cert.NsaIdeal.τ).loc Cert.NsaIdeal.main_arg2) = m ((c.tc : Thread Cert.NsaIdeal.nD Cert.NsaIdeal.τ).loc Cert.NsaIdeal.main_arg2)
      ∧ r.2.mem ((c.tc : Thread Cert.NsaIdeal.nD Cert.NsaIdeal.τ).loc Cert.NsaIdeal.main_arg3) = m ((c.tc : Thread Cert.NsaIdeal.nD Cert.NsaIdeal.τ).loc Cert.NsaIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v4)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v4) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v3) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_SsmIn_SsmInIdeal : Prop :=
  True

def algebraic_SsmInIdeal_SsmInRefIdeal [hSsmInIdeal : Cert.SsmInIdeal.Facts] [hSsmInRefIdeal : Cert.SsmInRefIdeal.Facts] : Prop :=
  ∀ (m : (ℓ : Loc Cert.SsmInIdeal.nD Cert.SsmInIdeal.τ Cert.SsmInIdeal.sig) → Buf (Elt Ideal) ℓ) (g : Dev Cert.SsmInIdeal.nD → PrngReg)
    (m' : (ℓ : Loc Cert.SsmInRefIdeal.nD Cert.SsmInRefIdeal.τ Cert.SsmInRefIdeal.sig) → Buf (Elt Ideal) ℓ) (g' : Dev Cert.SsmInRefIdeal.nD → PrngReg), Pre_SsmInIdeal m →
    (∀ c : Dev Cert.SsmInIdeal.nD,
      m' ((c.tc : Thread Cert.SsmInRefIdeal.nD Cert.SsmInRefIdeal.τ).loc Cert.SsmInRefIdeal.main_arg0) = m ((c.tc : Thread Cert.SsmInIdeal.nD Cert.SsmInIdeal.τ).loc Cert.SsmInIdeal.main_arg0)
      ∧ m' ((c.tc : Thread Cert.SsmInRefIdeal.nD Cert.SsmInRefIdeal.τ).loc Cert.SsmInRefIdeal.main_arg1) = m ((c.tc : Thread Cert.SsmInIdeal.nD Cert.SsmInIdeal.τ).loc Cert.SsmInIdeal.main_arg1)) →
    ∃ (v0 : (c : Dev Cert.SsmInIdeal.nD) → Buf (Elt Ideal) ((c.tc : Thread Cert.SsmInIdeal.nD Cert.SsmInIdeal.τ).loc Cert.SsmInIdeal.main_v5)),
      θ_run (Cert.SsmInIdeal.defs (F := Ideal)) (onTc (τ := Cert.SsmInIdeal.τ) (Cert.SsmInIdeal.main (F := Ideal))) ⟨m, fun _ => 0, g⟩ (fun r => ∀ c : Dev Cert.SsmInIdeal.nD,
          r.2.mem ((c.tc : Thread Cert.SsmInIdeal.nD Cert.SsmInIdeal.τ).loc Cert.SsmInIdeal.main_v5) = v0 c
          ∧ r.2.mem ((c.tc : Thread Cert.SsmInIdeal.nD Cert.SsmInIdeal.τ).loc Cert.SsmInIdeal.main_arg0) = m ((c.tc : Thread Cert.SsmInIdeal.nD Cert.SsmInIdeal.τ).loc Cert.SsmInIdeal.main_arg0)
          ∧ r.2.mem ((c.tc : Thread Cert.SsmInIdeal.nD Cert.SsmInIdeal.τ).loc Cert.SsmInIdeal.main_arg1) = m ((c.tc : Thread Cert.SsmInIdeal.nD Cert.SsmInIdeal.τ).loc Cert.SsmInIdeal.main_arg1))
      ∧ θ_run (Cert.SsmInRefIdeal.defs (F := Ideal)) (onTc (τ := Cert.SsmInRefIdeal.τ) (Cert.SsmInRefIdeal.main (F := Ideal))) ⟨m', fun _ => 0, g'⟩ (fun r => ∀ c : Dev Cert.SsmInRefIdeal.nD,
          r.2.mem ((c.tc : Thread Cert.SsmInRefIdeal.nD Cert.SsmInRefIdeal.τ).loc Cert.SsmInRefIdeal.main_v3) = v0 c
          ∧ r.2.mem ((c.tc : Thread Cert.SsmInRefIdeal.nD Cert.SsmInRefIdeal.τ).loc Cert.SsmInRefIdeal.main_arg0) = m' ((c.tc : Thread Cert.SsmInRefIdeal.nD Cert.SsmInRefIdeal.τ).loc Cert.SsmInRefIdeal.main_arg0)
          ∧ r.2.mem ((c.tc : Thread Cert.SsmInRefIdeal.nD Cert.SsmInRefIdeal.τ).loc Cert.SsmInRefIdeal.main_arg1) = m' ((c.tc : Thread Cert.SsmInRefIdeal.nD Cert.SsmInRefIdeal.τ).loc Cert.SsmInRefIdeal.main_arg1))

def preserves_NsaA_NsaAIdeal : Prop :=
  True

def algebraic_NsaAIdeal_NsaARefIdeal [hNsaAIdeal : Cert.NsaAIdeal.Facts] [hNsaARefIdeal : Cert.NsaARefIdeal.Facts] : Prop :=
  ∀ (m : (ℓ : Loc Cert.NsaAIdeal.nD Cert.NsaAIdeal.τ Cert.NsaAIdeal.sig) → Buf (Elt Ideal) ℓ) (g : Dev Cert.NsaAIdeal.nD → PrngReg)
    (m' : (ℓ : Loc Cert.NsaARefIdeal.nD Cert.NsaARefIdeal.τ Cert.NsaARefIdeal.sig) → Buf (Elt Ideal) ℓ) (g' : Dev Cert.NsaARefIdeal.nD → PrngReg), Pre_NsaAIdeal m →
    (∀ c : Dev Cert.NsaAIdeal.nD,
      m' ((c.tc : Thread Cert.NsaARefIdeal.nD Cert.NsaARefIdeal.τ).loc Cert.NsaARefIdeal.main_arg0) = m ((c.tc : Thread Cert.NsaAIdeal.nD Cert.NsaAIdeal.τ).loc Cert.NsaAIdeal.main_arg0)
      ∧ m' ((c.tc : Thread Cert.NsaARefIdeal.nD Cert.NsaARefIdeal.τ).loc Cert.NsaARefIdeal.main_arg1) = m ((c.tc : Thread Cert.NsaAIdeal.nD Cert.NsaAIdeal.τ).loc Cert.NsaAIdeal.main_arg1)) →
    ∃ (v0 : (c : Dev Cert.NsaAIdeal.nD) → Buf (Elt Ideal) ((c.tc : Thread Cert.NsaAIdeal.nD Cert.NsaAIdeal.τ).loc Cert.NsaAIdeal.main_v5)),
      θ_run (Cert.NsaAIdeal.defs (F := Ideal)) (onTc (τ := Cert.NsaAIdeal.τ) (Cert.NsaAIdeal.main (F := Ideal))) ⟨m, fun _ => 0, g⟩ (fun r => ∀ c : Dev Cert.NsaAIdeal.nD,
          r.2.mem ((c.tc : Thread Cert.NsaAIdeal.nD Cert.NsaAIdeal.τ).loc Cert.NsaAIdeal.main_v5) = v0 c
          ∧ r.2.mem ((c.tc : Thread Cert.NsaAIdeal.nD Cert.NsaAIdeal.τ).loc Cert.NsaAIdeal.main_arg0) = m ((c.tc : Thread Cert.NsaAIdeal.nD Cert.NsaAIdeal.τ).loc Cert.NsaAIdeal.main_arg0)
          ∧ r.2.mem ((c.tc : Thread Cert.NsaAIdeal.nD Cert.NsaAIdeal.τ).loc Cert.NsaAIdeal.main_arg1) = m ((c.tc : Thread Cert.NsaAIdeal.nD Cert.NsaAIdeal.τ).loc Cert.NsaAIdeal.main_arg1))
      ∧ θ_run (Cert.NsaARefIdeal.defs (F := Ideal)) (onTc (τ := Cert.NsaARefIdeal.τ) (Cert.NsaARefIdeal.main (F := Ideal))) ⟨m', fun _ => 0, g'⟩ (fun r => ∀ c : Dev Cert.NsaARefIdeal.nD,
          r.2.mem ((c.tc : Thread Cert.NsaARefIdeal.nD Cert.NsaARefIdeal.τ).loc Cert.NsaARefIdeal.main_v5) = v0 c
          ∧ r.2.mem ((c.tc : Thread Cert.NsaARefIdeal.nD Cert.NsaARefIdeal.τ).loc Cert.NsaARefIdeal.main_arg0) = m' ((c.tc : Thread Cert.NsaARefIdeal.nD Cert.NsaARefIdeal.τ).loc Cert.NsaARefIdeal.main_arg0)
          ∧ r.2.mem ((c.tc : Thread Cert.NsaARefIdeal.nD Cert.NsaARefIdeal.τ).loc Cert.NsaARefIdeal.main_arg1) = m' ((c.tc : Thread Cert.NsaARefIdeal.nD Cert.NsaARefIdeal.τ).loc Cert.NsaARefIdeal.main_arg1))

def preserves_NsaB_NsaBIdeal : Prop :=
  True

def algebraic_NsaBIdeal_NsaBRefIdeal [hNsaBIdeal : Cert.NsaBIdeal.Facts] [hNsaBRefIdeal : Cert.NsaBRefIdeal.Facts] : Prop :=
  ∀ (m : (ℓ : Loc Cert.NsaBIdeal.nD Cert.NsaBIdeal.τ Cert.NsaBIdeal.sig) → Buf (Elt Ideal) ℓ) (g : Dev Cert.NsaBIdeal.nD → PrngReg)
    (m' : (ℓ : Loc Cert.NsaBRefIdeal.nD Cert.NsaBRefIdeal.τ Cert.NsaBRefIdeal.sig) → Buf (Elt Ideal) ℓ) (g' : Dev Cert.NsaBRefIdeal.nD → PrngReg), Pre_NsaBIdeal m →
    (∀ c : Dev Cert.NsaBIdeal.nD,
      m' ((c.tc : Thread Cert.NsaBRefIdeal.nD Cert.NsaBRefIdeal.τ).loc Cert.NsaBRefIdeal.main_arg0) = m ((c.tc : Thread Cert.NsaBIdeal.nD Cert.NsaBIdeal.τ).loc Cert.NsaBIdeal.main_arg0)
      ∧ m' ((c.tc : Thread Cert.NsaBRefIdeal.nD Cert.NsaBRefIdeal.τ).loc Cert.NsaBRefIdeal.main_arg1) = m ((c.tc : Thread Cert.NsaBIdeal.nD Cert.NsaBIdeal.τ).loc Cert.NsaBIdeal.main_arg1)) →
    ∃ (v0 : (c : Dev Cert.NsaBIdeal.nD) → Buf (Elt Ideal) ((c.tc : Thread Cert.NsaBIdeal.nD Cert.NsaBIdeal.τ).loc Cert.NsaBIdeal.main_v8)),
      θ_run (Cert.NsaBIdeal.defs (F := Ideal)) (onTc (τ := Cert.NsaBIdeal.τ) (Cert.NsaBIdeal.main (F := Ideal))) ⟨m, fun _ => 0, g⟩ (fun r => ∀ c : Dev Cert.NsaBIdeal.nD,
          r.2.mem ((c.tc : Thread Cert.NsaBIdeal.nD Cert.NsaBIdeal.τ).loc Cert.NsaBIdeal.main_v8) = v0 c
          ∧ r.2.mem ((c.tc : Thread Cert.NsaBIdeal.nD Cert.NsaBIdeal.τ).loc Cert.NsaBIdeal.main_arg0) = m ((c.tc : Thread Cert.NsaBIdeal.nD Cert.NsaBIdeal.τ).loc Cert.NsaBIdeal.main_arg0)
          ∧ r.2.mem ((c.tc : Thread Cert.NsaBIdeal.nD Cert.NsaBIdeal.τ).loc Cert.NsaBIdeal.main_arg1) = m ((c.tc : Thread Cert.NsaBIdeal.nD Cert.NsaBIdeal.τ).loc Cert.NsaBIdeal.main_arg1))
      ∧ θ_run (Cert.NsaBRefIdeal.defs (F := Ideal)) (onTc (τ := Cert.NsaBRefIdeal.τ) (Cert.NsaBRefIdeal.main (F := Ideal))) ⟨m', fun _ => 0, g'⟩ (fun r => ∀ c : Dev Cert.NsaBRefIdeal.nD,
          r.2.mem ((c.tc : Thread Cert.NsaBRefIdeal.nD Cert.NsaBRefIdeal.τ).loc Cert.NsaBRefIdeal.main_v7) = v0 c
          ∧ r.2.mem ((c.tc : Thread Cert.NsaBRefIdeal.nD Cert.NsaBRefIdeal.τ).loc Cert.NsaBRefIdeal.main_arg0) = m' ((c.tc : Thread Cert.NsaBRefIdeal.nD Cert.NsaBRefIdeal.τ).loc Cert.NsaBRefIdeal.main_arg0)
          ∧ r.2.mem ((c.tc : Thread Cert.NsaBRefIdeal.nD Cert.NsaBRefIdeal.τ).loc Cert.NsaBRefIdeal.main_arg1) = m' ((c.tc : Thread Cert.NsaBRefIdeal.nD Cert.NsaBRefIdeal.τ).loc Cert.NsaBRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v3_0)) (v1 : (c : Dev Cert.OutIdeal.nD) → Buf (Elt Ideal) ((c.tc : Thread Cert.OutIdeal.nD Cert.OutIdeal.τ).loc Cert.OutIdeal.main_v3_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3_0) = v0 c
          ∧ r.2.mem ((c.tc : Thread Cert.OutIdeal.nD Cert.OutIdeal.τ).loc Cert.OutIdeal.main_v3_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v28) = v0 c
          ∧ r.2.mem ((c.tc : Thread Cert.OutRefIdeal.nD Cert.OutRefIdeal.τ).loc Cert.OutRefIdeal.main_v29) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_AddLn_AddLnIdeal : Prop :=
  True

def algebraic_AddLnIdeal_AddLnRefIdeal [hAddLnIdeal : Cert.AddLnIdeal.Facts] [hAddLnRefIdeal : Cert.AddLnRefIdeal.Facts] : Prop :=
  ∀ (m : (ℓ : Loc Cert.AddLnIdeal.nD Cert.AddLnIdeal.τ Cert.AddLnIdeal.sig) → Buf (Elt Ideal) ℓ) (g : Dev Cert.AddLnIdeal.nD → PrngReg)
    (m' : (ℓ : Loc Cert.AddLnRefIdeal.nD Cert.AddLnRefIdeal.τ Cert.AddLnRefIdeal.sig) → Buf (Elt Ideal) ℓ) (g' : Dev Cert.AddLnRefIdeal.nD → PrngReg), Pre_AddLnIdeal m →
    (∀ c : Dev Cert.AddLnIdeal.nD,
      m' ((c.tc : Thread Cert.AddLnRefIdeal.nD Cert.AddLnRefIdeal.τ).loc Cert.AddLnRefIdeal.main_arg0) = m ((c.tc : Thread Cert.AddLnIdeal.nD Cert.AddLnIdeal.τ).loc Cert.AddLnIdeal.main_arg0)
      ∧ m' ((c.tc : Thread Cert.AddLnRefIdeal.nD Cert.AddLnRefIdeal.τ).loc Cert.AddLnRefIdeal.main_arg1) = m ((c.tc : Thread Cert.AddLnIdeal.nD Cert.AddLnIdeal.τ).loc Cert.AddLnIdeal.main_arg1)
      ∧ m' ((c.tc : Thread Cert.AddLnRefIdeal.nD Cert.AddLnRefIdeal.τ).loc Cert.AddLnRefIdeal.main_arg2) = m ((c.tc : Thread Cert.AddLnIdeal.nD Cert.AddLnIdeal.τ).loc Cert.AddLnIdeal.main_arg2)
      ∧ m' ((c.tc : Thread Cert.AddLnRefIdeal.nD Cert.AddLnRefIdeal.τ).loc Cert.AddLnRefIdeal.main_arg3) = m ((c.tc : Thread Cert.AddLnIdeal.nD Cert.AddLnIdeal.τ).loc Cert.AddLnIdeal.main_arg3)) →
    ∃ (v0 : (c : Dev Cert.AddLnIdeal.nD) → Buf (Elt Ideal) ((c.tc : Thread Cert.AddLnIdeal.nD Cert.AddLnIdeal.τ).loc Cert.AddLnIdeal.main_v2_0)) (v1 : (c : Dev Cert.AddLnIdeal.nD) → Buf (Elt Ideal) ((c.tc : Thread Cert.AddLnIdeal.nD Cert.AddLnIdeal.τ).loc Cert.AddLnIdeal.main_v2_1)),
      θ_run (Cert.AddLnIdeal.defs (F := Ideal)) (onTc (τ := Cert.AddLnIdeal.τ) (Cert.AddLnIdeal.main (F := Ideal))) ⟨m, fun _ => 0, g⟩ (fun r => ∀ c : Dev Cert.AddLnIdeal.nD,
          r.2.mem ((c.tc : Thread Cert.AddLnIdeal.nD Cert.AddLnIdeal.τ).loc Cert.AddLnIdeal.main_v2_0) = v0 c
          ∧ r.2.mem ((c.tc : Thread Cert.AddLnIdeal.nD Cert.AddLnIdeal.τ).loc Cert.AddLnIdeal.main_v2_1) = v1 c
          ∧ r.2.mem ((c.tc : Thread Cert.AddLnIdeal.nD Cert.AddLnIdeal.τ).loc Cert.AddLnIdeal.main_arg0) = m ((c.tc : Thread Cert.AddLnIdeal.nD Cert.AddLnIdeal.τ).loc Cert.AddLnIdeal.main_arg0)
          ∧ r.2.mem ((c.tc : Thread Cert.AddLnIdeal.nD Cert.AddLnIdeal.τ).loc Cert.AddLnIdeal.main_arg1) = m ((c.tc : Thread Cert.AddLnIdeal.nD Cert.AddLnIdeal.τ).loc Cert.AddLnIdeal.main_arg1)
          ∧ r.2.mem ((c.tc : Thread Cert.AddLnIdeal.nD Cert.AddLnIdeal.τ).loc Cert.AddLnIdeal.main_arg2) = m ((c.tc : Thread Cert.AddLnIdeal.nD Cert.AddLnIdeal.τ).loc Cert.AddLnIdeal.main_arg2)
          ∧ r.2.mem ((c.tc : Thread Cert.AddLnIdeal.nD Cert.AddLnIdeal.τ).loc Cert.AddLnIdeal.main_arg3) = m ((c.tc : Thread Cert.AddLnIdeal.nD Cert.AddLnIdeal.τ).loc Cert.AddLnIdeal.main_arg3))
      ∧ θ_run (Cert.AddLnRefIdeal.defs (F := Ideal)) (onTc (τ := Cert.AddLnRefIdeal.τ) (Cert.AddLnRefIdeal.main (F := Ideal))) ⟨m', fun _ => 0, g'⟩ (fun r => ∀ c : Dev Cert.AddLnRefIdeal.nD,
          r.2.mem ((c.tc : Thread Cert.AddLnRefIdeal.nD Cert.AddLnRefIdeal.τ).loc Cert.AddLnRefIdeal.main_v26) = v0 c
          ∧ r.2.mem ((c.tc : Thread Cert.AddLnRefIdeal.nD Cert.AddLnRefIdeal.τ).loc Cert.AddLnRefIdeal.main_v27) = v1 c
          ∧ r.2.mem ((c.tc : Thread Cert.AddLnRefIdeal.nD Cert.AddLnRefIdeal.τ).loc Cert.AddLnRefIdeal.main_arg0) = m' ((c.tc : Thread Cert.AddLnRefIdeal.nD Cert.AddLnRefIdeal.τ).loc Cert.AddLnRefIdeal.main_arg0)
          ∧ r.2.mem ((c.tc : Thread Cert.AddLnRefIdeal.nD Cert.AddLnRefIdeal.τ).loc Cert.AddLnRefIdeal.main_arg1) = m' ((c.tc : Thread Cert.AddLnRefIdeal.nD Cert.AddLnRefIdeal.τ).loc Cert.AddLnRefIdeal.main_arg1)
          ∧ r.2.mem ((c.tc : Thread Cert.AddLnRefIdeal.nD Cert.AddLnRefIdeal.τ).loc Cert.AddLnRefIdeal.main_arg2) = m' ((c.tc : Thread Cert.AddLnRefIdeal.nD Cert.AddLnRefIdeal.τ).loc Cert.AddLnRefIdeal.main_arg2)
          ∧ r.2.mem ((c.tc : Thread Cert.AddLnRefIdeal.nD Cert.AddLnRefIdeal.τ).loc Cert.AddLnRefIdeal.main_arg3) = m' ((c.tc : Thread Cert.AddLnRefIdeal.nD Cert.AddLnRefIdeal.τ).loc Cert.AddLnRefIdeal.main_arg3))

def preserves_Router_RouterIdeal : Prop :=
  True

def algebraic_RouterIdeal_RouterRefIdeal [hRouterIdeal : Cert.RouterIdeal.Facts] [hRouterRefIdeal : Cert.RouterRefIdeal.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterRefIdeal.nD Cert.RouterRefIdeal.τ Cert.RouterRefIdeal.sig) → Buf (Elt Ideal) ℓ) (g' : Dev Cert.RouterRefIdeal.nD → PrngReg), Pre_RouterIdeal m →
    (∀ c : Dev Cert.RouterIdeal.nD,
      m' ((c.tc : Thread Cert.RouterRefIdeal.nD Cert.RouterRefIdeal.τ).loc Cert.RouterRefIdeal.main_arg0) = m ((c.tc : Thread Cert.RouterIdeal.nD Cert.RouterIdeal.τ).loc Cert.RouterIdeal.main_arg0)
      ∧ m' ((c.tc : Thread Cert.RouterRefIdeal.nD Cert.RouterRefIdeal.τ).loc Cert.RouterRefIdeal.main_arg1) = m ((c.tc : Thread Cert.RouterIdeal.nD Cert.RouterIdeal.τ).loc Cert.RouterIdeal.main_arg1)) →
    ∃ (v0 : (c : Dev Cert.RouterIdeal.nD) → Buf (Elt Ideal) ((c.tc : Thread Cert.RouterIdeal.nD Cert.RouterIdeal.τ).loc Cert.RouterIdeal.main_v0)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v0) = v0 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1))
      ∧ θ_run (Cert.RouterRefIdeal.defs (F := Ideal)) (onTc (τ := Cert.RouterRefIdeal.τ) (Cert.RouterRefIdeal.main (F := Ideal))) ⟨m', fun _ => 0, g'⟩ (fun r => ∀ c : Dev Cert.RouterRefIdeal.nD,
          r.2.mem ((c.tc : Thread Cert.RouterRefIdeal.nD Cert.RouterRefIdeal.τ).loc Cert.RouterRefIdeal.main_v0) = v0 c
          ∧ r.2.mem ((c.tc : Thread Cert.RouterRefIdeal.nD Cert.RouterRefIdeal.τ).loc Cert.RouterRefIdeal.main_arg0) = m' ((c.tc : Thread Cert.RouterRefIdeal.nD Cert.RouterRefIdeal.τ).loc Cert.RouterRefIdeal.main_arg0)
          ∧ r.2.mem ((c.tc : Thread Cert.RouterRefIdeal.nD Cert.RouterRefIdeal.τ).loc Cert.RouterRefIdeal.main_arg1) = m' ((c.tc : Thread Cert.RouterRefIdeal.nD Cert.RouterRefIdeal.τ).loc Cert.RouterRefIdeal.main_arg1))

def preserves_Experts_ExpertsIdeal : Prop :=
  True

def algebraic_ExpertsIdeal_ExpertsRefIdeal [hExpertsIdeal : Cert.ExpertsIdeal.Facts] [hExpertsRefIdeal : Cert.ExpertsRefIdeal.Facts] [hPre_experts_named : Cert.Pre_experts_named.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v3)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v3) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v37) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6))

def preserves_Cmp_CmpIdeal : Prop :=
  True

def algebraic_CmpIdeal_CmpRefIdeal [hCmpIdeal : Cert.CmpIdeal.Facts] [hCmpRefIdeal : Cert.CmpRefIdeal.Facts] : Prop :=
  ∀ (m : (ℓ : Loc Cert.CmpIdeal.nD Cert.CmpIdeal.τ Cert.CmpIdeal.sig) → Buf (Elt Ideal) ℓ) (g : Dev Cert.CmpIdeal.nD → PrngReg)
    (m' : (ℓ : Loc Cert.CmpRefIdeal.nD Cert.CmpRefIdeal.τ Cert.CmpRefIdeal.sig) → Buf (Elt Ideal) ℓ) (g' : Dev Cert.CmpRefIdeal.nD → PrngReg), Pre_CmpIdeal m →
    (∀ c : Dev Cert.CmpIdeal.nD,
      m' ((c.tc : Thread Cert.CmpRefIdeal.nD Cert.CmpRefIdeal.τ).loc Cert.CmpRefIdeal.main_arg0) = m ((c.tc : Thread Cert.CmpIdeal.nD Cert.CmpIdeal.τ).loc Cert.CmpIdeal.main_arg0)
      ∧ m' ((c.tc : Thread Cert.CmpRefIdeal.nD Cert.CmpRefIdeal.τ).loc Cert.CmpRefIdeal.main_arg1) = m ((c.tc : Thread Cert.CmpIdeal.nD Cert.CmpIdeal.τ).loc Cert.CmpIdeal.main_arg1)
      ∧ m' ((c.tc : Thread Cert.CmpRefIdeal.nD Cert.CmpRefIdeal.τ).loc Cert.CmpRefIdeal.main_arg2) = m ((c.tc : Thread Cert.CmpIdeal.nD Cert.CmpIdeal.τ).loc Cert.CmpIdeal.main_arg2)
      ∧ m' ((c.tc : Thread Cert.CmpRefIdeal.nD Cert.CmpRefIdeal.τ).loc Cert.CmpRefIdeal.main_arg3) = m ((c.tc : Thread Cert.CmpIdeal.nD Cert.CmpIdeal.τ).loc Cert.CmpIdeal.main_arg3)
      ∧ m' ((c.tc : Thread Cert.CmpRefIdeal.nD Cert.CmpRefIdeal.τ).loc Cert.CmpRefIdeal.main_arg4) = m ((c.tc : Thread Cert.CmpIdeal.nD Cert.CmpIdeal.τ).loc Cert.CmpIdeal.main_arg4)
      ∧ m' ((c.tc : Thread Cert.CmpRefIdeal.nD Cert.CmpRefIdeal.τ).loc Cert.CmpRefIdeal.main_arg5) = m ((c.tc : Thread Cert.CmpIdeal.nD Cert.CmpIdeal.τ).loc Cert.CmpIdeal.main_arg5)
      ∧ m' ((c.tc : Thread Cert.CmpRefIdeal.nD Cert.CmpRefIdeal.τ).loc Cert.CmpRefIdeal.main_arg6) = m ((c.tc : Thread Cert.CmpIdeal.nD Cert.CmpIdeal.τ).loc Cert.CmpIdeal.main_arg6)) →
    ∃ (v0 : (c : Dev Cert.CmpIdeal.nD) → Buf (Elt Ideal) ((c.tc : Thread Cert.CmpIdeal.nD Cert.CmpIdeal.τ).loc Cert.CmpIdeal.main_v7_0)) (v1 : (c : Dev Cert.CmpIdeal.nD) → Buf (Elt Ideal) ((c.tc : Thread Cert.CmpIdeal.nD Cert.CmpIdeal.τ).loc Cert.CmpIdeal.main_v7_1)),
      θ_run (Cert.CmpIdeal.defs (F := Ideal)) (onTc (τ := Cert.CmpIdeal.τ) (Cert.CmpIdeal.main (F := Ideal))) ⟨m, fun _ => 0, g⟩ (fun r => ∀ c : Dev Cert.CmpIdeal.nD,
          r.2.mem ((c.tc : Thread Cert.CmpIdeal.nD Cert.CmpIdeal.τ).loc Cert.CmpIdeal.main_v7_0) = v0 c
          ∧ r.2.mem ((c.tc : Thread Cert.CmpIdeal.nD Cert.CmpIdeal.τ).loc Cert.CmpIdeal.main_v7_1) = v1 c
          ∧ r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
          ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
          ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
          ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3)
          ∧ r.2.mem ((c.tc : Thread Cert.CmpIdeal.nD Cert.CmpIdeal.τ).loc Cert.CmpIdeal.main_arg4) = m ((c.tc : Thread Cert.CmpIdeal.nD Cert.CmpIdeal.τ).loc Cert.CmpIdeal.main_arg4)
          ∧ r.2.mem ((c.tc : Thread Cert.CmpIdeal.nD Cert.CmpIdeal.τ).loc Cert.CmpIdeal.main_arg5) = m ((c.tc : Thread Cert.CmpIdeal.nD Cert.CmpIdeal.τ).loc Cert.CmpIdeal.main_arg5)
          ∧ r.2.mem ((c.tc : Thread Cert.CmpIdeal.nD Cert.CmpIdeal.τ).loc Cert.CmpIdeal.main_arg6) = m ((c.tc : Thread Cert.CmpIdeal.nD Cert.CmpIdeal.τ).loc Cert.CmpIdeal.main_arg6))
      ∧ θ_run (Cert.CmpRefIdeal.defs (F := Ideal)) (onTc (τ := Cert.CmpRefIdeal.τ) (Cert.CmpRefIdeal.main (F := Ideal))) ⟨m', fun _ => 0, g'⟩ (fun r => ∀ c : Dev Cert.CmpRefIdeal.nD,
          r.2.mem ((c.tc : Thread Cert.CmpRefIdeal.nD Cert.CmpRefIdeal.τ).loc Cert.CmpRefIdeal.main_v41) = v0 c
          ∧ r.2.mem ((c.tc : Thread Cert.CmpRefIdeal.nD Cert.CmpRefIdeal.τ).loc Cert.CmpRefIdeal.main_v74) = v1 c
          ∧ r.2.mem ((c.tc : Thread Cert.CmpRefIdeal.nD Cert.CmpRefIdeal.τ).loc Cert.CmpRefIdeal.main_arg0) = m' ((c.tc : Thread Cert.CmpRefIdeal.nD Cert.CmpRefIdeal.τ).loc Cert.CmpRefIdeal.main_arg0)
          ∧ r.2.mem ((c.tc : Thread Cert.CmpRefIdeal.nD Cert.CmpRefIdeal.τ).loc Cert.CmpRefIdeal.main_arg1) = m' ((c.tc : Thread Cert.CmpRefIdeal.nD Cert.CmpRefIdeal.τ).loc Cert.CmpRefIdeal.main_arg1)
          ∧ r.2.mem ((c.tc : Thread Cert.CmpRefIdeal.nD Cert.CmpRefIdeal.τ).loc Cert.CmpRefIdeal.main_arg2) = m' ((c.tc : Thread Cert.CmpRefIdeal.nD Cert.CmpRefIdeal.τ).loc Cert.CmpRefIdeal.main_arg2)
          ∧ r.2.mem ((c.tc : Thread Cert.CmpRefIdeal.nD Cert.CmpRefIdeal.τ).loc Cert.CmpRefIdeal.main_arg3) = m' ((c.tc : Thread Cert.CmpRefIdeal.nD Cert.CmpRefIdeal.τ).loc Cert.CmpRefIdeal.main_arg3)
          ∧ r.2.mem ((c.tc : Thread Cert.CmpRefIdeal.nD Cert.CmpRefIdeal.τ).loc Cert.CmpRefIdeal.main_arg4) = m' ((c.tc : Thread Cert.CmpRefIdeal.nD Cert.CmpRefIdeal.τ).loc Cert.CmpRefIdeal.main_arg4)
          ∧ r.2.mem ((c.tc : Thread Cert.CmpRefIdeal.nD Cert.CmpRefIdeal.τ).loc Cert.CmpRefIdeal.main_arg5) = m' ((c.tc : Thread Cert.CmpRefIdeal.nD Cert.CmpRefIdeal.τ).loc Cert.CmpRefIdeal.main_arg5)
          ∧ r.2.mem ((c.tc : Thread Cert.CmpRefIdeal.nD Cert.CmpRefIdeal.τ).loc Cert.CmpRefIdeal.main_arg6) = m' ((c.tc : Thread Cert.CmpRefIdeal.nD Cert.CmpRefIdeal.τ).loc Cert.CmpRefIdeal.main_arg6))

def preserves_Nsa_NsaIdeal : Prop :=
  True

def Claim : Prop :=
  ∃ (hKernel : Cert.Kernel.Facts) (hKernelIdeal : Cert.KernelIdeal.Facts) (hReferenceIdeal : Cert.ReferenceIdeal.Facts) (hQkv : Cert.Qkv.Facts) (hQkvIdeal : Cert.QkvIdeal.Facts) (hQkvRefIdeal : Cert.QkvRefIdeal.Facts) (hSsmIn : Cert.SsmIn.Facts) (hSsmInIdeal : Cert.SsmInIdeal.Facts) (hSsmInRefIdeal : Cert.SsmInRefIdeal.Facts) (hNsaA : Cert.NsaA.Facts) (hNsaAIdeal : Cert.NsaAIdeal.Facts) (hNsaARefIdeal : Cert.NsaARefIdeal.Facts) (hNsaB : Cert.NsaB.Facts) (hNsaBIdeal : Cert.NsaBIdeal.Facts) (hNsaBRefIdeal : Cert.NsaBRefIdeal.Facts) (hOut : Cert.Out.Facts) (hOutIdeal : Cert.OutIdeal.Facts) (hOutRefIdeal : Cert.OutRefIdeal.Facts) (hAddLn : Cert.AddLn.Facts) (hAddLnIdeal : Cert.AddLnIdeal.Facts) (hAddLnRefIdeal : Cert.AddLnRefIdeal.Facts) (hRouter : Cert.Router.Facts) (hRouterIdeal : Cert.RouterIdeal.Facts) (hRouterRefIdeal : Cert.RouterRefIdeal.Facts) (hExperts : Cert.Experts.Facts) (hExpertsIdeal : Cert.ExpertsIdeal.Facts) (hExpertsRefIdeal : Cert.ExpertsRefIdeal.Facts) (hCmp : Cert.Cmp.Facts) (hCmpIdeal : Cert.CmpIdeal.Facts) (hCmpRefIdeal : Cert.CmpRefIdeal.Facts) (hNsa : Cert.Nsa.Facts) (hNsaIdeal : Cert.NsaIdeal.Facts) (hPre_finite : Cert.Pre_finite.Facts) (hPre_experts_named : Cert.Pre_experts_named.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Qkv (hQkv := hQkv)
    ∧ quiescent_QkvIdeal (hQkvIdeal := hQkvIdeal)
    ∧ quiescent_QkvRefIdeal (hQkvRefIdeal := hQkvRefIdeal)
    ∧ quiescent_SsmIn (hSsmIn := hSsmIn)
    ∧ quiescent_SsmInIdeal (hSsmInIdeal := hSsmInIdeal)
    ∧ quiescent_SsmInRefIdeal (hSsmInRefIdeal := hSsmInRefIdeal)
    ∧ quiescent_NsaA (hNsaA := hNsaA)
    ∧ quiescent_NsaAIdeal (hNsaAIdeal := hNsaAIdeal)
    ∧ quiescent_NsaARefIdeal (hNsaARefIdeal := hNsaARefIdeal)
    ∧ quiescent_NsaB (hNsaB := hNsaB)
    ∧ quiescent_NsaBIdeal (hNsaBIdeal := hNsaBIdeal)
    ∧ quiescent_NsaBRefIdeal (hNsaBRefIdeal := hNsaBRefIdeal)
    ∧ quiescent_Out (hOut := hOut)
    ∧ quiescent_OutIdeal (hOutIdeal := hOutIdeal)
    ∧ quiescent_OutRefIdeal (hOutRefIdeal := hOutRefIdeal)
    ∧ quiescent_AddLn (hAddLn := hAddLn)
    ∧ quiescent_AddLnIdeal (hAddLnIdeal := hAddLnIdeal)
    ∧ quiescent_AddLnRefIdeal (hAddLnRefIdeal := hAddLnRefIdeal)
    ∧ quiescent_Router (hRouter := hRouter)
    ∧ quiescent_RouterIdeal (hRouterIdeal := hRouterIdeal)
    ∧ quiescent_RouterRefIdeal (hRouterRefIdeal := hRouterRefIdeal)
    ∧ quiescent_Experts (hExperts := hExperts) (hPre_experts_named := hPre_experts_named)
    ∧ quiescent_ExpertsIdeal (hExpertsIdeal := hExpertsIdeal) (hPre_experts_named := hPre_experts_named)
    ∧ quiescent_ExpertsRefIdeal (hExpertsRefIdeal := hExpertsRefIdeal)
    ∧ quiescent_ExpertsRefIdeal_pre_experts_named (hExpertsRefIdeal := hExpertsRefIdeal) (hPre_experts_named := hPre_experts_named)
    ∧ quiescent_Cmp (hCmp := hCmp)
    ∧ quiescent_CmpIdeal (hCmpIdeal := hCmpIdeal)
    ∧ quiescent_CmpRefIdeal (hCmpRefIdeal := hCmpRefIdeal)
    ∧ quiescent_Nsa (hNsa := hNsa)
    ∧ quiescent_NsaIdeal (hNsaIdeal := hNsaIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Qkv_QkvIdeal
    ∧ algebraic_QkvIdeal_QkvRefIdeal (hQkvIdeal := hQkvIdeal) (hQkvRefIdeal := hQkvRefIdeal)
    ∧ preserves_SsmIn_SsmInIdeal
    ∧ algebraic_SsmInIdeal_SsmInRefIdeal (hSsmInIdeal := hSsmInIdeal) (hSsmInRefIdeal := hSsmInRefIdeal)
    ∧ preserves_NsaA_NsaAIdeal
    ∧ algebraic_NsaAIdeal_NsaARefIdeal (hNsaAIdeal := hNsaAIdeal) (hNsaARefIdeal := hNsaARefIdeal)
    ∧ preserves_NsaB_NsaBIdeal
    ∧ algebraic_NsaBIdeal_NsaBRefIdeal (hNsaBIdeal := hNsaBIdeal) (hNsaBRefIdeal := hNsaBRefIdeal)
    ∧ preserves_Out_OutIdeal
    ∧ algebraic_OutIdeal_OutRefIdeal (hOutIdeal := hOutIdeal) (hOutRefIdeal := hOutRefIdeal)
    ∧ preserves_AddLn_AddLnIdeal
    ∧ algebraic_AddLnIdeal_AddLnRefIdeal (hAddLnIdeal := hAddLnIdeal) (hAddLnRefIdeal := hAddLnRefIdeal)
    ∧ preserves_Router_RouterIdeal
    ∧ algebraic_RouterIdeal_RouterRefIdeal (hRouterIdeal := hRouterIdeal) (hRouterRefIdeal := hRouterRefIdeal)
    ∧ preserves_Experts_ExpertsIdeal
    ∧ algebraic_ExpertsIdeal_ExpertsRefIdeal (hExpertsIdeal := hExpertsIdeal) (hExpertsRefIdeal := hExpertsRefIdeal) (hPre_experts_named := hPre_experts_named)
    ∧ preserves_Cmp_CmpIdeal
    ∧ algebraic_CmpIdeal_CmpRefIdeal (hCmpIdeal := hCmpIdeal) (hCmpRefIdeal := hCmpRefIdeal)
    ∧ preserves_Nsa_NsaIdeal
-- ==== Pre_experts_named.lean ====
abbrev S160 : Shape := ⟨1, ![160]⟩
abbrev S1 : Shape := ⟨1, ![1]⟩
abbrev S40960x2048 : Shape := ⟨2, ![40960, 2048]⟩
abbrev S40960x1 : Shape := ⟨2, ![40960, 1]⟩
abbrev S32x2048x1024 : Shape := ⟨3, ![32, 2048, 1024]⟩
abbrev S32x1024x2048 : Shape := ⟨3, ![32, 1024, 2048]⟩
abbrev S_ : Shape := ⟨0, ![]⟩

class Facts : Prop where
  bcast_S_S160 : S_.BroadcastsInDim S160 (![] : Fin 0 → Fin S160.rank)

variable [Facts]

def fn {F : FTy → Type} [FloatOps F] (main_arg0 : IVec S160 32) (main_arg1 : IVec S1 32) (main_arg2 : FVec F S40960x2048 .bf16) (main_arg3 : FVec F S40960x1 .f32) (main_arg4 : FVec F S32x2048x1024 .f32) (main_arg5 : FVec F S32x2048x1024 .f32) (main_arg6 : FVec F S32x1024x2048 .f32) : IVec S160 1 :=
  let main_c : IVec S_ 32 := constantI S_ 32 0#32
  let main_v0 : IVec S160 32 := broadcastInDim S160 ![] bcast_S_S160 main_c
  let main_v1 : IVec S160 1 := cmpi .sge main_arg0 main_v0
  let main_c_0 : IVec S_ 32 := constantI S_ 32 32#32
  let main_v2 : IVec S160 32 := broadcastInDim S160 ![] bcast_S_S160 main_c_0
  let main_v3 : IVec S160 1 := cmpi .slt main_arg0 main_v2
  let main_v4 : IVec S160 1 := andi main_v1 main_v3
  main_v4
-- ==== Pre_finite.lean ====
abbrev S2x8192x3072 : Shape := ⟨3, ![2, 8192, 3072]⟩
abbrev S64 : Shape := ⟨1, ![64]⟩
abbrev S128 : Shape := ⟨1, ![128]⟩
abbrev S_ : Shape := ⟨0, ![]⟩

class Facts : Prop where
  bitsLt_bf16_f32 : FTy.bits .bf16 < FTy.bits .f32
  bcast_S_S2x8192x3072 : S_.BroadcastsInDim S2x8192x3072 (![] : Fin 0 → Fin S2x8192x3072.rank)
  reducesTo_S2x8192x3072_S_d0_1_2 : S2x8192x3072.ReducesTo [0, 1, 2] S_
  h_S_ : 0 < S_.numel
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v14 : IVec S_ 1) (main_v15 : FVec F S64 .f32) (main_v16 : FVec F S64 .f32) : IVec S_ 1 :=
  let main_v17 : IVec S64 1 := cmpf .olt main_v15 main_v16
  let main_c_5 : IVec S_ 1 := constantI S_ 1 1#1
  let main_v18 : IVec S_ 1 := (fun x v => Host.reduce IntOp.andi x v reducesTo_S64_S_d0 h_S_) main_v17 main_c_5
  let main_v19 : IVec S_ 1 := andi main_v14 main_v18
  let main_v20 : FVec F S64 .f32 := Host.absf main_arg4
  let main_cst_6 : FVec F S_ .f32 := constant S_ .f32 0x7F800000#32
  let main_v21 : FVec F S64 .f32 := broadcastInDim S64 ![] bcast_S_S64 main_cst_6
  let main_v22 : IVec S64 1 := cmpf .olt main_v20 main_v21
  let main_c_7 : IVec S_ 1 := constantI S_ 1 1#1
  let main_v23 : IVec S_ 1 := (fun x v => Host.reduce IntOp.andi x v reducesTo_S64_S_d0 h_S_) main_v22 main_c_7
  let main_v24 : IVec S_ 1 := andi main_v19 main_v23
  main_v24

def fn {F : FTy → Type} [FloatOps F] (main_arg0 : FVec F S2x8192x3072 .bf16) (main_arg1 : FVec F S64 .f32) (main_arg2 : FVec F S64 .f32) (main_arg3 : FVec F S64 .f32) (main_arg4 : FVec F S64 .f32) (main_arg5 : FVec F S128 .f32) : IVec S_ 1 :=
  let main_v0 : FVec F S2x8192x3072 .f32 := (extf .f32 · bitsLt_bf16_f32) main_arg0
  let main_v1 : FVec F S2x8192x3072 .f32 := Host.absf main_v0
  let main_cst : FVec F S_ .f32 := constant S_ .f32 0x7F800000#32
  let main_v2 : FVec F S2x8192x3072 .f32 := broadcastInDim S2x8192x3072 ![] bcast_S_S2x8192x3072 main_cst
  let main_v3 : IVec S2x8192x3072 1 := cmpf .olt main_v1 main_v2
  let main_c : IVec S_ 1 := constantI S_ 1 1#1
  let main_v4 : IVec S_ 1 := (fun x v => Host.reduce IntOp.andi x v reducesTo_S2x8192x3072_S_d0_1_2 h_S_) main_v3 main_c
  let main_v5 : FVec F S64 .f32 := Host.absf main_arg1
  let main_cst_0 : FVec F S_ .f32 := constant S_ .f32 0x7F800000#32
  let main_v6 : FVec F S64 .f32 := broadcastInDim S64 ![] bcast_S_S64 main_cst_0
  let main_v7 : IVec S64 1 := cmpf .olt main_v5 main_v6
  let main_c_1 : IVec S_ 1 := constantI S_ 1 1#1
  let main_v8 : IVec S_ 1 := (fun x v => Host.reduce IntOp.andi x v reducesTo_S64_S_d0 h_S_) main_v7 main_c_1
  let main_v9 : IVec S_ 1 := andi main_v4 main_v8
  let main_v10 : FVec F S64 .f32 := Host.absf main_arg2
  let main_cst_2 : FVec F S_ .f32 := constant S_ .f32 0x7F800000#32
  let main_v11 : FVec F S64 .f32 := broadcastInDim S64 ![] bcast_S_S64 main_cst_2
  let main_v12 : IVec S64 1 := cmpf .olt main_v10 main_v11
  let main_c_3 : IVec S_ 1 := constantI S_ 1 1#1
  let main_v13 : IVec S_ 1 := (fun x v => Host.reduce IntOp.andi x v reducesTo_S64_S_d0 h_S_) main_v12 main_c_3
  let main_v14 : IVec S_ 1 := andi main_v9 main_v13
  let main_v15 : FVec F S64 .f32 := Host.absf main_arg3
  let main_cst_4 : FVec F S_ .f32 := constant S_ .f32 0x7F800000#32
  let main_v16 : FVec F S64 .f32 := broadcastInDim S64 ![] bcast_S_S64 main_cst_4
  fn_part1 (F := F) main_arg4 main_v14 main_v15 main_v16
-- ==== Kernel.lean ====
abbrev S2x8192x3072 : Shape := ⟨3, ![2, 8192, 3072]⟩
abbrev S64 : Shape := ⟨1, ![64]⟩
abbrev S128 : Shape := ⟨1, ![128]⟩
abbrev S1x64 : Shape := ⟨2, ![1, 64]⟩
abbrev S1x128 : Shape := ⟨2, ![1, 128]⟩
abbrev S2x8192x1024 : Shape := ⟨3, ![2, 8192, 1024]⟩
abbrev S1x256x128 : Shape := ⟨3, ![1, 256, 128]⟩
abbrev S1x8192x128 : Shape := ⟨3, ![1, 8192, 128]⟩
abbrev S256x128 : Shape := ⟨2, ![256, 128]⟩
abbrev S512x128 : Shape := ⟨2, ![512, 128]⟩
abbrev S512x1 : Shape := ⟨2, ![512, 1]⟩
abbrev S512x256 : Shape := ⟨2, ![512, 256]⟩
abbrev S512 : Shape := ⟨1, ![512]⟩
abbrev S1 : Shape := ⟨1, ![1]⟩
abbrev S1x1 : Shape := ⟨2, ![1, 1]⟩
abbrev S256 : Shape := ⟨1, ![256]⟩
abbrev S256x1 : Shape := ⟨2, ![256, 1]⟩

abbrev nBuf : Space → Nat
  | .hbm => 12
  | .vmem => 13
  | .smem => 0
  | _ => 0

abbrev bufTy : (tb : Table) → Fin (tcTables nBuf tb) → BufTy
  | .hbm, ⟨0, _⟩ => ⟨S2x8192x3072, .bf16⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S128, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x64, .f32⟩
  | .hbm, ⟨10, _⟩ => ⟨S1x128, .f32⟩
  | .hbm, ⟨11, _⟩ => ⟨S2x8192x1024, .bf16⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S1x128, .f32⟩
  | .local _ .vmem, ⟨5, _⟩ => ⟨S1x256x128, .bf16⟩
  | .local _ .vmem, ⟨6, _⟩ => ⟨S1x256x128, .bf16⟩
  | .local _ .vmem, ⟨7, _⟩ => ⟨S1x8192x128, .bf16⟩
  | .local _ .vmem, ⟨8, _⟩ => ⟨S1x8192x128, .bf16⟩
  | .local _ .vmem, ⟨9, _⟩ => ⟨S1x8192x128, .bf16⟩
  | .local _ .vmem, ⟨10, _⟩ => ⟨S1x8192x128, .bf16⟩
  | .local _ .vmem, ⟨11, _⟩ => ⟨S1x256x128, .bf16⟩
  | .local _ .vmem, ⟨12, _⟩ => ⟨S1x256x128, .bf16⟩
  | _, _ => ⟨S2x8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨3, ![2, 8, 32], ![false, false, false]⟩

@[reducible] def k0_t1_loop (i : grid0.Coords) : Scf.Loop 32 :=
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_7 : BitVec 32 := 1#32
  ⟨c0_i32, v20, c1_i32_7⟩
def k0_mult1 (i : grid0.Coords) (k0_t1 : Fin (k0_t1_loop i).trips) : BitVec 32 :=
  let c0_i32 : BitVec 32 := 0#32
  let c1_i32_7 : BitVec 32 := 1#32
  let arg12 : BitVec 32 := Scf.iv c0_i32 c1_i32_7 k0_t1
  let c256_i32_38 : BitVec 32 := 256#32
  let v102 : BitVec 32 := Scalar.muli arg12 c256_i32_38
  v102
def k0_off1 (i : grid0.Coords) (k0_t1 : Fin (k0_t1_loop i).trips) : Fin 3 → Nat :=
  let c0_39 : Index := 0#32
  let c0_i32 : BitVec 32 := 0#32
  let c1_i32_7 : BitVec 32 := 1#32
  let arg12 : BitVec 32 := Scf.iv c0_i32 c1_i32_7 k0_t1
  let c256_i32_38 : BitVec 32 := 256#32
  let v102 : BitVec 32 := Scalar.muli arg12 c256_i32_38
  let v103 : BitVec 32 := v102
  let v104 : Index := Scalar.indexCast v103
  let c0_40 : Index := 0#32
  ![0, v104.toNat, 0]
@[reducible] def k0_t2_loop (i : grid0.Coords) : Scf.Loop 32 :=
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let v17 : BitVec 32 := Scalar.addi c0_i32 v16
  let c1_i32_8 : BitVec 32 := 1#32
  ⟨v20, v17, c1_i32_8⟩
def k0_mult2 (i : grid0.Coords) (k0_t2 : Fin (k0_t2_loop i).trips) : BitVec 32 :=
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_8 : BitVec 32 := 1#32
  let arg12 : BitVec 32 := Scf.iv v20 c1_i32_8 k0_t2
  let c256_i32_38 : BitVec 32 := 256#32
  let v102 : BitVec 32 := Scalar.muli arg12 c256_i32_38
  v102
def k0_off2 (i : grid0.Coords) (k0_t2 : Fin (k0_t2_loop i).trips) : Fin 3 → Nat :=
  let c0_39 : Index := 0#32
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_8 : BitVec 32 := 1#32
  let arg12 : BitVec 32 := Scf.iv v20 c1_i32_8 k0_t2
  let c256_i32_38 : BitVec 32 := 256#32
  let v102 : BitVec 32 := Scalar.muli arg12 c256_i32_38
  let v103 : BitVec 32 := v102
  let v104 : Index := Scalar.indexCast v103
  let c0_40 : Index := 0#32
  ![0, v104.toNat, 0]
def k0_mult3 (i : grid0.Coords) : BitVec 32 :=
  let arg2 : BitVec 32 := BitVec.ofNat 32 (i 2).val
  let c256_i32 : BitVec 32 := 256#32
  let v23 : BitVec 32 := Scalar.muli arg2 c256_i32
  v23
def k0_off3 (i : grid0.Coords) : Fin 3 → Nat :=
  let c0_9 : Index := 0#32
  let arg2 : BitVec 32 := BitVec.ofNat 32 (i 2).val
  let c256_i32 : BitVec 32 := 256#32
  let v23 : BitVec 32 := Scalar.muli arg2 c256_i32
  let v24 : BitVec 32 := v23
  let v25 : Index := Scalar.indexCast v24
  let c0_10 : Index := 0#32
  ![0, v25.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x8192x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x8192x3072 : Shape := ⟨3, ![2, 8192, 3072]⟩
abbrev S64 : Shape := ⟨1, ![64]⟩
abbrev S128 : Shape := ⟨1, ![128]⟩
abbrev S2x8192x1024 : Shape := ⟨3, ![2, 8192, 1024]⟩
abbrev S2x8192x8x2x64 : Shape := ⟨5, ![2, 8192, 8, 2, 64]⟩
abbrev S2x8192x8x128 : Shape := ⟨4, ![2, 8192, 8, 128]⟩
abbrev S_ : Shape := ⟨0, ![]⟩
abbrev S2x8x2x8192x8192 : Shape := ⟨5, ![2, 8, 2, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x8x2x8192 : Shape := ⟨4, ![2, 8, 2, 8192]⟩
abbrev S2x8x2x8192x1 : Shape := ⟨5, ![2, 8, 2, 8192, 1]⟩
abbrev S2x8x1x8192x8192 : Shape := ⟨5, ![2, 8, 1, 8192, 8192]⟩
abbrev S2x8x8192x8192 : Shape := ⟨4, ![2, 8, 8192, 8192]⟩
abbrev S2x8x128x8192 : Shape := ⟨4, ![2, 8, 128, 8192]⟩
abbrev S2x8192x8 : Shape := ⟨3, ![2, 8192, 8]⟩
abbrev S2x8192x8x1 : Shape := ⟨4, ![2, 8192, 8, 1]⟩
abbrev S1x1x1x128 : Shape := ⟨4, ![1, 1, 1, 128]⟩

abbrev nBuf : Space → Nat
  | .hbm => 83
  | .vmem => 0
  | .smem => 0
  | _ => 0

abbrev bufTy : (tb : Table) → Fin (tcTables nBuf tb) → BufTy
  | .hbm, ⟨0, _⟩ => ⟨S2x8192x3072, .bf16⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S128, .f32⟩
  | .hbm, ⟨6, _⟩ => ⟨S2x8192x3072, .f32⟩
  | .hbm, ⟨7, _⟩ => ⟨S2x8192x1024, .f32⟩
  | .hbm, ⟨8, _⟩ => ⟨S2x8192x1024, .f32⟩
  | .hbm, ⟨9, _⟩ => ⟨S2x8192x1024, .f32⟩
  | .hbm, ⟨10, _⟩ => ⟨S2x8192x8x2x64, .f32⟩
  | .hbm, ⟨11, _⟩ => ⟨S2x8192x8x2x64, .f32⟩
  | .hbm, ⟨12, _⟩ => ⟨S2x8192x8x128, .f32⟩
  | .hbm, ⟨13, _⟩ => ⟨S64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S2x8x2x8192x8192, .f32⟩
  | .hbm, ⟨25, _⟩ => ⟨S_, .f32⟩
  | .hbm, ⟨26, _⟩ => ⟨S2x8x2x8192x8192, .f32⟩
  | .hbm, ⟨27, _⟩ => ⟨S2x8x2x8192x8192, .f32⟩
  | .hbm, ⟨28, _⟩ => ⟨S8192, .i32⟩
  | .hbm, ⟨29, _⟩ => ⟨S1x8192, .i32⟩
  | .hbm, ⟨30, _⟩ => ⟨S8192x1, .i32⟩
  | .hbm, ⟨31, _⟩ => ⟨S8192x8192, .i32⟩
  | .hbm, ⟨32, _⟩ => ⟨S8192x8192, .i32⟩
  | .hbm, ⟨33, _⟩ => ⟨S8192x8192, .i1⟩
  | .hbm, ⟨34, _⟩ => ⟨S_, .f32⟩
  | .hbm, ⟨35, _⟩ => ⟨S_, .f32⟩
  | .hbm, ⟨36, _⟩ => ⟨S2x8x2x8192x8192, .i1⟩
  | .hbm, ⟨37, _⟩ => ⟨S2x8x2x8192x8192, .f32⟩
  | .hbm, ⟨38, _⟩ => ⟨S2x8x2x8192x8192, .f32⟩
  | .hbm, ⟨39, _⟩ => ⟨S_, .f32⟩
  | .hbm, ⟨40, _⟩ => ⟨S2x8x2x8192, .f32⟩
  | .hbm, ⟨41, _⟩ => ⟨S_, .f32⟩
  | .hbm, ⟨42, _⟩ => ⟨S2x8x2x8192, .f32⟩
  | .hbm, ⟨43, _⟩ => ⟨S2x8x2x8192, .f32⟩
  | .hbm, ⟨44, _⟩ => ⟨S2x8x2x8192x1, .f32⟩
  | .hbm, ⟨45, _⟩ => ⟨S2x8x2x8192x8192, .f32⟩
  | .hbm, ⟨46, _⟩ => ⟨S2x8x2x8192x8192, .f32⟩
  | .hbm, ⟨47, _⟩ => ⟨S2x8x2x8192x8192, .f32⟩
  | .hbm, ⟨48, _⟩ => ⟨S_, .f32⟩
  | .hbm, ⟨49, _⟩ => ⟨S2x8x2x8192, .f32⟩
  | .hbm, ⟨50, _⟩ => ⟨S2x8x2x8192x1, .f32⟩
  | .hbm, ⟨51, _⟩ => ⟨S2x8x2x8192x8192, .f32⟩
  | .hbm, ⟨52, _⟩ => ⟨S2x8x2x8192x8192, .f32⟩
  | .hbm, ⟨53, _⟩ => ⟨S2x8x1x8192x8192, .f32⟩
  | .hbm, ⟨54, _⟩ => ⟨S2x8x8192x8192, .f32⟩
  | .hbm, ⟨55, _⟩ => ⟨S2x8x1x8192x8192, .f32⟩
  | .hbm, ⟨56, _⟩ => ⟨S2x8x8192x8192, .f32⟩
  | .hbm, ⟨57, _⟩ => ⟨S2x8x8192x8192, .f32⟩
  | .hbm, ⟨58, _⟩ => ⟨S2x8x8192x8192, .f32⟩
  | .hbm, ⟨59, _⟩ => ⟨S2x8x8192x8192, .f32⟩
  | .hbm, ⟨60, _⟩ => ⟨S2x8x128x8192, .f32⟩
  | .hbm, ⟨61, _⟩ => ⟨S2x8192x8x128, .f32⟩
  | .hbm, ⟨62, _⟩ => ⟨S2x8192x8x128, .f32⟩
  | .hbm, ⟨63, _⟩ => ⟨S_, .f32⟩
  | .hbm, ⟨64, _⟩ => ⟨S2x8192x8, .f32⟩
  | .hbm, ⟨65, _⟩ => ⟨S2x8192x8x1, .f32⟩
  | .hbm, ⟨66, _⟩ => ⟨S_, .f32⟩
  | .hbm, ⟨67, _⟩ => ⟨S2x8192x8x1, .f32⟩
  | .hbm, ⟨68, _⟩ => ⟨S2x8192x8x1, .f32⟩
  | .hbm, ⟨69, _⟩ => ⟨S_, .f32⟩
  | .hbm, ⟨70, _⟩ => ⟨S2x8192x8x1, .f32⟩
  | .hbm, ⟨71, _⟩ => ⟨S2x8192x8x1, .f32⟩
  | .hbm, ⟨72, _⟩ => ⟨S2x8192x8x1, .f32⟩
  | .hbm, ⟨73, _⟩ => ⟨S2x8192x8x128, .f32⟩
  | .hbm, ⟨74, _⟩ => ⟨S2x8192x8x128, .f32⟩
  | .hbm, ⟨75, _⟩ => ⟨S1x1x1x128, .f32⟩
  | .hbm, ⟨76, _⟩ => ⟨S2x8192x8x128, .f32⟩
  | .hbm, ⟨77, _⟩ => ⟨S2x8192x8x128, .f32⟩
  | .hbm, ⟨78, _⟩ => ⟨S_, .f32⟩
  | .hbm, ⟨79, _⟩ => ⟨S2x8192x8x128, .f32⟩
  | .hbm, ⟨80, _⟩ => ⟨S2x8192x8x128, .f32⟩
  | .hbm, ⟨81, _⟩ => ⟨S2x8192x1024, .f32⟩
  | .hbm, ⟨82, _⟩ => ⟨S2x8192x1024, .bf16⟩
  | _, _ => ⟨S2x8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]
-- ==== Qkv.lean ====
abbrev S2x8192x2048 : Shape := ⟨3, ![2, 8192, 2048]⟩
abbrev S2048x5648 : Shape := ⟨2, ![2048, 5648]⟩
abbrev S16384x2048 : Shape := ⟨2, ![16384, 2048]⟩
abbrev S2048x3072 : Shape := ⟨2, ![2048, 3072]⟩
abbrev S16384x3072 : Shape := ⟨2, ![16384, 3072]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S2x8192x2048, .f32⟩
  | .hbm, ⟨1, _⟩ => ⟨S2048x5648, .f32⟩
  | .hbm, ⟨2, _⟩ => ⟨S16384x2048, .f32⟩
  | .hbm, ⟨3, _⟩ => ⟨S16384x2048, .bf16⟩
  | .hbm, ⟨4, _⟩ => ⟨S2048x3072, .f32⟩
  | .hbm, ⟨5, _⟩ => ⟨S2048x3072, .bf16⟩
  | .hbm, ⟨6, _⟩ => ⟨S16384x3072, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvRefIdeal.lean ====
abbrev S2x8192x2048 : Shape := ⟨3, ![2, 8192, 2048]⟩
abbrev S2048x5648 : Shape := ⟨2, ![2048, 5648]⟩
abbrev S16384x2048 : Shape := ⟨2, ![16384, 2048]⟩
abbrev S16384x5648 : Shape := ⟨2, ![16384, 5648]⟩
abbrev S16384x3072 : Shape := ⟨2, ![16384, 3072]⟩

abbrev nBuf : Space → Nat
  | .hbm => 6
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048x5648, .f32⟩
  | .hbm, ⟨2, _⟩ => ⟨S16384x2048, .f32⟩
  | .hbm, ⟨3, _⟩ => ⟨S16384x5648, .f32⟩
  | .hbm, ⟨4, _⟩ => ⟨S16384x3072, .f32⟩
  | .hbm, ⟨5, _⟩ => ⟨S16384x3072, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== SsmIn.lean ====
abbrev S2x8192x2048 : Shape := ⟨3, ![2, 8192, 2048]⟩
abbrev S2048x5648 : Shape := ⟨2, ![2048, 5648]⟩
abbrev S16384x2048 : Shape := ⟨2, ![16384, 2048]⟩
abbrev S2048x2576 : Shape := ⟨2, ![2048, 2576]⟩
abbrev S_ : Shape := ⟨0, ![]⟩
abbrev S2048x2688 : Shape := ⟨2, ![2048, 2688]⟩
abbrev S16384x2688 : Shape := ⟨2, ![16384, 2688]⟩
abbrev S1024x2048 : Shape := ⟨2, ![1024, 2048]⟩
abbrev S2048x896 : Shape := ⟨2, ![2048, 896]⟩
abbrev S1024x896 : Shape := ⟨2, ![1024, 896]⟩

abbrev nBuf : Space → Nat
  | .hbm => 10
  | .vmem => 6
  | .smem => 0
  | _ => 0

abbrev bufTy : (tb : Table) → Fin (tcTables nBuf tb) → BufTy
  | .hbm, ⟨0, _⟩ => ⟨S2x8192x2048, .f32⟩
  | .hbm, ⟨1, _⟩ => ⟨S2048x5648, .f32⟩
  | .hbm, ⟨2, _⟩ => ⟨S16384x2048, .f32⟩
  | .hbm, ⟨3, _⟩ => ⟨S16384x2048, .bf16⟩
  | .hbm, ⟨4, _⟩ => ⟨S2048x2576, .f32⟩
  | .hbm, ⟨5, _⟩ => ⟨S_, .i32⟩
  | .hbm, ⟨6, _⟩ => ⟨S_, .f32⟩
  | .hbm, ⟨7, _⟩ => ⟨S2048x2688, .f32⟩
  | .hbm, ⟨8, _⟩ => ⟨S2048x2688, .bf16⟩
  | .hbm, ⟨9, _⟩ => ⟨S16384x2688, .f32⟩
  | .local _ .vmem, ⟨0, _⟩ => ⟨S1024x2048, .bf16⟩
  | .local _ .vmem, ⟨1, _⟩ => ⟨S1024x2048, .bf16⟩
  | .local _ .vmem, ⟨2, _⟩ => ⟨S2048x896, .bf16⟩
  | .local _ .vmem, ⟨3, _⟩ => ⟨S2048x896, .bf16⟩
  | .local _ .vmem, ⟨4, _⟩ => ⟨S1024x896, .f32⟩
  | .local _ .vmem, ⟨5, _⟩ => ⟨S1024x896, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SsmInRefIdeal.lean ====
abbrev S2x8192x2048 : Shape := ⟨3, ![2, 8192, 2048]⟩
abbrev S2048x5648 : Shape := ⟨2, ![2048, 5648]⟩
abbrev S16384x2048 : Shape := ⟨2, ![16384, 2048]⟩
abbrev S16384x5648 : Shape := ⟨2, ![16384, 5648]⟩
abbrev S16384x2576 : Shape := ⟨2, ![16384, 2576]⟩
abbrev S_ : Shape := ⟨0, ![]⟩
abbrev S16384x2688 : Shape := ⟨2, ![16384, 2688]⟩

abbrev nBuf : Space → Nat
  | .hbm => 8
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048x5648, .f32⟩
  | .hbm, ⟨2, _⟩ => ⟨S16384x2048, .f32⟩
  | .hbm, ⟨3, _⟩ => ⟨S16384x5648, .f32⟩
  | .hbm, ⟨4, _⟩ => ⟨S16384x2576, .f32⟩
  | .hbm, ⟨5, _⟩ => ⟨S_, .i32⟩
  | .hbm, ⟨6, _⟩ => ⟨S_, .f32⟩
  | .hbm, ⟨7, _⟩ => ⟨S16384x2688, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== NsaA.lean ====
abbrev S16384x2048 : Shape := ⟨2, ![16384, 2048]⟩
abbrev S2048x5168 : Shape := ⟨2, ![2048, 5168]⟩
abbrev S2048x2048 : Shape := ⟨2, ![2048, 2048]⟩
abbrev S2048x3072 : Shape := ⟨2, ![2048, 3072]⟩
abbrev S2048x4096 : Shape := ⟨2, ![2048, 4096]⟩
abbrev S16384x4096 : Shape := ⟨2, ![16384, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x5168, .f32⟩
  | .hbm, ⟨2, _⟩ => ⟨S2048x2048, .f32⟩
  | .hbm, ⟨3, _⟩ => ⟨S2048x3072, .f32⟩
  | .hbm, ⟨4, _⟩ => ⟨S2048x2048, .f32⟩
  | .hbm, ⟨5, _⟩ => ⟨S2048x4096, .f32⟩
  | .hbm, ⟨6, _⟩ => ⟨S2048x4096, .bf16⟩
  | .hbm, ⟨7, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NsaARefIdeal.lean ====
abbrev S16384x2048 : Shape := ⟨2, ![16384, 2048]⟩
abbrev S2048x5168 : Shape := ⟨2, ![2048, 5168]⟩
abbrev S16384x5168 : Shape := ⟨2, ![16384, 5168]⟩
abbrev S16384x4096 : Shape := ⟨2, ![16384, 4096]⟩

abbrev nBuf : Space → Nat
  | .hbm => 8
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x5168, .f32⟩
  | .hbm, ⟨2, _⟩ => ⟨S16384x2048, .f32⟩
  | .hbm, ⟨3, _⟩ => ⟨S16384x5168, .f32⟩
  | .hbm, ⟨4, _⟩ => ⟨S16384x2048, .f32⟩
  | .hbm, ⟨5, _⟩ => ⟨S16384x2048, .f32⟩
  | .hbm, ⟨6, _⟩ => ⟨S16384x4096, .f32⟩
  | .hbm, ⟨7, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== NsaB.lean ====
abbrev S16384x2048 : Shape := ⟨2, ![16384, 2048]⟩
abbrev S2048x5168 : Shape := ⟨2, ![2048, 5168]⟩
abbrev S2048x3072 : Shape := ⟨2, ![2048, 3072]⟩
abbrev S2048x48 : Shape := ⟨2, ![2048, 48]⟩
abbrev S2048x4x12 : Shape := ⟨3, ![2048, 4, 12]⟩
abbrev S_ : Shape := ⟨0, ![]⟩
abbrev S2048x4x128 : Shape := ⟨3, ![2048, 4, 128]⟩
abbrev S2048x512 : Shape := ⟨2, ![2048, 512]⟩
abbrev S2048x1024 : Shape := ⟨2, ![2048, 1024]⟩
abbrev S2048x1536 : Shape := ⟨2, ![2048, 1536]⟩
abbrev S16384x1536 : Shape := ⟨2, ![16384, 1536]⟩
abbrev S1024x2048 : Shape := ⟨2, ![1024, 2048]⟩
abbrev S1024x512 : Shape := ⟨2, ![1024, 512]⟩

abbrev nBuf : Space → Nat
  | .hbm => 13
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x5168, .f32⟩
  | .hbm, ⟨2, _⟩ => ⟨S2048x3072, .f32⟩
  | .hbm, ⟨3, _⟩ => ⟨S2048x48, .f32⟩
  | .hbm, ⟨4, _⟩ => ⟨S2048x4x12, .f32⟩
  | .hbm, ⟨5, _⟩ => ⟨S_, .i32⟩
  | .hbm, ⟨6, _⟩ => ⟨S_, .f32⟩
  | .hbm, ⟨7, _⟩ => ⟨S2048x4x128, .f32⟩
  | .hbm, ⟨8, _⟩ => ⟨S2048x512, .f32⟩
  | .hbm, ⟨9, _⟩ => ⟨S2048x1024, .f32⟩
  | .hbm, ⟨10, _⟩ => ⟨S2048x1536, .f32⟩
  | .hbm, ⟨11, _⟩ => ⟨S2048x1536, .bf16⟩
  | .hbm, ⟨12, _⟩ => ⟨S16384x1536, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NsaBRefIdeal.lean ====
abbrev S16384x2048 : Shape := ⟨2, ![16384, 2048]⟩
abbrev S2048x5168 : Shape := ⟨2, ![2048, 5168]⟩
abbrev S16384x5168 : Shape := ⟨2, ![16384, 5168]⟩
abbrev S16384x1024 : Shape := ⟨2, ![16384, 1024]⟩
abbrev S16384x48 : Shape := ⟨2, ![16384, 48]⟩
abbrev S16384x4x12 : Shape := ⟨3, ![16384, 4, 12]⟩
abbrev S_ : Shape := ⟨0, ![]⟩
abbrev S16384x4x128 : Shape := ⟨3, ![16384, 4, 128]⟩
abbrev S16384x512 : Shape := ⟨2, ![16384, 512]⟩
abbrev S16384x1536 : Shape := ⟨2, ![16384, 1536]⟩

abbrev nBuf : Space → Nat
  | .hbm => 12
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x5168, .f32⟩
  | .hbm, ⟨2, _⟩ => ⟨S16384x2048, .f32⟩
  | .hbm, ⟨3, _⟩ => ⟨S16384x5168, .f32⟩
  | .hbm, ⟨4, _⟩ => ⟨S16384x1024, .f32⟩
  | .hbm, ⟨5, _⟩ => ⟨S16384x48, .f32⟩
  | .hbm, ⟨6, _⟩ => ⟨S16384x4x12, .f32⟩
  | .hbm, ⟨7, _⟩ => ⟨S_, .i32⟩
  | .hbm, ⟨8, _⟩ => ⟨S_, .f32⟩
  | .hbm, ⟨9, _⟩ => ⟨S16384x4x128, .f32⟩
  | .hbm, ⟨10, _⟩ => ⟨S16384x512, .f32⟩
  | .hbm, ⟨11, _⟩ => ⟨S16384x1536, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Out.lean ====
abbrev S16384x2048 : Shape := ⟨2, ![16384, 2048]⟩
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 10
  | .vmem => 11
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S2048x2048, .bf16⟩
  | .hbm, ⟨6, _⟩ => ⟨S1x2048, .f32⟩
  | .hbm, ⟨7, _⟩ => ⟨S1x2048, .f32⟩
  | .hbm, ⟨8, _⟩ => ⟨S16384x2048, .f32⟩
  | .hbm, ⟨9, _⟩ => ⟨S16384x2048, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutRefIdeal.lean ====
abbrev S16384x2048 : Shape := ⟨2, ![16384, 2048]⟩
abbrev S2048x2048 : Shape := ⟨2, ![2048, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x2048, .f32⟩
  | .hbm, ⟨27, _⟩ => ⟨S16384x2048, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x2048, .f32⟩
  | .hbm, ⟨33, _⟩ => ⟨S16384x2048, .f32⟩
  | .hbm, ⟨34, _⟩ => ⟨S1x2048, .f32⟩
  | .hbm, ⟨35, _⟩ => ⟨S16384x2048, .f32⟩
  | .hbm, ⟨36, _⟩ => ⟨S16384x2048, .f32⟩
  | .hbm, ⟨37, _⟩ => ⟨S1x2048, .f32⟩
  | .hbm, ⟨38, _⟩ => ⟨S16384x2048, .f32⟩
  | .hbm, ⟨39, _⟩ => ⟨S16384x2048, .f32⟩
  | .hbm, ⟨40, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== AddLn.lean ====
abbrev S16384x2048 : Shape := ⟨2, ![16384, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S16384x2048, .f32⟩
  | .hbm, ⟨7, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== AddLnRefIdeal.lean ====
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048, .f32⟩
  | .hbm, ⟨3, _⟩ => ⟨S2048, .f32⟩
  | .hbm, ⟨4, _⟩ => ⟨S_, .f32⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x2048, .f32⟩
  | .hbm, ⟨24, _⟩ => ⟨S16384x2048, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x2048, .f32⟩
  | .hbm, ⟨30, _⟩ => ⟨S16384x2048, .f32⟩
  | .hbm, ⟨31, _⟩ => ⟨S1x2048, .f32⟩
  | .hbm, ⟨32, _⟩ => ⟨S16384x2048, .f32⟩
  | .hbm, ⟨33, _⟩ => ⟨S16384x2048, .f32⟩
  | .hbm, ⟨34, _⟩ => ⟨S1x2048, .f32⟩
  | .hbm, ⟨35, _⟩ => ⟨S16384x2048, .f32⟩
  | .hbm, ⟨36, _⟩ => ⟨S16384x2048, .f32⟩
  | .hbm, ⟨37, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Router.lean ====
abbrev S16384x2048 : Shape := ⟨2, ![16384, 2048]⟩
abbrev S2048x32 : Shape := ⟨2, ![2048, 32]⟩
abbrev S16384x32 : Shape := ⟨2, ![16384, 32]⟩
abbrev S1024x2048 : Shape := ⟨2, ![1024, 2048]⟩
abbrev S1024x32 : Shape := ⟨2, ![1024, 32]⟩

abbrev nBuf : Space → Nat
  | .hbm => 3
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S2048x32, .f32⟩
  | .hbm, ⟨2, _⟩ => ⟨S16384x32, .f32⟩
  | .local _ .vmem, ⟨0, _⟩ => ⟨S1024x2048, .f32⟩
  | .local _ .vmem, ⟨1, _⟩ => ⟨S1024x2048, .f32⟩
  | .local _ .vmem, ⟨2, _⟩ => ⟨S2048x32, .f32⟩
  | .local _ .vmem, ⟨3, _⟩ => ⟨S1024x32, .f32⟩
  | .local _ .vmem, ⟨4, _⟩ => ⟨S1024x32, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RouterRefIdeal.lean ====
abbrev S16384x2048 : Shape := ⟨2, ![16384, 2048]⟩
abbrev S2048x32 : Shape := ⟨2, ![2048, 32]⟩
abbrev S16384x32 : Shape := ⟨2, ![16384, 32]⟩

abbrev nBuf : Space → Nat
  | .hbm => 3
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x32, .f32⟩
  | .hbm, ⟨2, _⟩ => ⟨S16384x32, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Experts.lean ====
abbrev S160 : Shape := ⟨1, ![160]⟩
abbrev S1 : Shape := ⟨1, ![1]⟩
abbrev S40960x2048 : Shape := ⟨2, ![40960, 2048]⟩
abbrev S40960x1 : Shape := ⟨2, ![40960, 1]⟩
abbrev S32x2048x1024 : Shape := ⟨3, ![32, 2048, 1024]⟩
abbrev S32x1024x2048 : Shape := ⟨3, ![32, 1024, 2048]⟩
abbrev S256x2048 : Shape := ⟨2, ![256, 2048]⟩
abbrev S256x1 : Shape := ⟨2, ![256, 1]⟩
abbrev S1x2048x1024 : Shape := ⟨3, ![1, 2048, 1024]⟩
abbrev S1x1024x2048 : Shape := ⟨3, ![1, 1024, 2048]⟩
abbrev S2048x1024 : Shape := ⟨2, ![2048, 1024]⟩
abbrev S256x1024 : Shape := ⟨2, ![256, 1024]⟩
abbrev S1024x2048 : Shape := ⟨2, ![1024, 2048]⟩

abbrev nBuf : Space → Nat
  | .hbm => 9
  | .vmem => 12
  | .smem => 2
  | _ => 0

abbrev bufTy : (tb : Table) → Fin (tcTables nBuf tb) → BufTy
  | .hbm, ⟨0, _⟩ => ⟨S40960x2048, .bf16⟩
  | .hbm, ⟨1, _⟩ => ⟨S40960x1, .f32⟩
  | .hbm, ⟨2, _⟩ => ⟨S32x2048x1024, .f32⟩
  | .hbm, ⟨3, _⟩ => ⟨S32x2048x1024, .f32⟩
  | .hbm, ⟨4, _⟩ => ⟨S32x1024x2048, .f32⟩
  | .hbm, ⟨5, _⟩ => ⟨S32x2048x1024, .bf16⟩
  | .hbm, ⟨6, _⟩ => ⟨S32x2048x1024, .bf16⟩
  | .hbm, ⟨7, _⟩ => ⟨S32x1024x2048, .bf16⟩
  | .hbm, ⟨8, _⟩ => ⟨S40960x2048, .f32⟩
  | .local _ .vmem, ⟨0, _⟩ => ⟨S256x2048, .bf16⟩
  | .local _ .vmem, ⟨1, _⟩ => ⟨S256x2048, .bf16⟩
  | .local _ .vmem, ⟨2, _⟩ => ⟨S256x1, .f32⟩
  | .local _ .vmem, ⟨3, _⟩ => ⟨S256x1, .f32⟩
  | .local _ .vmem, ⟨4, _⟩ => ⟨S1x2048x1024, .bf16⟩
  | .local _ .vmem, ⟨5, _⟩ => ⟨S1x2048x1024, .bf16⟩
  | .local _ .vmem, ⟨6, _⟩ => ⟨S1x2048x1024, .bf16⟩
  | .local _ .vmem, ⟨7, _⟩ => ⟨S1x2048x1024, .bf16⟩
  | .local _ .vmem, ⟨8, _⟩ => ⟨S1x1024x2048, .bf16⟩
  | .local _ .vmem, ⟨9, _⟩ => ⟨S1x1024x2048, .bf16⟩
  | .local _ .vmem, ⟨10, _⟩ => ⟨S256x2048, .f32⟩
  | .local _ .vmem, ⟨11, _⟩ => ⟨S256x2048, .f32⟩
  | .local _ .smem, ⟨0, _⟩ => ⟨S160, .i32⟩
  | .local _ .smem, ⟨1, _⟩ => ⟨S1, .i32⟩
  | _, _ => ⟨S40960x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![160], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ExpertsRefIdeal.lean ====
abbrev S160 : Shape := ⟨1, ![160]⟩
abbrev S1 : Shape := ⟨1, ![1]⟩
abbrev S40960x2048 : Shape := ⟨2, ![40960, 2048]⟩
abbrev S40960x1 : Shape := ⟨2, ![40960, 1]⟩
abbrev S32x2048x1024 : Shape := ⟨3, ![32, 2048, 1024]⟩
abbrev S32x1024x2048 : Shape := ⟨3, ![32, 1024, 2048]⟩
abbrev S40960 : Shape := ⟨1, ![40960]⟩
abbrev S_ : Shape := ⟨0, ![]⟩
abbrev S160x256 : Shape := ⟨2, ![160, 256]⟩
abbrev S40960x2048x1024 : Shape := ⟨3, ![40960, 2048, 1024]⟩
abbrev S40960x1024 : Shape := ⟨2, ![40960, 1024]⟩
abbrev S40960x1024x2048 : Shape := ⟨3, ![40960, 1024, 2048]⟩

abbrev nBuf : Space → Nat
  | .hbm => 80
  | .vmem => 0
  | .smem => 0
  | _ => 0

abbrev bufTy : (tb : Table) → Fin (tcTables nBuf tb) → BufTy
  | .hbm, ⟨0, _⟩ => ⟨S160, .i32⟩
  | .hbm, ⟨1, _⟩ => ⟨S1, .i32⟩
  | .hbm, ⟨2, _⟩ => ⟨S40960x2048, .bf16⟩
  | .hbm, ⟨3, _⟩ => ⟨S40960x1, .f32⟩
  | .hbm, ⟨4, _⟩ => ⟨S32x2048x1024, .f32⟩
  | .hbm, ⟨5, _⟩ => ⟨S32x2048x1024, .f32⟩
  | .hbm, ⟨6, _⟩ => ⟨S32x1024x2048, .f32⟩
  | .hbm, ⟨7, _⟩ => ⟨S40960, .i32⟩
  | .hbm, ⟨8, _⟩ => ⟨S_, .i32⟩
  | .hbm, ⟨9, _⟩ => ⟨S_, .i32⟩
  | .hbm, ⟨10, _⟩ => ⟨S40960, .i32⟩
  | .hbm, ⟨11, _⟩ => ⟨S40960, .i32⟩
  | .hbm, ⟨12, _⟩ => ⟨S40960, .i32⟩
  | .hbm, ⟨13, _⟩ => ⟨S_, .i32⟩
  | .hbm, ⟨14, _⟩ => ⟨S40960, .i32⟩
  | .hbm, ⟨15, _⟩ => ⟨S40960, .i1⟩
  | .hbm, ⟨16, _⟩ => ⟨S40960, .i32⟩
  | .hbm, ⟨17, _⟩ => ⟨S40960, .i32⟩
  | .hbm, ⟨18, _⟩ => ⟨S_, .i32⟩
  | .hbm, ⟨19, _⟩ => ⟨S40960, .i32⟩
  | .hbm, ⟨20, _⟩ => ⟨S40960, .i1⟩
  | .hbm, ⟨21, _⟩ => ⟨S40960, .i1⟩
  | .hbm, ⟨22, _⟩ => ⟨S_, .i32⟩
  | .hbm, ⟨23, _⟩ => ⟨S40960, .i32⟩
  | .hbm, ⟨24, _⟩ => ⟨S40960, .i32⟩
  | .hbm, ⟨25, _⟩ => ⟨S40960, .i32⟩
  | .hbm, ⟨26, _⟩ => ⟨S160x256, .i32⟩
  | .hbm, ⟨27, _⟩ => ⟨S40960, .i32⟩
  | .hbm, ⟨28, _⟩ => ⟨S40960x2048, .f32⟩
  | .hbm, ⟨29, _⟩ => ⟨S_, .i32⟩
  | .hbm, ⟨30, _⟩ => ⟨S40960, .i32⟩
  | .hbm, ⟨31, _⟩ => ⟨S40960, .i1⟩
  | .hbm, ⟨32, _⟩ => ⟨S_, .i32⟩
  | .hbm, ⟨33, _⟩ => ⟨S40960, .i32⟩
  | .hbm, ⟨34, _⟩ => ⟨S40960, .i32⟩
  | .hbm, ⟨35, _⟩ => ⟨S40960, .i32⟩
  | .hbm, ⟨36, _⟩ => ⟨S40960x1, .i32⟩
  | .hbm, ⟨37, _⟩ => ⟨S40960x2048x1024, .f32⟩
  | .hbm, ⟨38, _⟩ => ⟨S40960x1024, .f32⟩
  | .hbm, ⟨39, _⟩ => ⟨S40960x1024, .f32⟩
  | .hbm, ⟨40, _⟩ => ⟨S40960x1024, .f32⟩
  | .hbm, ⟨41, _⟩ => ⟨S_, .f32⟩
  | .hbm, ⟨42, _⟩ => ⟨S40960x1024, .f32⟩
  | .hbm, ⟨43, _⟩ => ⟨S40960x1024, .f32⟩
  | .hbm, ⟨44, _⟩ => ⟨S_, .f32⟩
  | .hbm, ⟨45, _⟩ => ⟨S40960x1024, .f32⟩
  | .hbm, ⟨46, _⟩ => ⟨S40960x1024, .f32⟩
  | .hbm, ⟨47, _⟩ => ⟨S40960x1024, .f32⟩
  | .hbm, ⟨48, _⟩ => ⟨S_, .i32⟩
  | .hbm, ⟨49, _⟩ => ⟨S40960, .i32⟩
  | .hbm, ⟨50, _⟩ => ⟨S40960, .i1⟩
  | .hbm, ⟨51, _⟩ => ⟨S_, .i32⟩
  | .hbm, ⟨52, _⟩ => ⟨S40960, .i32⟩
  | .hbm, ⟨53, _⟩ => ⟨S40960, .i32⟩
  | .hbm, ⟨54, _⟩ => ⟨S40960, .i32⟩
  | .hbm, ⟨55, _⟩ => ⟨S40960x1, .i32⟩
  | .hbm, ⟨56, _⟩ => ⟨S40960x2048x1024, .f32⟩
  | .hbm, ⟨57, _⟩ => ⟨S40960x1024, .f32⟩
  | .hbm, ⟨58, _⟩ => ⟨S40960x1024, .f32⟩
  | .hbm, ⟨59, _⟩ => ⟨S_, .i32⟩
  | .hbm, ⟨60, _⟩ => ⟨S40960, .i32⟩
  | .hbm, ⟨61, _⟩ => ⟨S40960, .i1⟩
  | .hbm, ⟨62, _⟩ => ⟨S_, .i32⟩
  | .hbm, ⟨63, _⟩ => ⟨S40960, .i32⟩
  | .hbm, ⟨64, _⟩ => ⟨S40960, .i32⟩
  | .hbm, ⟨65, _⟩ => ⟨S40960, .i32⟩
  | .hbm, ⟨66, _⟩ => ⟨S40960x1, .i32⟩
  | .hbm, ⟨67, _⟩ => ⟨S40960x1024x2048, .f32⟩
  | .hbm, ⟨68, _⟩ => ⟨S40960x2048, .f32⟩
  | .hbm, ⟨69, _⟩ => ⟨S40960x2048, .f32⟩
  | .hbm, ⟨70, _⟩ => ⟨S40960x2048, .f32⟩
  | .hbm, ⟨71, _⟩ => ⟨S_, .i32⟩
  | .hbm, ⟨72, _⟩ => ⟨S40960, .i32⟩
  | .hbm, ⟨73, _⟩ => ⟨S40960, .i1⟩
  | .hbm, ⟨74, _⟩ => ⟨S40960x1, .i1⟩
  | .hbm, ⟨75, _⟩ => ⟨S_, .f32⟩
  | .hbm, ⟨76, _⟩ => ⟨S_, .f32⟩
  | .hbm, ⟨77, _⟩ => ⟨S40960x2048, .i1⟩
  | .hbm, ⟨78, _⟩ => ⟨S40960x2048, .f32⟩
  | .hbm, ⟨79, _⟩ => ⟨S40960x2048, .f32⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_c_0 : Ref sig .tc := ⟨.hbm, 29, rfl⟩
abbrev main_v5 : Ref sig .tc := ⟨.hbm, 30, rfl⟩
abbrev main_v6 : Ref sig .tc := ⟨.hbm, 31, rfl⟩
abbrev main_c_1 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_call1_v0 : Ref sig .tc := ⟨.hbm, 39, rfl⟩
abbrev main_call1_v1 : Ref sig .tc := ⟨.hbm, 40, rfl⟩
abbrev main_call1_cst : Ref sig .tc := ⟨.hbm, 41, rfl⟩
abbrev main_call1_v2 : Ref sig .tc := ⟨.hbm, 42, rfl⟩
abbrev main_call1_v3 : Ref sig .tc := ⟨.hbm, 43, rfl⟩
abbrev main_call1_cst_0 : Ref sig .tc := ⟨.hbm, 44, rfl⟩
abbrev main_call1_v4 : Ref sig .tc := ⟨.hbm, 45, rfl⟩
abbrev main_call1_v5 : Ref sig .tc := ⟨.hbm, 46, rfl⟩
abbrev main_v13 : Ref sig .tc := ⟨.hbm, 47, rfl⟩
abbrev main_c_2 : Ref sig .tc := ⟨.hbm, 48, rfl⟩
abbrev main_v14 : Ref sig .tc := ⟨.hbm, 49, rfl⟩
abbrev main_v15 : Ref sig .tc := ⟨.hbm, 50, rfl⟩
abbrev main_c_3 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_c_4 : Ref sig .tc := ⟨.hbm, 59, rfl⟩
abbrev main_v23 : Ref sig .tc := ⟨.hbm, 60, rfl⟩
abbrev main_v24 : Ref sig .tc := ⟨.hbm, 61, rfl⟩
abbrev main_c_5 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_cst : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_v37 : Ref sig .tc := ⟨.hbm, 79, rfl⟩

abbrev nD : Nat := 1
abbrev τ : Topo := Topo.v7x

variable {F : FTy → Type} [FloatOps F]
-- ==== Cmp.lean ====
abbrev S2x8192x1536 : Shape := ⟨3, ![2, 8192, 1536]⟩
abbrev S32x128 : Shape := ⟨2, ![32, 128]⟩
abbrev S4096x128 : Shape := ⟨2, ![4096, 128]⟩
abbrev S128x128 : Shape := ⟨2, ![128, 128]⟩
abbrev S2x512x24576 : Shape := ⟨3, ![2, 512, 24576]⟩
abbrev S32x128x128 : Shape := ⟨3, ![32, 128, 128]⟩
abbrev S2x4x512x128 : Shape := ⟨4, ![2, 4, 512, 128]⟩
abbrev S1x512x1536 : Shape := ⟨3, ![1, 512, 1536]⟩
abbrev S1x4x512x128 : Shape := ⟨4, ![1, 4, 512, 128]⟩
abbrev S2x2048x128 : Shape := ⟨3, ![2, 2048, 128]⟩
abbrev S512x1536 : Shape := ⟨2, ![512, 1536]⟩
abbrev S512x128 : Shape := ⟨2, ![512, 128]⟩
abbrev S2048x128 : Shape := ⟨2, ![2048, 128]⟩
abbrev S1x2048x128 : Shape := ⟨3, ![1, 2048, 128]⟩
abbrev S1x128 : Shape := ⟨2, ![1, 128]⟩
abbrev S1x128x128 : Shape := ⟨3, ![1, 128, 128]⟩
abbrev S1x512x128 : Shape := ⟨3, ![1, 512, 128]⟩
abbrev S1x1x512x128 : Shape := ⟨4, ![1, 1, 512, 128]⟩

abbrev nBuf : Space → Nat
  | .hbm => 16
  | .vmem => 14
  | .smem => 0
  | _ => 0

abbrev bufTy : (tb : Table) → Fin (tcTables nBuf tb) → BufTy
  | .hbm, ⟨0, _⟩ => ⟨S2x8192x1536, .f32⟩
  | .hbm, ⟨1, _⟩ => ⟨S32x128, .f32⟩
  | .hbm, ⟨2, _⟩ => ⟨S32x128, .f32⟩
  | .hbm, ⟨3, _⟩ => ⟨S4096x128, .f32⟩
  | .hbm, ⟨4, _⟩ => ⟨S4096x128, .f32⟩
  | .hbm, ⟨5, _⟩ => ⟨S128x128, .f32⟩
  | .hbm, ⟨6, _⟩ => ⟨S128x128, .f32⟩
  | .hbm, ⟨7, _⟩ => ⟨S2x512x24576, .f32⟩
  | .hbm, ⟨8, _⟩ => ⟨S4096x128, .bf16⟩
  | .hbm, ⟨9, _⟩ => ⟨S32x128x128, .bf16⟩
  | .hbm, ⟨10, _⟩ => ⟨S4096x128, .bf16⟩
  | .hbm, ⟨11, _⟩ => ⟨S32x128x128, .bf16⟩
  | .hbm, ⟨12, _⟩ => ⟨S128x128, .bf16⟩
  | .hbm, ⟨13, _⟩ => ⟨S128x128, .bf16⟩
  | .hbm, ⟨14, _⟩ => ⟨S2x4x512x128, .bf16⟩
  | .hbm, ⟨15, _⟩ => ⟨S2x4x512x128, .bf16⟩
  | .local _ .vmem, ⟨0, _⟩ => ⟨S1x512x1536, .f32⟩
  | .local _ .vmem, ⟨1, _⟩ => ⟨S1x512x1536, .f32⟩
  | .local _ .vmem, ⟨2, _⟩ => ⟨S32x128, .f32⟩
  | .local _ .vmem, ⟨3, _⟩ => ⟨S32x128, .f32⟩
  | .local _ .vmem, ⟨4, _⟩ => ⟨S32x128x128, .bf16⟩
  | .local _ .vmem, ⟨5, _⟩ => ⟨S32x128x128, .bf16⟩
  | .local _ .vmem, ⟨6, _⟩ => ⟨S128x128, .bf16⟩
  | .local _ .vmem, ⟨7, _⟩ => ⟨S128x128, .bf16⟩
  | .local _ .vmem, ⟨8, _⟩ => ⟨S1x4x512x128, .bf16⟩
  | .local _ .vmem, ⟨9, _⟩ => ⟨S1x4x512x128, .bf16⟩
  | .local _ .vmem, ⟨10, _⟩ => ⟨S1x4x512x128, .bf16⟩
  | .local _ .vmem, ⟨11, _⟩ => ⟨S1x4x512x128, .bf16⟩
  | .local _ .vmem, ⟨12, _⟩ => ⟨S2x2048x128, .f32⟩
  | .local _ .vmem, ⟨13, _⟩ => ⟨S2x2048x128, .f32⟩
  | _, _ => ⟨S2x8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let v12 : Index := Scalar.indexCast arg1
  let c0_6 : Index := 0#32
  ![v12.toNat, 0]
def k0_off2 (i : grid0.Coords) : Fin 3 → Nat :=
  let arg1 : BitVec 32 := BitVec.ofNat 32 (i 1).val
  let v17 : Index := Scalar.indexCast arg1
  let c0_7 : Index := 0#32
  let c0_8 : Index := 0#32
  ![v17.toNat, 0, 0]
def k0_off3 (i : grid0.Coords) : Fin 2 → Nat :=
  let arg1 : BitVec 32 := BitVec.ofNat 32 (i 1).val
  let c16_i32 : BitVec 32 := 16#32
  let v27 : BitVec 32 := Scalar.addi arg1 c16_i32
  let v28 : Index := Scalar.indexCast v27
  let c0_15 : Index := 0#32
  ![v28.toNat, 0]
def k0_off4 (i : grid0.Coords) : Fin 3 → Nat :=
  let arg1 : BitVec 32 := BitVec.ofNat 32 (i 1).val
  let c16_i32_16 : BitVec 32 := 16#32
  let v33 : BitVec 32 := Scalar.addi arg1 c16_i32_16
  let v34 : Index := Scalar.indexCast v33
  let c0_17 : Index := 0#32
  let c0_18 : Index := 0#32
  ![v34.toNat, 0, 0]
def k0_cond2 (i : grid0.Coords) : BitVec 1 :=
  let arg1 : BitVec 32 := BitVec.ofNat 32 (i 1).val
  let c15_i32 : BitVec 32 := 15#32
  let v79 : BitVec 1 := Scalar.cmpi .eq arg1 c15_i32
  let v80 : BitVec 32 := Scalar.extui v79
  let c0_i32_44 : BitVec 32 := 0#32
  let v81 : BitVec 1 := Scalar.cmpi .ne v80 c0_i32_44
  v81

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x4x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x4x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== CmpRefIdeal.lean ====
abbrev S2x8192x1536 : Shape := ⟨3, ![2, 8192, 1536]⟩
abbrev S32x128 : Shape := ⟨2, ![32, 128]⟩
abbrev S4096x128 : Shape := ⟨2, ![4096, 128]⟩
abbrev S128x128 : Shape := ⟨2, ![128, 128]⟩
abbrev S511 : Shape := ⟨1, ![511]⟩
abbrev S511x1 : Shape := ⟨2, ![511, 1]⟩
abbrev S_ : Shape := ⟨0, ![]⟩
abbrev S32 : Shape := ⟨1, ![32]⟩
abbrev S1x32 : Shape := ⟨2, ![1, 32]⟩
abbrev S511x32 : Shape := ⟨2, ![511, 32]⟩
abbrev S2x8192x512 : Shape := ⟨3, ![2, 8192, 512]⟩
abbrev S2x8192x4x128 : Shape := ⟨4, ![2, 8192, 4, 128]⟩
abbrev S511x32x1 : Shape := ⟨3, ![511, 32, 1]⟩
abbrev S2x511x32x4x128 : Shape := ⟨5, ![2, 511, 32, 4, 128]⟩
abbrev S32x1x128 : Shape := ⟨3, ![32, 1, 128]⟩
abbrev S1x1x32x1x128 : Shape := ⟨5, ![1, 1, 32, 1, 128]⟩
abbrev S2x511x4x32x128 : Shape := ⟨5, ![2, 511, 4, 32, 128]⟩
abbrev S2x511x4x4096 : Shape := ⟨4, ![2, 511, 4, 4096]⟩
abbrev S2x511x4x128 : Shape := ⟨4, ![2, 511, 4, 128]⟩
abbrev S2x4x511x128 : Shape := ⟨4, ![2, 4, 511, 128]⟩
abbrev S2x4x512x128 : Shape := ⟨4, ![2, 4, 512, 128]⟩

abbrev nBuf : Space → Nat
  | .hbm => 99
  | .vmem => 0
  | .smem => 0
  | _ => 0

abbrev bufTy : (tb : Table) → Fin (tcTables nBuf tb) → BufTy
  | .hbm, ⟨0, _⟩ => ⟨S2x8192x1536, .f32⟩
  | .hbm, ⟨1, _⟩ => ⟨S32x128, .f32⟩
  | .hbm, ⟨2, _⟩ => ⟨S32x128, .f32⟩
  | .hbm, ⟨3, _⟩ => ⟨S4096x128, .f32⟩
  | .hbm, ⟨4, _⟩ => ⟨S4096x128, .f32⟩
  | .hbm, ⟨5, _⟩ => ⟨S128x128, .f32⟩
  | .hbm, ⟨6, _⟩ => ⟨S128x128, .f32⟩
  | .hbm, ⟨7, _⟩ => ⟨S511, .i32⟩
  | .hbm, ⟨8, _⟩ => ⟨S511x1, .i32⟩
  | .hbm, ⟨9, _⟩ => ⟨S_, .i32⟩
  | .hbm, ⟨10, _⟩ => ⟨S511x1, .i32⟩
  | .hbm, ⟨11, _⟩ => ⟨S511x1, .i32⟩
  | .hbm, ⟨12, _⟩ => ⟨S32, .i32⟩
  | .hbm, ⟨13, _⟩ => ⟨S1x32, .i32⟩
  | .hbm, ⟨14, _⟩ => ⟨S511x32, .i32⟩
  | .hbm, ⟨15, _⟩ => ⟨S511x32, .i32⟩
  | .hbm, ⟨16, _⟩ => ⟨S511x32, .i32⟩
  | .hbm, ⟨17, _⟩ => ⟨S2x8192x512, .f32⟩
  | .hbm, ⟨18, _⟩ => ⟨S2x8192x4x128, .f32⟩
  | .hbm, ⟨19, _⟩ => ⟨S_, .i32⟩
  | .hbm, ⟨20, _⟩ => ⟨S511x32, .i32⟩
  | .hbm, ⟨21, _⟩ => ⟨S511x32, .i1⟩
  | .hbm, ⟨22, _⟩ => ⟨S_, .i32⟩
  | .hbm, ⟨23, _⟩ => ⟨S511x32, .i32⟩
  | .hbm, ⟨24, _⟩ => ⟨S511x32, .i32⟩
  | .hbm, ⟨25, _⟩ => ⟨S511x32, .i32⟩
  | .hbm, ⟨26, _⟩ => ⟨S511x32x1, .i32⟩
  | .hbm, ⟨27, _⟩ => ⟨S2x511x32x4x128, .f32⟩
  | .hbm, ⟨28, _⟩ => ⟨S32x1x128, .f32⟩
  | .hbm, ⟨29, _⟩ => ⟨S1x1x32x1x128, .f32⟩
  | .hbm, ⟨30, _⟩ => ⟨S2x511x32x4x128, .f32⟩
  | .hbm, ⟨31, _⟩ => ⟨S2x511x32x4x128, .f32⟩
  | .hbm, ⟨32, _⟩ => ⟨S2x511x4x32x128, .f32⟩
  | .hbm, ⟨33, _⟩ => ⟨S2x511x4x4096, .f32⟩
  | .hbm, ⟨34, _⟩ => ⟨S2x511x4x128, .f32⟩
  | .hbm, ⟨35, _⟩ => ⟨S2x511x4x128, .f32⟩
  | .hbm, ⟨36, _⟩ => ⟨S2x511x4x128, .f32⟩
  | .hbm, ⟨37, _⟩ => ⟨S_, .f32⟩
  | .hbm, ⟨38, _⟩ => ⟨S2x511x4x128, .f32⟩
  | .hbm, ⟨39, _⟩ => ⟨S2x511x4x128, .f32⟩
  | .hbm, ⟨40, _⟩ => ⟨S2x511x4x128, .f32⟩
  | .hbm, ⟨41, _⟩ => ⟨S_, .f32⟩
  | .hbm, ⟨42, _⟩ => ⟨S2x511x4x128, .f32⟩
  | .hbm, ⟨43, _⟩ => ⟨S2x511x4x128, .f32⟩
  | .hbm, ⟨44, _⟩ => ⟨S2x511x4x128, .f32⟩
  | .hbm, ⟨45, _⟩ => ⟨S_, .f32⟩
  | .hbm, ⟨46, _⟩ => ⟨S2x511x4x128, .f32⟩
  | .hbm, ⟨47, _⟩ => ⟨S2x511x4x128, .f32⟩
  | .hbm, ⟨48, _⟩ => ⟨S_, .f32⟩
  | .hbm, ⟨49, _⟩ => ⟨S2x511x4x128, .f32⟩
  | .hbm, ⟨50, _⟩ => ⟨S2x511x4x128, .f32⟩
  | .hbm, ⟨51, _⟩ => ⟨S2x511x4x128, .f32⟩
  | .hbm, ⟨52, _⟩ => ⟨S2x511x4x128, .f32⟩
  | .hbm, ⟨53, _⟩ => ⟨S2x4x511x128, .f32⟩
  | .hbm, ⟨54, _⟩ => ⟨S_, .i32⟩
  | .hbm, ⟨55, _⟩ => ⟨S_, .f32⟩
  | .hbm, ⟨56, _⟩ => ⟨S2x4x512x128, .f32⟩
  | .hbm, ⟨57, _⟩ => ⟨S2x4x512x128, .bf16⟩
  | .hbm, ⟨58, _⟩ => ⟨S2x8192x512, .f32⟩
  | .hbm, ⟨59, _⟩ => ⟨S2x8192x4x128, .f32⟩
  | .hbm, ⟨60, _⟩ => ⟨S_, .i32⟩
  | .hbm, ⟨61, _⟩ => ⟨S511x32, .i32⟩
  | .hbm, ⟨62, _⟩ => ⟨S511x32, .i1⟩
  | .hbm, ⟨63, _⟩ => ⟨S_, .i32⟩
  | .hbm, ⟨64, _⟩ => ⟨S511x32, .i32⟩
  | .hbm, ⟨65, _⟩ => ⟨S511x32, .i32⟩
  | .hbm, ⟨66, _⟩ => ⟨S511x32, .i32⟩
  | .hbm, ⟨67, _⟩ => ⟨S511x32x1, .i32⟩
  | .hbm, ⟨68, _⟩ => ⟨S2x511x32x4x128, .f32⟩
  | .hbm, ⟨69, _⟩ => ⟨S32x1x128, .f32⟩
  | .hbm, ⟨70, _⟩ => ⟨S1x1x32x1x128, .f32⟩
  | .hbm, ⟨71, _⟩ => ⟨S2x511x32x4x128, .f32⟩
  | .hbm, ⟨72, _⟩ => ⟨S2x511x32x4x128, .f32⟩
  | .hbm, ⟨73, _⟩ => ⟨S2x511x4x32x128, .f32⟩
  | .hbm, ⟨74, _⟩ => ⟨S2x511x4x4096, .f32⟩
  | .hbm, ⟨75, _⟩ => ⟨S2x511x4x128, .f32⟩
  | .hbm, ⟨76, _⟩ => ⟨S2x511x4x128, .f32⟩
  | .hbm, ⟨77, _⟩ => ⟨S2x511x4x128, .f32⟩
  | .hbm, ⟨78, _⟩ => ⟨S_, .f32⟩
  | .hbm, ⟨79, _⟩ => ⟨S2x511x4x128, .f32⟩
  | .hbm, ⟨80, _⟩ => ⟨S2x511x4x128, .f32⟩
  | .hbm, ⟨81, _⟩ => ⟨S2x511x4x128, .f32⟩
  | .hbm, ⟨82, _⟩ => ⟨S_, .f32⟩
  | .hbm, ⟨83, _⟩ => ⟨S2x511x4x128, .f32⟩
  | .hbm, ⟨84, _⟩ => ⟨S2x511x4x128, .f32⟩
  | .hbm, ⟨85, _⟩ => ⟨S2x511x4x128, .f32⟩
  | .hbm, ⟨86, _⟩ => ⟨S_, .f32⟩
  | .hbm, ⟨87, _⟩ => ⟨S2x511x4x128, .f32⟩
  | .hbm, ⟨88, _⟩ => ⟨S2x511x4x128, .f32⟩
  | .hbm, ⟨89, _⟩ => ⟨S_, .f32⟩
  | .hbm, ⟨90, _⟩ => ⟨S2x511x4x128, .f32⟩
  | .hbm, ⟨91, _⟩ => ⟨S2x511x4x128, .f32⟩
  | .hbm, ⟨92, _⟩ => ⟨S2x511x4x128, .f32⟩
  | .hbm, ⟨93, _⟩ => ⟨S2x511x4x128, .f32⟩
  | .hbm, ⟨94, _⟩ => ⟨S2x4x511x128, .f32⟩
  | .hbm, ⟨95, _⟩ => ⟨S_, .i32⟩
  | .hbm, ⟨96, _⟩ => ⟨S_, .f32⟩
  | .hbm, ⟨97, _⟩ => ⟨S2x4x512x128, .f32⟩
  | .hbm, ⟨98, _⟩ => ⟨S2x4x512x128, .bf16⟩
  | _, _ => ⟨S2x8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_5 : Ref sig .tc := ⟨.hbm, 54, rfl⟩
abbrev main_call0_v0 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_6 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_8 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_9 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_10 : Ref sig .tc := ⟨.hbm, 86, rfl⟩
abbrev main_v66 : Ref sig .tc := ⟨.hbm, 87, rfl⟩
abbrev main_v67 : Ref sig .tc := ⟨.hbm, 88, rfl⟩
abbrev main_cst_11 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_c_12 : Ref sig .tc := ⟨.hbm, 95, rfl⟩
abbrev main_call1_v0 : Ref sig .tc := ⟨.hbm, 96, rfl⟩
abbrev main_v73 : Ref sig .tc := ⟨.hbm, 97, rfl⟩
abbrev main_v74 : Ref sig .tc := ⟨.hbm, 98, rfl⟩

abbrev nD : Nat := 1
abbrev τ : Topo := Topo.v7x

variable {F : FTy → Type} [FloatOps F]
-- ==== Nsa.lean ====
abbrev S2x8192x4096 : Shape := ⟨3, ![2, 8192, 4096]⟩
abbrev S2x8192x1536 : Shape := ⟨3, ![2, 8192, 1536]⟩
abbrev S2x4x512x128 : Shape := ⟨4, ![2, 4, 512, 128]⟩
abbrev S512x128 : Shape := ⟨2, ![512, 128]⟩
abbrev S8192 : Shape := ⟨1, ![8192]⟩
abbrev S8192x1 : Shape := ⟨2, ![8192, 1]⟩
abbrev S_ : Shape := ⟨0, ![]⟩
abbrev S128 : Shape := ⟨1, ![128]⟩
abbrev S1x128 : Shape := ⟨2, ![1, 128]⟩
abbrev S8192x128 : Shape := ⟨2, ![8192, 128]⟩
abbrev S2x8192x2048 : Shape := ⟨3, ![2, 8192, 2048]⟩
abbrev S1x128x512 : Shape := ⟨3, ![1, 128, 512]⟩
abbrev S1x128x128 : Shape := ⟨3, ![1, 128, 128]⟩
abbrev S1x1x512x128 : Shape := ⟨4, ![1, 1, 512, 128]⟩
abbrev S1x8192x128 : Shape := ⟨3, ![1, 8192, 128]⟩
abbrev S128x512 : Shape := ⟨2, ![128, 512]⟩
abbrev S128x128 : Shape := ⟨2, ![128, 128]⟩
abbrev S512x1 : Shape := ⟨2, ![512, 1]⟩
abbrev S512x512 : Shape := ⟨2, ![512, 512]⟩
abbrev S512 : Shape := ⟨1, ![512]⟩
abbrev S128x1 : Shape := ⟨2, ![128, 1]⟩
abbrev S512x256 : Shape := ⟨2, ![512, 256]⟩
abbrev S1x256x128 : Shape := ⟨3, ![1, 256, 128]⟩
abbrev S256x128 : Shape := ⟨2, ![256, 128]⟩
abbrev S256x256 : Shape := ⟨2, ![256, 256]⟩
abbrev S1x640x128 : Shape := ⟨3, ![1, 640, 128]⟩
abbrev S640x128 : Shape := ⟨2, ![640, 128]⟩
abbrev S512x640 : Shape := ⟨2, ![512, 640]⟩

abbrev nBuf : Space → Nat
  | .hbm => 32
  | .vmem => 20
  | .smem => 0
  | _ => 0

abbrev bufTy : (tb : Table) → Fin (tcTables nBuf tb) → BufTy
  | .hbm, ⟨0, _⟩ => ⟨S2x8192x4096, .bf16⟩
  | .hbm, ⟨1, _⟩ => ⟨S2x8192x1536, .f32⟩
  | .hbm, ⟨2, _⟩ => ⟨S2x4x512x128, .bf16⟩
  | .hbm, ⟨3, _⟩ => ⟨S2x4x512x128, .bf16⟩
  | .hbm, ⟨4, _⟩ => ⟨S512x128, .bf16⟩
  | .hbm, ⟨5, _⟩ => ⟨S8192, .i32⟩
  | .hbm, ⟨6, _⟩ => ⟨S8192x1, .i32⟩
  | .hbm, ⟨7, _⟩ => ⟨S_, .i32⟩
  | .hbm, ⟨8, _⟩ => ⟨S_, .i32⟩
  | .hbm, ⟨9, _⟩ => ⟨S8192x1, .i32⟩
  | .hbm, ⟨10, _⟩ => ⟨S8192x1, .i32⟩
  | .hbm, ⟨11, _⟩ => ⟨S8192x1, .i32⟩
  | .hbm, ⟨12, _⟩ => ⟨S_, .i32⟩
  | .hbm, ⟨13, _⟩ => ⟨S8192x1, .i32⟩
  | .hbm, ⟨14, _⟩ => ⟨S8192x1, .i1⟩
  | .hbm, ⟨15, _⟩ => ⟨S8192x1, .i32⟩
  | .hbm, ⟨16, _⟩ => ⟨S8192x1, .i32⟩
  | .hbm, ⟨17, _⟩ => ⟨S_, .i32⟩
  | .hbm, ⟨18, _⟩ => ⟨S8192x1, .i32⟩
  | .hbm, ⟨19, _⟩ => ⟨S8192x1, .i1⟩
  | .hbm, ⟨20, _⟩ => ⟨S8192x1, .i1⟩
  | .hbm, ⟨21, _⟩ => ⟨S_, .i32⟩
  | .hbm, ⟨22, _⟩ => ⟨S8192x1, .i32⟩
  | .hbm, ⟨23, _⟩ => ⟨S8192x1, .i32⟩
  | .hbm, ⟨24, _⟩ => ⟨S8192x1, .i32⟩
  | .hbm, ⟨25, _⟩ => ⟨S128, .i32⟩
  | .hbm, ⟨26, _⟩ => ⟨S1x128, .i32⟩
  | .hbm, ⟨27, _⟩ => ⟨S8192x128, .i32⟩
  | .hbm, ⟨28, _⟩ => ⟨S8192x128, .i32⟩
  | .hbm, ⟨29, _⟩ => ⟨S8192x128, .i1⟩
  | .hbm, ⟨30, _⟩ => ⟨S8192x128, .bf16⟩
  | .hbm, ⟨31, _⟩ => ⟨S2x8192x2048, .bf16⟩
  | .local _ .vmem, ⟨0, _⟩ => ⟨S1x128x512, .bf16⟩
  | .local _ .vmem, ⟨1, _⟩ => ⟨S1x128x512, .bf16⟩
  | .local _ .vmem, ⟨2, _⟩ => ⟨S1x128x128, .f32⟩
  | .local _ .vmem, ⟨3, _⟩ => ⟨S1x128x128, .f32⟩
  | .local _ .vmem, ⟨4, _⟩ => ⟨S1x1x512x128, .bf16⟩
  | .local _ .vmem, ⟨5, _⟩ => ⟨S1x1x512x128, .bf16⟩
  | .local _ .vmem, ⟨6, _⟩ => ⟨S1x1x512x128, .bf16⟩
  | .local _ .vmem, ⟨7, _⟩ => ⟨S1x1x512x128, .bf16⟩
  | .local _ .vmem, ⟨8, _⟩ => ⟨S1x8192x128, .bf16⟩
  | .local _ .vmem, ⟨9, _⟩ => ⟨S1x8192x128, .bf16⟩
  | .local _ .vmem, ⟨10, _⟩ => ⟨S1x8192x128, .bf16⟩
  | .local _ .vmem, ⟨11, _⟩ => ⟨S1x8192x128, .bf16⟩
  | .local _ .vmem, ⟨12, _⟩ => ⟨S1x8192x128, .bf16⟩
  | .local _ .vmem, ⟨13, _⟩ => ⟨S1x8192x128, .bf16⟩
  | .local _ .vmem, ⟨14, _⟩ => ⟨S1x8192x128, .bf16⟩
  | .local _ .vmem, ⟨15, _⟩ => ⟨S1x8192x128, .bf16⟩
  | .local _ .vmem, ⟨16, _⟩ => ⟨S8192x128, .bf16⟩
  | .local _ .vmem, ⟨17, _⟩ => ⟨S512x128, .bf16⟩
  | .local _ .vmem, ⟨18, _⟩ => ⟨S1x128x512, .bf16⟩
  | .local _ .vmem, ⟨19, _⟩ => ⟨S1x128x512, .bf16⟩
  | _, _ => ⟨S2x8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨3, ![2, 4, 64], ![false, false, false]⟩

@[reducible] def k0_t1_loop (i : grid0.Coords) : Scf.Loop 32 :=
  let c0_i32_118 : BitVec 32 := 0#32
  let arg2 : BitVec 32 := BitVec.ofNat 32 (i 2).val
  let c128_i32 : BitVec 32 := 128#32
  let v0 : BitVec 32 := Scalar.muli arg2 c128_i32
  let c128_i32_109 : BitVec 32 := 128#32
  let v314 : BitVec 32 := Scalar.addi v0 c128_i32_109
  let c256_i32 : BitVec 32 := 256#32
  let v315 : BitVec 32 := Scalar.addi v314 c256_i32
  let c1_i32_110 : BitVec 32 := 1#32
  let v316 : BitVec 32 := Scalar.subi v315 c1_i32_110
  let c0_i32_112 : BitVec 32 := 0#32
  let v318 : BitVec 1 := Scalar.cmpi .sgt v316 c0_i32_112
  let v319 : BitVec 32 := Scalar.extui v318
  let c0_i32_113 : BitVec 32 := 0#32
  let v320 : BitVec 1 := Scalar.cmpi .slt v316 c0_i32_113
  let v321 : BitVec 32 := Scalar.extui v320
  let v322 : BitVec 32 := Scalar.subi v319 v321
  let c256_i32_111 : BitVec 32 := 256#32
  let c0_i32_114 : BitVec 32 := 0#32
  let v323 : BitVec 1 := Scalar.cmpi .sgt c256_i32_111 c0_i32_114
  let v324 : BitVec 32 := Scalar.extui v323
  let c0_i32_115 : BitVec 32 := 0#32
  let v325 : BitVec 1 := Scalar.cmpi .slt c256_i32_111 c0_i32_115
  let v326 : BitVec 32 := Scalar.extui v325
  let v327 : BitVec 32 := Scalar.subi v324 v326
  let v328 : BitVec 1 := Scalar.cmpi .ne v322 v327
  let v329 : BitVec 32 := Scalar.remsi v316 c256_i32_111
  let c0_i32_116 : BitVec 32 := 0#32
  let v330 : BitVec 1 := Scalar.cmpi .ne v329 c0_i32_116
  let v331 : BitVec 1 := Scalar.andi v328 v330
  let v317 : BitVec 32 := Scalar.divsi v316 c256_i32_111
  let c1_i32_117 : BitVec 32 := 1#32
  let v332 : BitVec 32 := Scalar.subi v317 c1_i32_117
  let v333 : BitVec 32 := Scalar.select v331 v332 v317
  let v334 : BitVec 32 := Scalar.subi v333 c0_i32_118
  let c1_i32_119 : BitVec 32 := 1#32
  let v336 : BitVec 32 := Scalar.divsi v334 c1_i32_119
  let v337 : BitVec 32 := Scalar.muli v336 c1_i32_119
  let v338 : BitVec 32 := Scalar.addi c0_i32_118 v337
  let c1_i32_120 : BitVec 32 := 1#32
  ⟨c0_i32_118, v338, c1_i32_120⟩
def k0_mult1 (i : grid0.Coords) (k0_t1 : Fin (k0_t1_loop i).trips) : BitVec 32 :=
  let c0_i32_118 : BitVec 32 := 0#32
  let c1_i32_120 : BitVec 32 := 1#32
  let arg14 : BitVec 32 := Scf.iv c0_i32_118 c1_i32_120 k0_t1
  let c256_i32_147 : BitVec 32 := 256#32
  let v455 : BitVec 32 := Scalar.muli arg14 c256_i32_147
  v455
def k0_off1 (i : grid0.Coords) (k0_t1 : Fin (k0_t1_loop i).trips) : Fin 3 → Nat :=
  let c0_148 : Index := 0#32
  let c0_i32_118 : BitVec 32 := 0#32
  let c1_i32_120 : BitVec 32 := 1#32
  let arg14 : BitVec 32 := Scf.iv c0_i32_118 c1_i32_120 k0_t1
  let c256_i32_147 : BitVec 32 := 256#32
  let v455 : BitVec 32 := Scalar.muli arg14 c256_i32_147
  let v456 : BitVec 32 := v455
  let v457 : Index := Scalar.indexCast v456
  let c0_149 : Index := 0#32
  ![0, v457.toNat, 0]
def k0_off2 (i : grid0.Coords) (k0_t1 : Fin (k0_t1_loop i).trips) : Fin 2 → Nat :=
  let c0_i32_118 : BitVec 32 := 0#32
  let c1_i32_120 : BitVec 32 := 1#32
  let arg14 : BitVec 32 := Scf.iv c0_i32_118 c1_i32_120 k0_t1
  let c256_i32_147 : BitVec 32 := 256#32
  let v455 : BitVec 32 := Scalar.muli arg14 c256_i32_147
  let v456 : BitVec 32 := v455
  let v460 : Index := Scalar.indexCast v456
  let c0_150 : Index := 0#32
  ![v460.toNat, 0]
@[reducible] def k0_t2_loop (i : grid0.Coords) : Scf.Loop 32 :=
  let c0_i32_118 : BitVec 32 := 0#32
  let arg2 : BitVec 32 := BitVec.ofNat 32 (i 2).val
  let c128_i32 : BitVec 32 := 128#32
  let v0 : BitVec 32 := Scalar.muli arg2 c128_i32
  let c128_i32_109 : BitVec 32 := 128#32
  let v314 : BitVec 32 := Scalar.addi v0 c128_i32_109
  let c256_i32 : BitVec 32 := 256#32
  let v315 : BitVec 32 := Scalar.addi v314 c256_i32
  let c1_i32_110 : BitVec 32 := 1#32
  let v316 : BitVec 32 := Scalar.subi v315 c1_i32_110
  let c0_i32_112 : BitVec 32 := 0#32
  let v318 : BitVec 1 := Scalar.cmpi .sgt v316 c0_i32_112
  let v319 : BitVec 32 := Scalar.extui v318
  let c0_i32_113 : BitVec 32 := 0#32
  let v320 : BitVec 1 := Scalar.cmpi .slt v316 c0_i32_113
  let v321 : BitVec 32 := Scalar.extui v320
  let v322 : BitVec 32 := Scalar.subi v319 v321
  let c256_i32_111 : BitVec 32 := 256#32
  let c0_i32_114 : BitVec 32 := 0#32
  let v323 : BitVec 1 := Scalar.cmpi .sgt c256_i32_111 c0_i32_114
  let v324 : BitVec 32 := Scalar.extui v323
  let c0_i32_115 : BitVec 32 := 0#32
  let v325 : BitVec 1 := Scalar.cmpi .slt c256_i32_111 c0_i32_115
  let v326 : BitVec 32 := Scalar.extui v325
  let v327 : BitVec 32 := Scalar.subi v324 v326
  let v328 : BitVec 1 := Scalar.cmpi .ne v322 v327
  let v329 : BitVec 32 := Scalar.remsi v316 c256_i32_111
  let c0_i32_116 : BitVec 32 := 0#32
  let v330 : BitVec 1 := Scalar.cmpi .ne v329 c0_i32_116
  let v331 : BitVec 1 := Scalar.andi v328 v330
  let v317 : BitVec 32 := Scalar.divsi v316 c256_i32_111
  let c1_i32_117 : BitVec 32 := 1#32
  let v332 : BitVec 32 := Scalar.subi v317 c1_i32_117
  let v333 : BitVec 32 := Scalar.select v331 v332 v317
  let v334 : BitVec 32 := Scalar.subi v333 c0_i32_118
  let c1_i32_119 : BitVec 32 := 1#32
  let v336 : BitVec 32 := Scalar.divsi v334 c1_i32_119
  let v337 : BitVec 32 := Scalar.muli v336 c1_i32_119
  let v338 : BitVec 32 := Scalar.addi c0_i32_118 v337
  let v335 : BitVec 32 := Scalar.addi c0_i32_118 v334
  let c1_i32_121 : BitVec 32 := 1#32
  ⟨v338, v335, c1_i32_121⟩
def k0_mult2 (i : grid0.Coords) (k0_t2 : Fin (k0_t2_loop i).trips) : BitVec 32 :=
  let c0_i32_118 : BitVec 32 := 0#32
  let arg2 : BitVec 32 := BitVec.ofNat 32 (i 2).val
  let c128_i32 : BitVec 32 := 128#32
  let v0 : BitVec 32 := Scalar.muli arg2 c128_i32
  let c128_i32_109 : BitVec 32 := 128#32
  let v314 : BitVec 32 := Scalar.addi v0 c128_i32_109
  let c256_i32 : BitVec 32 := 256#32
  let v315 : BitVec 32 := Scalar.addi v314 c256_i32
  let c1_i32_110 : BitVec 32 := 1#32
  let v316 : BitVec 32 := Scalar.subi v315 c1_i32_110
  let c0_i32_112 : BitVec 32 := 0#32
  let v318 : BitVec 1 := Scalar.cmpi .sgt v316 c0_i32_112
  let v319 : BitVec 32 := Scalar.extui v318
  let c0_i32_113 : BitVec 32 := 0#32
  let v320 : BitVec 1 := Scalar.cmpi .slt v316 c0_i32_113
  let v321 : BitVec 32 := Scalar.extui v320
  let v322 : BitVec 32 := Scalar.subi v319 v321
  let c256_i32_111 : BitVec 32 := 256#32
  let c0_i32_114 : BitVec 32 := 0#32
  let v323 : BitVec 1 := Scalar.cmpi .sgt c256_i32_111 c0_i32_114
  let v324 : BitVec 32 := Scalar.extui v323
  let c0_i32_115 : BitVec 32 := 0#32
  let v325 : BitVec 1 := Scalar.cmpi .slt c256_i32_111 c0_i32_115
  let v326 : BitVec 32 := Scalar.extui v325
  let v327 : BitVec 32 := Scalar.subi v324 v326
  let v328 : BitVec 1 := Scalar.cmpi .ne v322 v327
  let v329 : BitVec 32 := Scalar.remsi v316 c256_i32_111
  let c0_i32_116 : BitVec 32 := 0#32
  let v330 : BitVec 1 := Scalar.cmpi .ne v329 c0_i32_116
  let v331 : BitVec 1 := Scalar.andi v328 v330
  let v317 : BitVec 32 := Scalar.divsi v316 c256_i32_111
  let c1_i32_117 : BitVec 32 := 1#32
  let v332 : BitVec 32 := Scalar.subi v317 c1_i32_117
  let v333 : BitVec 32 := Scalar.select v331 v332 v317
  let v334 : BitVec 32 := Scalar.subi v333 c0_i32_118
  let c1_i32_119 : BitVec 32 := 1#32
  let v336 : BitVec 32 := Scalar.divsi v334 c1_i32_119
  let v337 : BitVec 32 := Scalar.muli v336 c1_i32_119
  let v338 : BitVec 32 := Scalar.addi c0_i32_118 v337
  let c1_i32_121 : BitVec 32 := 1#32
  let arg14 : BitVec 32 := Scf.iv v338 c1_i32_121 k0_t2
  let c256_i32_147 : BitVec 32 := 256#32
  let v455 : BitVec 32 := Scalar.muli arg14 c256_i32_147
  v455
def k0_off3 (i : grid0.Coords) (k0_t2 : Fin (k0_t2_loop i).trips) : Fin 3 → Nat :=
  let c0_148 : Index := 0#32
  let c0_i32_118 : BitVec 32 := 0#32
  let arg2 : BitVec 32 := BitVec.ofNat 32 (i 2).val
  let c128_i32 : BitVec 32 := 128#32
  let v0 : BitVec 32 := Scalar.muli arg2 c128_i32
  let c128_i32_109 : BitVec 32 := 128#32
  let v314 : BitVec 32 := Scalar.addi v0 c128_i32_109
  let c256_i32 : BitVec 32 := 256#32
  let v315 : BitVec 32 := Scalar.addi v314 c256_i32
  let c1_i32_110 : BitVec 32 := 1#32
  let v316 : BitVec 32 := Scalar.subi v315 c1_i32_110
  let c0_i32_112 : BitVec 32 := 0#32
  let v318 : BitVec 1 := Scalar.cmpi .sgt v316 c0_i32_112
  let v319 : BitVec 32 := Scalar.extui v318
  let c0_i32_113 : BitVec 32 := 0#32
  let v320 : BitVec 1 := Scalar.cmpi .slt v316 c0_i32_113
  let v321 : BitVec 32 := Scalar.extui v320
  let v322 : BitVec 32 := Scalar.subi v319 v321
  let c256_i32_111 : BitVec 32 := 256#32
  let c0_i32_114 : BitVec 32 := 0#32
  let v323 : BitVec 1 := Scalar.cmpi .sgt c256_i32_111 c0_i32_114
  let v324 : BitVec 32 := Scalar.extui v323
  let c0_i32_115 : BitVec 32 := 0#32
  let v325 : BitVec 1 := Scalar.cmpi .slt c256_i32_111 c0_i32_115
  let v326 : BitVec 32 := Scalar.extui v325
  let v327 : BitVec 32 := Scalar.subi v324 v326
  let v328 : BitVec 1 := Scalar.cmpi .ne v322 v327
  let v329 : BitVec 32 := Scalar.remsi v316 c256_i32_111
  let c0_i32_116 : BitVec 32 := 0#32
  let v330 : BitVec 1 := Scalar.cmpi .ne v329 c0_i32_116
  let v331 : BitVec 1 := Scalar.andi v328 v330
  let v317 : BitVec 32 := Scalar.divsi v316 c256_i32_111
  let c1_i32_117 : BitVec 32 := 1#32
  let v332 : BitVec 32 := Scalar.subi v317 c1_i32_117
  let v333 : BitVec 32 := Scalar.select v331 v332 v317
  let v334 : BitVec 32 := Scalar.subi v333 c0_i32_118
  let c1_i32_119 : BitVec 32 := 1#32
  let v336 : BitVec 32 := Scalar.divsi v334 c1_i32_119
  let v337 : BitVec 32 := Scalar.muli v336 c1_i32_119
  let v338 : BitVec 32 := Scalar.addi c0_i32_118 v337
  let c1_i32_121 : BitVec 32 := 1#32
  let arg14 : BitVec 32 := Scf.iv v338 c1_i32_121 k0_t2
  let c256_i32_147 : BitVec 32 := 256#32
  let v455 : BitVec 32 := Scalar.muli arg14 c256_i32_147
  let v456 : BitVec 32 := v455
  let v457 : Index := Scalar.indexCast v456
  let c0_149 : Index := 0#32
  ![0, v457.toNat, 0]
def k0_off4 (i : grid0.Coords) (k0_t2 : Fin (k0_t2_loop i).trips) : Fin 2 → Nat :=
  let c0_i32_118 : BitVec 32 := 0#32
  let arg2 : BitVec 32 := BitVec.ofNat 32 (i 2).val
  let c128_i32 : BitVec 32 := 128#32
  let v0 : BitVec 32 := Scalar.muli arg2 c128_i32
  let c128_i32_109 : BitVec 32 := 128#32
  let v314 : BitVec 32 := Scalar.addi v0 c128_i32_109
  let c256_i32 : BitVec 32 := 256#32
  let v315 : BitVec 32 := Scalar.addi v314 c256_i32
  let c1_i32_110 : BitVec 32 := 1#32
  let v316 : BitVec 32 := Scalar.subi v315 c1_i32_110
  let c0_i32_112 : BitVec 32 := 0#32
  let v318 : BitVec 1 := Scalar.cmpi .sgt v316 c0_i32_112
  let v319 : BitVec 32 := Scalar.extui v318
  let c0_i32_113 : BitVec 32 := 0#32
  let v320 : BitVec 1 := Scalar.cmpi .slt v316 c0_i32_113
  let v321 : BitVec 32 := Scalar.extui v320
  let v322 : BitVec 32 := Scalar.subi v319 v321
  let c256_i32_111 : BitVec 32 := 256#32
  let c0_i32_114 : BitVec 32 := 0#32
  let v323 : BitVec 1 := Scalar.cmpi .sgt c256_i32_111 c0_i32_114
  let v324 : BitVec 32 := Scalar.extui v323
  let c0_i32_115 : BitVec 32 := 0#32
  let v325 : BitVec 1 := Scalar.cmpi .slt c256_i32_111 c0_i32_115
  let v326 : BitVec 32 := Scalar.extui v325
  let v327 : BitVec 32 := Scalar.subi v324 v326
  let v328 : BitVec 1 := Scalar.cmpi .ne v322 v327
  let v329 : BitVec 32 := Scalar.remsi v316 c256_i32_111
  let c0_i32_116 : BitVec 32 := 0#32
  let v330 : BitVec 1 := Scalar.cmpi .ne v329 c0_i32_116
  let v331 : BitVec 1 := Scalar.andi v328 v330
  let v317 : BitVec 32 := Scalar.divsi v316 c256_i32_111
  let c1_i32_117 : BitVec 32 := 1#32
  let v332 : BitVec 32 := Scalar.subi v317 c1_i32_117
  let v333 : BitVec 32 := Scalar.select v331 v332 v317
  let v334 : BitVec 32 := Scalar.subi v333 c0_i32_118
  let c1_i32_119 : BitVec 32 := 1#32
  let v336 : BitVec 32 := Scalar.divsi v334 c1_i32_119
  let v337 : BitVec 32 := Scalar.muli v336 c1_i32_119
  let v338 : BitVec 32 := Scalar.addi c0_i32_118 v337
  let c1_i32_121 : BitVec 32 := 1#32
  let arg14 : BitVec 32 := Scf.iv v338 c1_i32_121 k0_t2
  let c256_i32_147 : BitVec 32 := 256#32
  let v455 : BitVec 32 := Scalar.muli arg14 c256_i32_147
  let v456 : BitVec 32 := v455
  let v460 : Index := Scalar.indexCast v456
  let c0_150 : Index := 0#32
  ![v460.toNat, 0]
def k0_mult3 (i : grid0.Coords) : BitVec 32 :=
  let c7552_i32 : BitVec 32 := 7552#32
  let c0_i32_122 : BitVec 32 := 0#32
  let arg2 : BitVec 32 := BitVec.ofNat 32 (i 2).val
  let c128_i32 : BitVec 32 := 128#32
  let v0 : BitVec 32 := Scalar.muli arg2 c128_i32
  let c512_i32 : BitVec 32 := 512#32
  let v343 : BitVec 32 := Scalar.subi v0 c512_i32
  let v344 : BitVec 32 := Scalar.maxsi c0_i32_122 v343
  let v345 : BitVec 32 := Scalar.minsi c7552_i32 v344
  v345
def k0_off5 (i : grid0.Coords) : Fin 3 → Nat :=
  let c0_123 : Index := 0#32
  let c7552_i32 : BitVec 32 := 7552#32
  let c0_i32_122 : BitVec 32 := 0#32
  let arg2 : BitVec 32 := BitVec.ofNat 32 (i 2).val
  let c128_i32 : BitVec 32 := 128#32
  let v0 : BitVec 32 := Scalar.muli arg2 c128_i32
  let c512_i32 : BitVec 32 := 512#32
  let v343 : BitVec 32 := Scalar.subi v0 c512_i32
  let v344 : BitVec 32 := Scalar.maxsi c0_i32_122 v343
  let v345 : BitVec 32 := Scalar.minsi c7552_i32 v344
  let v346 : BitVec 32 := v345
  let v347 : Index := Scalar.indexCast v346
  let c0_124 : Index := 0#32
  ![0, v347.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c28_i32 : BitVec 32 := 28#32
  let v0 : BitVec 32 := Scalar.addi c28_i32 arg1
  let c0_i32 : BitVec 32 := 0#32
  let c0_i32_0 : BitVec 32 := 0#32
  ![arg0.toNat, c0_i32.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x8192x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x8192x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 1 → Memref sig .tc .vmem S8192x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S512x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S1x128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== Proof.Online.lean ====
/-
  The streaming softmax over the extended reals: a row's running maximum, running sum and running weighted sum
  represent two sums of real exponentials, whatever the maximum is; one block of keys adds its own exponentials to
  both; the quotient of the two at the end is the softmax average. A row of the plain softmax is the same average.
-/
module

public import Idealize.ShloMosaic.Lib.Pointwise

@[expose] public section

noncomputable section

open Idealize.ShloMosaic

namespace Cert.Softmax

/-- A finite sum of reals, read in the extended reals. -/
theorem coe_sum {ι : Type*} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

/-- The state of one row and one value lane: `m` the running maximum, `l` the running sum and `a` the running weighted
    sum represent the sums `L` and `A` of unscaled exponentials. Before the first block the maximum is `⊥`. -/
def Rep (m l a : EReal) (L A : ℝ) : Prop :=
  (m = ⊥ ∧ l = 0 ∧ a = 0 ∧ L = 0 ∧ A = 0) ∨
    ∃ M : ℝ, m = M ∧ l = ((Real.exp (-M) * L : ℝ) : EReal) ∧ a = ((Real.exp (-M) * A : ℝ) : EReal)

theorem Rep.start : Rep ⊥ 0 0 0 0 := .inl ⟨rfl, rfl, rfl, rfl, rfl⟩

section
variable {n : ℕ} (p : Fin n → Prop) [DecidablePred p] (σ w : Fin n → ℝ) (s : Fin n → EReal)

/-- The maximum of a row of scores, some real and the masked ones `⊥`, with a start that is not `⊤`, is real. -/
theorem max_real (hs : ∀ x, s x = if p x then (σ x : EReal) else ⊥) (hex : ∃ x, p x) (b : EReal) (hb : b ≠ ⊤) :
    ∃ M : ℝ, max b (Finset.univ.fold max ⊥ s) = M := by
  have h1 : Finset.univ.fold max ⊥ s < ⊤ := by
    rw [Finset.fold_max_lt]
    refine ⟨bot_lt_top, fun x _ => ?_⟩
    rw [hs]; split
    · exact EReal.coe_lt_top _
    · exact bot_lt_top
  obtain ⟨x, hx⟩ := hex
  have h2 : (σ x : EReal) ≤ Finset.univ.fold max ⊥ s := by
    rw [Finset.le_fold_max]
    exact .inr ⟨x, Finset.mem_univ _, by rw [hs, if_pos hx]⟩
  have h3 : max b (Finset.univ.fold max ⊥ s) ≠ ⊤ := (max_lt (lt_top_iff_ne_top.mpr hb) h1).ne
  have h4 : max b (Finset.univ.fold max ⊥ s) ≠ ⊥ :=
    (lt_of_lt_of_le (EReal.bot_lt_coe (σ x)) (h2.trans (le_max_right _ _))).ne'
  exact ⟨_, (EReal.coe_toReal h3 h4).symm⟩

/-- An exponential of a score less a real maximum: the unscaled exponential, scaled; a masked one is 0. -/
theorem exp_sub (hs : ∀ x, s x = if p x then (σ x : EReal) else ⊥) (M : ℝ) (x : Fin n) :
    Ideal.exp (s x - (M : EReal)) = ((Real.exp (-M) * (if p x then Real.exp (σ x) else 0) : ℝ) : EReal) := by
  rw [hs]; split
  · rw [← EReal.coe_sub, Ideal.exp_coe, ← Real.exp_add, neg_add_eq_sub]
  · rw [show (⊥ : EReal) - (M : EReal) = ⊥ from EReal.bot_sub _, Ideal.exp_bot]; simp

/-- One block of keys: the rescaled state and the block's exponentials represent the sums with the block's terms. -/
theorem Rep.step {m l a : EReal} {L A : ℝ} (h : Rep m l a L A)
    (hs : ∀ x, s x = if p x then (σ x : EReal) else ⊥) (hex : ∃ x, p x) (m' : EReal)
    (hm' : m' = max m (Finset.univ.fold max ⊥ s)) :
    Rep m' (Ideal.exp (m - m') * l + ∑ x, Ideal.exp (s x - m'))
      (Ideal.exp (m - m') * a + ∑ x, Ideal.exp (s x - m') * (w x : EReal))
      (L + ∑ x, if p x then Real.exp (σ x) else 0) (A + ∑ x, if p x then Real.exp (σ x) * w x else 0) := by
  have hm : m ≠ ⊤ := by
    rcases h with ⟨h, _⟩ | ⟨M, h, _⟩ <;> rw [h]
    · exact bot_ne_top
    · exact EReal.coe_ne_top M
  obtain ⟨M', hM'⟩ := max_real p σ s hs hex m hm
  rw [hM'] at hm'
  subst hm'
  refine .inr ⟨M', rfl, ?_, ?_⟩
  · simp only [exp_sub p σ s hs]
    rw [← coe_sum, ← Finset.mul_sum]
    rcases h with ⟨rfl, rfl, -, rfl, -⟩ | ⟨M, rfl, rfl, -⟩
    · rw [mul_zero, zero_add, zero_add]
    · rw [← EReal.coe_sub, Ideal.exp_coe, ← EReal.coe_mul, ← EReal.coe_add, ← mul_assoc, ← Real.exp_add, mul_add]
      congr 4; ring
  · have hx : ∀ x, Ideal.exp (s x - (M' : EReal)) * (w x : EReal)
        = ((Real.exp (-M') * (if p x then Real.exp (σ x) * w x else 0) : ℝ) : EReal) := fun x => by
      rw [exp_sub p σ s hs, ← EReal.coe_mul]
      congr 1; split <;> ring
    simp only [hx]
    rw [← coe_sum, ← Finset.mul_sum]
    rcases h with ⟨rfl, -, rfl, -, rfl⟩ | ⟨M, rfl, -, rfl⟩
    · rw [mul_zero, zero_add, zero_add]
    · rw [← EReal.coe_sub, Ideal.exp_coe, ← EReal.coe_mul, ← EReal.coe_add, ← mul_assoc, ← Real.exp_add, mul_add]
      congr 4; ring

/-- A row of the plain softmax (the maximum subtracted, the exponentials divided by their sum). -/
theorem row (hs : ∀ x, s x = if p x then (σ x : EReal) else ⊥) (hex : ∃ x, p x) (x : Fin n) :
    Ideal.div (Ideal.exp (s x - max ⊥ (Finset.univ.fold max ⊥ s)))
        (∑ y, Ideal.exp (s y - max ⊥ (Finset.univ.fold max ⊥ s)))
      = (((if p x then Real.exp (σ x) else 0) / ∑ y, (if p y then Real.exp (σ y) else 0) : ℝ) : EReal) := by
  obtain ⟨M, hM⟩ := max_real p σ s hs hex ⊥ bot_ne_top
  rw [hM]
  simp only [exp_sub p σ s hs]
  rw [← coe_sum, ← Finset.mul_sum]
  have hpos : 0 < ∑ y, (if p y then Real.exp (σ y) else 0) := by
    obtain ⟨y, hy⟩ := hex
    refine Finset.sum_pos' (fun z _ => ?_) ⟨y, Finset.mem_univ _, ?_⟩
    · split
      · exact (Real.exp_pos _).le
      · exact le_rfl
    · rw [if_pos hy]; exact Real.exp_pos _
  rw [Ideal.div_coe (mul_pos (Real.exp_pos _) hpos).ne', ← EReal.coe_mul]
  congr 1
  have := (Real.exp_pos (-M)).ne'
  field_simp

end

/-- The quotient at the end of a row. -/
theorem Rep.quot {m l a : EReal} {L A : ℝ} (h : Rep m l a L A) (hL : L ≠ 0) : Ideal.div a l = ((A / L : ℝ) : EReal) := by
  rcases h with ⟨-, -, -, h, -⟩ | ⟨M, -, rfl, rfl⟩
  · exact absurd h hL
  · have := (Real.exp_pos (-M)).ne'
    rw [Ideal.div_coe (mul_ne_zero this hL), ← EReal.coe_mul]
    congr 1
    field_simp

/-- The keys of the blocks before a diagonal block, and those of it that are kept. -/
theorem sum_prefix (f : ℕ → ℝ) (i r N : ℕ) (hr : r < 256) (hN : 256 * i + r < N) :
    (∑ j ∈ Finset.range (256 * i), f j) + ∑ x : Fin 256, (if x.val ≤ r then f (256 * i + x.val) else 0)
      = ∑ j : Fin N, if j.val ≤ 256 * i + r then f j.val else 0 := by
  rw [Fin.sum_univ_eq_sum_range (fun x => if x ≤ r then f (256 * i + x) else 0) 256,
    Fin.sum_univ_eq_sum_range (fun j => if j ≤ 256 * i + r then f j else 0) N]
  rw [← Finset.sum_filter, ← Finset.sum_filter,
    show (Finset.range 256).filter (fun x => x ≤ r) = Finset.range (r + 1) from by ext x; simp; omega,
    show (Finset.range N).filter (fun x => x ≤ 256 * i + r) = Finset.range (256 * i + (r + 1)) from by
      ext x; simp; omega,
    Finset.sum_range_add f (256 * i) (r + 1)]

end Cert.Softmax
-- ==== Proof.Spec.lean ====
module

public import proofs.«01_k».proof.Proof.Online

@[expose] public section

set_option maxRecDepth 16384

noncomputable section

open Idealize.ShloMosaic

namespace Cert.Softmax

/-! ## Differential attention as numbers: what both programs compute

`X b s x` is the projections' entry at batch `b`, position `s`, column `x` (queries, keys, values: columns 0, 1024, 2048 on). -/

/-- The score of map `cc` of head `h` of the query at `s` with the key at `j`. -/
def score (X : ℕ → ℕ → ℕ → ℝ) (b h cc s j : ℕ) : ℝ :=
  (∑ e : Fin 64, X b s (128 * h + 64 * cc + e.val) * X b j (1024 + 128 * h + 64 * cc + e.val)) * (1 / 8)

/-- The softmax weights' sum of map `cc` over the keys up to the query. -/
def weight (X : ℕ → ℕ → ℕ → ℝ) (b h cc s : ℕ) : ℝ :=
  ∑ j : Fin 8192, if j.val ≤ s then Real.exp (score X b h cc s j.val) else 0

/-- The average of the values under map `cc`. -/
def mean (X : ℕ → ℕ → ℕ → ℝ) (b h cc s d : ℕ) : ℝ :=
  (∑ j : Fin 8192, if j.val ≤ s then Real.exp (score X b h cc s j.val) * X b j.val (2048 + 128 * h + d) else 0) / weight X b h cc s

/-- λ, from its four vectors. -/
def lam (x0 x1 x2 x3 : Fin 64 → EReal) : EReal :=
  Ideal.exp (∑ x, x0 x * x1 x) - Ideal.exp (∑ x, x2 x * x3 x) + Ideal.ofBits .f32 0x3E4CCCCD#32

/-- The normalised, scaled row of a head. -/
def nrm (o : Fin 128 → EReal) (g : EReal) (d : Fin 128) : EReal :=
  o d * Ideal.rsqrt (Ideal.div (∑ x, o x * o x) (Ideal.ofBits .f32 0x43000000#32) + Ideal.ofBits .f32 0x3727C5AC#32) * g
    * Ideal.ofBits .f32 0x3F4CCCCD#32

/-- The result at batch `b`, position `s`, head `h`, lane `d`. -/
def result (X : ℕ → ℕ → ℕ → ℝ) (l : EReal) (g : Fin 128 → EReal) (b s h : ℕ) (d : Fin 128) : EReal :=
  nrm (fun d => (mean X b h 0 s d.val : EReal) - l * (mean X b h 1 s d.val : EReal)) (g d) d

end Cert.Softmax
-- ==== Proof.Trip.lean ====
module

public import proofs.«01_k».proof.Proof.Gen.KernelIdeal.Value
public import proofs.«01_k».proof.Proof.Spec
public import Idealize.ShloMosaic.Lib.Pipeline.ValueKit

@[expose] public section

set_option maxRecDepth 16384

noncomputable section

open Idealize.ShloMosaic Idealize.ShloMosaic.TcCoe Idealize.SL.Sem

namespace Cert.KernelIdeal.Diff

open Cert.KernelIdeal Cert.KernelIdeal.Gen Cert.Softmax

/-! ## The trip counts and the offsets of the loads -/

theorem trips1 (i : grid0.Coords) : (k0_t1_loop i).trips = (i 2).val := by
  have h : ∀ x : Fin 32, Scf.trips (0#32) (Scalar.addi (0#32) (Scalar.muli (Scalar.divsi
      (Scalar.subi (BitVec.ofNat 32 x.val) 0#32) 1#32) 1#32)) 1#32 = x.val := by decide +kernel
  exact h (i 2)

theorem trips2 (i : grid0.Coords) : (k0_t2_loop i).trips = 0 := by
  have h : ∀ x : Fin 32, Scf.trips (Scalar.addi (0#32) (Scalar.muli (Scalar.divsi
      (Scalar.subi (BitVec.ofNat 32 x.val) 0#32) 1#32) 1#32))
      (Scalar.addi (0#32) (Scalar.subi (BitVec.ofNat 32 x.val) 0#32)) 1#32 = 0 := by decide +kernel
  exact h (i 2)

theorem off1 (i : grid0.Coords) (k : Fin (k0_t1_loop i).trips) : k0_off1 i k = ![0, 256 * k.val, 0] := by
  have h : ∀ x : Fin 32, (Scalar.indexCast (Scalar.muli (Scf.iv (0#32) 1#32 x.val) 256#32) : Index).toNat
      = 256 * x.val := by decide +kernel
  have hk : k.val < 32 := by have := k.isLt; have := trips1 i; have h2 : (i 2).val < 32 := (i 2).isLt; omega
  show ![0, (Scalar.indexCast (Scalar.muli (Scf.iv (0#32) 1#32 k.val) 256#32) : Index).toNat, 0] = _
  rw [h ⟨k.val, hk⟩]

theorem off3 (i : grid0.Coords) : k0_off3 i = ![0, 256 * (i 2).val, 0] := by
  have h : ∀ x : Fin 32, (Scalar.indexCast (Scalar.muli (BitVec.ofNat 32 x.val) 256#32) : Index).toNat
      = 256 * x.val := by decide +kernel
  show ![0, (Scalar.indexCast (Scalar.muli (BitVec.ofNat 32 (i 2).val) 256#32) : Index).toNat, 0] = _
  rw [h (i 2)]

/-! ## The payloads at an index -/

/-- Rows `256 k … 256 k + 255` of a head's keys (or values), as a load of them reads the staged block. -/
theorem ld_apply (X : Vec Ideal S1x8192x128 .bf16) (off : Fin 3 → Nat) (k : ℕ) (h : ∀ a, off a + S1x256x128.size a ≤ S1x8192x128.size a)
    (ho : off = ![0, 256 * k, 0]) (l : Fin 256) (d : Fin 128) (hl : 256 * k + l.val < 8192) :
    View.ld X (Rect.unit off S1x256x128.size h) (ix3 0 l d) = X (ix3 0 ⟨256 * k + l.val, hl⟩ d) := by
  subst ho
  pointwise

theorem pay2_apply (q : Vec Ideal S1x256x128 .bf16) (r : Fin 512) (d : Fin 128) :
    k0_pay2 q (ix2 r d)
      = (if (r.val < 256 ↔ d.val < 64) then q (ix3 0 ⟨r.val % 256, Nat.mod_lt _ (by decide)⟩ d) else 0)
        * Ideal.ofBits .bf16 0x3E00#16 := by
  pointwise [k0_pay2]
  have hd : ∀ d : Fin 128, IntOp.cmpi .slt (BitVec.ofNat 32 d.val) 64#32 = BitVec.ofBool (decide (d.val < 64))
      ∧ IntOp.cmpi .sge (BitVec.ofNat 32 d.val) 64#32 = BitVec.ofBool (decide (¬d.val < 64)) := by decide +kernel
  rw [(hd d).1, (hd d).2]
  congr 1
  have hr := r.isLt
  by_cases h : r.val < 256 <;> by_cases h' : d.val < 64 <;> simp only [h, h', dif_pos, dif_neg, not_true_eq_false,
    not_false_eq_true, iff_true, iff_false, true_iff, if_true, if_false, decide_true, decide_false, iff_self] <;>
    simp [Scalar.select]
  · congr 2; ext; simp; omega
  · congr 2; ext; simp; omega

theorem pay6_apply (q k : Vec Ideal S1x256x128 .bf16) (r : Fin 512) (l : Fin 256) :
    k0_pay6 q k (ix2 r l) = ∑ e : Fin 128, k0_pay2 q (ix2 r e) * k (ix3 0 l e) := by
  pointwise [k0_pay6]

theorem pay19_apply (q k : Vec Ideal S1x256x128 .bf16) (r : Fin 512) (l : Fin 256) :
    k0_pay19 q k (ix2 r l) = ∑ e : Fin 128, k0_pay2 q (ix2 r e) * k (ix3 0 l e) := by
  pointwise [k0_pay19]

theorem neg_inf : Ideal.ofBits .f32 0xFF800000#32 = ⊥ := by simp [Ideal.ofBits, Ideal.ieee]

theorem eighth : Ideal.ofBits .bf16 0x3E00#16 = ((1 / 8 : ℝ) : EReal) := by
  simp [Ideal.ofBits, Ideal.ieee]
  rw [← EReal.coe_mul]; norm_num

/-- The mask's name: minus infinity. -/
theorem mask : (Named.named (F := Ideal) (φ := .f32) κ "mask" 0xF149F2CA#32) = ⊥ := rfl

/-- The score of stacked query row `r` (a half of the head's lanes kept) with key `j`. -/
def sc (qr : ℕ → Fin 128 → ℝ) (kr : ℕ → Fin 128 → ℝ) (r : Fin 512) (j : ℕ) : ℝ :=
  ∑ e : Fin 128, (if (r.val < 256 ↔ e.val < 64) then qr (r.val % 256) e else 0) * (1 / 8) * kr j e

section
variable {q : Vec Ideal S1x256x128 .bf16} {qr : ℕ → Fin 128 → ℝ} (hq : ∀ (r : Fin 256) d, q (ix3 0 r d) = (qr r.val d : EReal))
include hq

theorem pay2_real (r : Fin 512) (e : Fin 128) : k0_pay2 q (ix2 r e)
    = (((if (r.val < 256 ↔ e.val < 64) then qr (r.val % 256) e else 0) * (1 / 8) : ℝ) : EReal) := by
  rw [pay2_apply, eighth]
  split
  · rw [hq, ← EReal.coe_mul]
  · rw [zero_mul, zero_mul, EReal.coe_zero]

theorem sum_real {b : Vec Ideal S1x256x128 .bf16} {kr : ℕ → Fin 128 → ℝ} {j : ℕ} {l : Fin 256}
    (hb : ∀ d, b (ix3 0 l d) = (kr j d : EReal)) (r : Fin 512) :
    ∑ e : Fin 128, k0_pay2 q (ix2 r e) * b (ix3 0 l e) = (sc qr kr r j : EReal) := by
  unfold sc
  rw [coe_sum]
  refine Finset.sum_congr rfl fun e _ => ?_
  rw [pay2_real hq, hb, ← EReal.coe_mul]

/-- One block's step of the loop at a row and a lane. -/
theorem step_rep {kb vb : Vec Ideal S1x256x128 .bf16} {kr vr : ℕ → Fin 128 → ℝ} {n : ℕ}
    (hk : ∀ (l : Fin 256) d, kb (ix3 0 l d) = (kr (256 * n + l.val) d : EReal))
    (hv : ∀ (l : Fin 256) d, vb (ix3 0 l d) = (vr (256 * n + l.val) d : EReal))
    {m l : FVec Ideal S512x1 .f32} {a : FVec Ideal S512x128 .f32} {L A : ℝ} (r : Fin 512) (d : Fin 128)
    (h : Rep (m (ix2 r 0)) (l (ix2 r 0)) (a (ix2 r d)) L A) :
    Rep (k0_pay7 q m kb (ix2 r 0)) (k0_pay10 q m l kb (ix2 r 0)) (k0_pay11 q m a kb vb (ix2 r d))
      (L + ∑ x : Fin 256, Real.exp (sc qr kr r (256 * n + x.val)))
      (A + ∑ x : Fin 256, Real.exp (sc qr kr r (256 * n + x.val)) * vr (256 * n + x.val) d) := by
  have hs : ∀ x, k0_pay6 q kb (ix2 r x) = if True then (sc qr kr r (256 * n + x.val) : EReal) else ⊥ := fun x => by
    rw [if_pos trivial, pay6_apply, sum_real hq (hk x)]
  have h7 : k0_pay7 q m kb (ix2 r 0) = max (m (ix2 r 0)) (Finset.univ.fold max ⊥ fun x => k0_pay6 q kb (ix2 r x)) := by
    pointwise [k0_pay7]
    rw [neg_inf]
  have h10 : k0_pay10 q m l kb (ix2 r 0) = Ideal.exp (m (ix2 r 0) - k0_pay7 q m kb (ix2 r 0)) * l (ix2 r 0)
      + ∑ x, Ideal.exp (k0_pay6 q kb (ix2 r x) - k0_pay7 q m kb (ix2 r 0)) := by
    pointwise [k0_pay10, k0_pay8, k0_pay9]
  have h11 : k0_pay11 q m a kb vb (ix2 r d) = Ideal.exp (m (ix2 r 0) - k0_pay7 q m kb (ix2 r 0)) * a (ix2 r d)
      + ∑ x, Ideal.exp (k0_pay6 q kb (ix2 r x) - k0_pay7 q m kb (ix2 r 0)) * (vr (256 * n + x.val) d : EReal) := by
    pointwise [k0_pay11, k0_pay8, k0_pay9]
    simp only [hv]
  rw [h10, h11]
  have := h.step (fun _ : Fin 256 => True) (fun x => sc qr kr r (256 * n + x.val)) (fun x => vr (256 * n + x.val) d)
    _ hs ⟨0, trivial⟩ _ h7
  simpa only [if_true] using this

/-- The diagonal block and the quotient: the softmax average over the keys up to the query's own. -/
theorem pay21_real {kb vb : Vec Ideal S1x256x128 .bf16} {kr vr : ℕ → Fin 128 → ℝ} {n : ℕ} (hn : n < 32)
    (hk : ∀ (l : Fin 256) d, kb (ix3 0 l d) = (kr (256 * n + l.val) d : EReal))
    (hv : ∀ (l : Fin 256) d, vb (ix3 0 l d) = (vr (256 * n + l.val) d : EReal))
    {m l : FVec Ideal S512x1 .f32} {a : FVec Ideal S512x128 .f32} (r : Fin 512) (d : Fin 128)
    (h : Rep (m (ix2 r 0)) (l (ix2 r 0)) (a (ix2 r d)) (∑ j ∈ Finset.range (256 * n), Real.exp (sc qr kr r j))
      (∑ j ∈ Finset.range (256 * n), Real.exp (sc qr kr r j) * vr j d)) :
    k0_pay21 m l a (k0_pay18 vb) (k0_pay19 q kb) k0_pay20 (iota Kind.tc S512x256 32 [1] iota_S512x256_d1_w32) (ix2 r d)
      = (((∑ j : Fin 8192, if j.val ≤ 256 * n + r.val % 256 then Real.exp (sc qr kr r j.val) * vr j.val d else 0)
        / (∑ j : Fin 8192, if j.val ≤ 256 * n + r.val % 256 then Real.exp (sc qr kr r j.val) else 0) : ℝ) : EReal) := by
  have hbit : ∀ (r : Fin 512) (x : Fin 256), IntOp.cmpi .sle (BitVec.ofNat 32 x.val) (IntOp.andi (BitVec.ofNat 32 r.val) 255#32)
      = BitVec.ofBool (decide (x.val ≤ r.val % 256)) := fun r x => by
    have hr := r.isLt
    have hx := x.isLt
    have ha : IntOp.andi (BitVec.ofNat 32 r.val) 255#32 = BitVec.ofNat 32 (r.val % 256) := by
      have : ∀ r : Fin 512, IntOp.andi (BitVec.ofNat 32 r.val) 255#32 = BitVec.ofNat 32 (r.val % 256) := by decide +kernel
      exact this r
    rw [ha]
    have h1 : (BitVec.ofNat 32 x.val).toInt = x.val := by
      rw [BitVec.toInt_eq_toNat_of_lt (by rw [BitVec.toNat_ofNat]; omega), BitVec.toNat_ofNat, Nat.mod_eq_of_lt (by omega)]
    have h2 : (BitVec.ofNat 32 (r.val % 256)).toInt = (r.val % 256 : ℕ) := by
      rw [BitVec.toInt_eq_toNat_of_lt (by rw [BitVec.toNat_ofNat]; omega), BitVec.toNat_ofNat, Nat.mod_eq_of_lt (by omega)]
    simp only [IntOp.cmpi, BitVec.sle, h1, h2, Nat.cast_le]
  have hs : ∀ x, Scalar.select (IntOp.cmpi .sle (BitVec.ofNat 32 x.val) (IntOp.andi (BitVec.ofNat 32 r.val) 255#32))
      (k0_pay19 q kb (ix2 r x)) (⊥ : EReal)
      = if x.val ≤ r.val % 256 then (sc qr kr r (256 * n + x.val) : EReal) else ⊥ := fun x => by
    rw [hbit, pay19_apply, sum_real hq (hk x)]
    by_cases h : x.val ≤ r.val % 256 <;> simp [h, Scalar.select]
  have hr : r.val % 256 < 256 := Nat.mod_lt _ (by decide)
  have key := (h.step (fun x : Fin 256 => x.val ≤ r.val % 256) (fun x => sc qr kr r (256 * n + x.val))
    (fun x => vr (256 * n + x.val) d) _ hs ⟨0, Nat.zero_le _⟩ _ rfl).quot (by
      rw [sum_prefix (fun j => Real.exp (sc qr kr r j)) n _ 8192 hr (by omega)]
      refine (Finset.sum_pos' (fun z _ => ?_) ⟨0, Finset.mem_univ _, ?_⟩).ne'
      · split
        · exact (Real.exp_pos _).le
        · exact le_rfl
      · rw [if_pos (show ((0 : Fin 8192) : ℕ) ≤ _ from Nat.zero_le _)]; exact Real.exp_pos _)
  rw [sum_prefix (fun j => Real.exp (sc qr kr r j)) n _ 8192 hr (by omega),
    sum_prefix (fun j => Real.exp (sc qr kr r j) * vr j d) n _ 8192 hr (by omega)] at key
  rw [← key]
  pointwise [k0_pay21, k0_pay20, k0_pay18]
  simp only [hv, neg_inf, mask]

end

/-! ## A head's query tile: the loop and the block that the body leaves -/

section
variable (c : Dev nD) (i : grid0.Coords) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x128 .f32) (harg7 : arg7.IsWhole) (arg8 : Memref sig .tc .vmem S1x256x128 .bf16) (harg8 : arg8.IsWhole) (arg9 : Memref sig .tc .vmem S1x8192x128 .bf16) (harg9 : arg9.IsWhole) (arg10 : Memref sig .tc .vmem S1x8192x128 .bf16) (harg10 : arg10.IsWhole) (arg11 : Memref sig .tc .vmem S1x256x128 .bf16) (harg11 : arg11.IsWhole)

theorem trip_eq (𝒱 : Variants) (bd : Option 𝒱.V) (v0 : Vec Ideal S1x256x128 .bf16) (x6 x7 : Vec Ideal S1x8192x128 .bf16)
    (k : Fin (k0_t1_loop i).trips) (acc : FVec Ideal S512x1 .f32 × FVec Ideal S512x1 .f32 × FVec Ideal S512x128 .f32) :
    tripR_k0_t1 𝒱 c bd i arg3 harg3 arg4 harg4 arg5 harg5 arg6 harg6 arg7 harg7 arg8 harg8 arg9 harg9 arg10 harg10 arg11 harg11 v0 (harg9.unread x6) (harg10.unread x7) k acc
      = (k0_pay7 v0 acc.1 (View.ld x6 (Rect.unit (k0_off1 i k) S1x256x128.size (k0_off1_inb i k))),
        k0_pay10 v0 acc.1 acc.2.1 (View.ld x6 (Rect.unit (k0_off1 i k) S1x256x128.size (k0_off1_inb i k))),
        k0_pay11 v0 acc.1 acc.2.2 (View.ld x6 (Rect.unit (k0_off1 i k) S1x256x128.size (k0_off1_inb i k)))
          (View.ld x7 (Rect.unit (k0_off1 i k) S1x256x128.size (k0_off1_inb i k)))) := by
  unfold tripR_k0_t1 trip_k0_t1
  dsimp only
  simp only [View.readAt_eq_ld, harg9.read_unread, harg10.read_unread]

variable {q : Vec Ideal S1x256x128 .bf16} {x6 x7 : Vec Ideal S1x8192x128 .bf16} {qr kr vr : ℕ → Fin 128 → ℝ}
  (hq : ∀ (r : Fin 256) d, q (ix3 0 r d) = (qr r.val d : EReal))
  (hk : ∀ (j : Fin 8192) d, x6 (ix3 0 j d) = (kr j.val d : EReal))
  (hv : ∀ (j : Fin 8192) d, x7 (ix3 0 j d) = (vr j.val d : EReal))
include hq hk hv

/-- Before trip `n` a row's state represents the exponentials of the first `256 n` keys. -/
theorem loop_rep (𝒱 : Variants) (bd : Option 𝒱.V) (r : Fin 512) (d : Fin 128) : ∀ n : ℕ, n ≤ (i 2).val →
    Rep ((st_k0_t1 𝒱 c bd i arg3 harg3 arg4 harg4 arg5 harg5 arg6 harg6 arg7 harg7 arg8 harg8 arg9 harg9 arg10 harg10 arg11 harg11 q (harg9.unread x6) (harg10.unread x7) (k0_pay3, k0_pay4, k0_pay5) n).1 (ix2 r 0))
      ((st_k0_t1 𝒱 c bd i arg3 harg3 arg4 harg4 arg5 harg5 arg6 harg6 arg7 harg7 arg8 harg8 arg9 harg9 arg10 harg10 arg11 harg11 q (harg9.unread x6) (harg10.unread x7) (k0_pay3, k0_pay4, k0_pay5) n).2.1 (ix2 r 0))
      ((st_k0_t1 𝒱 c bd i arg3 harg3 arg4 harg4 arg5 harg5 arg6 harg6 arg7 harg7 arg8 harg8 arg9 harg9 arg10 harg10 arg11 harg11 q (harg9.unread x6) (harg10.unread x7) (k0_pay3, k0_pay4, k0_pay5) n).2.2 (ix2 r d))
      (∑ j ∈ Finset.range (256 * n), Real.exp (sc qr kr r j)) (∑ j ∈ Finset.range (256 * n), Real.exp (sc qr kr r j) * vr j d)
  | 0, _ => by
    rw [st_k0_t1_zero]
    have h3 : k0_pay3 (F := Ideal) (ix2 r 0) = ⊥ := by
      pointwise [k0_pay3]
      exact mask
    have h4 : k0_pay4 (F := Ideal) (ix2 r 0) = 0 := by pointwise [k0_pay4]
    have h5 : k0_pay5 (F := Ideal) (ix2 r d) = 0 := by pointwise [k0_pay5]
    show Rep (k0_pay3 (F := Ideal) (ix2 r 0)) (k0_pay4 (F := Ideal) (ix2 r 0)) (k0_pay5 (F := Ideal) (ix2 r d)) _ _
    rw [h3, h4, h5]
    simpa using Rep.start
  | n + 1, hn => by
    have hi : (i 2).val < 32 := (i 2).isLt
    have ht : n < (k0_t1_loop i).trips := by rw [trips1]; omega
    have ih := loop_rep 𝒱 bd r d n (by omega)
    rw [st_k0_t1_succ 𝒱 c bd i arg3 harg3 arg4 harg4 arg5 harg5 arg6 harg6 arg7 harg7 arg8 harg8 arg9 harg9 arg10 harg10 arg11 harg11 q (harg9.unread x6) (harg10.unread x7) (k0_pay3, k0_pay4, k0_pay5) ⟨n, ht⟩, trip_eq]
    dsimp only
    have := step_rep hq (kb := View.ld x6 (Rect.unit (k0_off1 i ⟨n, ht⟩) S1x256x128.size (k0_off1_inb i ⟨n, ht⟩)))
      (vb := View.ld x7 (Rect.unit (k0_off1 i ⟨n, ht⟩) S1x256x128.size (k0_off1_inb i ⟨n, ht⟩))) (kr := kr) (vr := vr) (n := n)
      (fun l d => by rw [ld_apply _ _ n _ (off1 i ⟨n, ht⟩) l d (by omega), hk])
      (fun l d => by rw [ld_apply _ _ n _ (off1 i ⟨n, ht⟩) l d (by omega), hv]) r d ih
    rw [Fin.sum_univ_eq_sum_range (fun x => Real.exp (sc qr kr r (256 * n + x))) 256, ← Finset.sum_range_add,
      Fin.sum_univ_eq_sum_range (fun x => Real.exp (sc qr kr r (256 * n + x)) * vr (256 * n + x) d) 256] at this
    rw [← Finset.sum_range_add (fun j => Real.exp (sc qr kr r j) * vr j d)] at this
    rw [mul_add, mul_one]
    exact this

end

/-- The softmax average of stacked row `r` at value lane `d`: `n` is the query tile's number. -/
def avg (qr kr vr : ℕ → Fin 128 → ℝ) (n : ℕ) (r : Fin 512) (d : Fin 128) : ℝ :=
  (∑ j : Fin 8192, if j.val ≤ 256 * n + r.val % 256 then Real.exp (sc qr kr r j.val) * vr j.val d else 0)
    / (∑ j : Fin 8192, if j.val ≤ 256 * n + r.val % 256 then Real.exp (sc qr kr r j.val) else 0)

section
variable (c : Dev nD) (i : grid0.Coords) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x128 .f32) (harg7 : arg7.IsWhole) (arg8 : Memref sig .tc .vmem S1x256x128 .bf16) (harg8 : arg8.IsWhole) (arg9 : Memref sig .tc .vmem S1x8192x128 .bf16) (harg9 : arg9.IsWhole) (arg10 : Memref sig .tc .vmem S1x8192x128 .bf16) (harg10 : arg10.IsWhole) (arg11 : Memref sig .tc .vmem S1x256x128 .bf16) (harg11 : arg11.IsWhole)
variable {q : Vec Ideal S1x256x128 .bf16} {x6 x7 : Vec Ideal S1x8192x128 .bf16} {qr kr vr : ℕ → Fin 128 → ℝ}
  (hq : ∀ (r : Fin 256) d, q (ix3 0 r d) = (qr r.val d : EReal))
  (hk : ∀ (j : Fin 8192) d, x6 (ix3 0 j d) = (kr j.val d : EReal))
  (hv : ∀ (j : Fin 8192) d, x7 (ix3 0 j d) = (vr j.val d : EReal))
include hq hk hv

theorem out_apply (x0 x1 x2 x3 : Vec Ideal S1x64 .f32) (x4 : Vec Ideal S1x128 .f32) (r : Fin 256) (d : Fin 128) :
    out0_A_8 c i arg3 harg3 arg4 harg4 arg5 harg5 arg6 harg6 arg7 harg7 arg8 harg8 arg9 harg9 arg10 harg10 arg11 harg11 x0 x1 x2 x3 x4 q x6 x7 (ix3 0 r d)
      = nrm (fun d => (avg qr kr vr (i 2).val ⟨r.val, by omega⟩ d : EReal)
          - lam (fun x => x0 (ix2 0 x)) (fun x => x1 (ix2 0 x)) (fun x => x2 (ix2 0 x)) (fun x => x3 (ix2 0 x)) * (avg qr kr vr (i 2).val ⟨256 + r.val, by omega⟩ d : EReal)) (x4 (ix2 0 d)) d := by
  frame_out
  have e1 : (Scf.trips (0#32) (Scalar.addi (0#32) (Scalar.muli (Scalar.divsi
      (Scalar.subi (BitVec.ofNat 32 (i 2).val) 0#32) 1#32) 1#32)) 1#32) = (i 2).val := trips1 i
  have e2 : Scf.trips (Scalar.addi (0#32) (Scalar.muli (Scalar.divsi
      (Scalar.subi (BitVec.ofNat 32 (i 2).val) 0#32) 1#32) 1#32))
      (Scalar.addi (0#32) (Scalar.subi (BitVec.ofNat 32 (i 2).val) 0#32)) 1#32 = 0 := trips2 i
  rw [e1, e2]
  simp only [st_k0_t2_zero]
  have hi : (i 2).val < 32 := (i 2).isLt
  have key : ∀ (r : Fin 512) d, _ = (avg qr kr vr (i 2).val r d : EReal) := fun r d =>
    pay21_real hq (kb := View.ld x6 (Rect.unit (k0_off3 i) S1x256x128.size (k0_off3_inb i)))
      (vb := View.ld x7 (Rect.unit (k0_off3 i) S1x256x128.size (k0_off3_inb i))) hi
      (fun l d => by rw [ld_apply _ _ (i 2).val _ (off3 i) l d (by omega), hk])
      (fun l d => by rw [ld_apply _ _ (i 2).val _ (off3 i) l d (by omega), hv]) r d
      (loop_rep c i arg3 harg3 arg4 harg4 arg5 harg5 arg6 harg6 arg7 harg7 arg8 harg8 arg9 harg9 arg10 harg10 arg11 harg11 hq hk hv Variants.none none r d (i 2).val le_rfl)
  pointwise [k0_pay1, k0_pay22, k0_pay23]
  simp only [key]
  rfl
end

end Cert.KernelIdeal.Diff
-- ==== Proof.Blocks.lean ====
module

public import proofs.«01_k».proof.Proof.Trip
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)

namespace Cert.KernelIdeal.Diff

open Cert.KernelIdeal Cert.KernelIdeal.Gen Cert.Softmax

variable (m : (ℓ : Loc nD τ sig) → Buf (Elt Ideal) ℓ)

/-! ## The blocks that the windows stage, at an index of the arguments -/

theorem idx (t : Fin cfg0.N) :
    win0_5.index t = ![(grid0.coords t 0).val, (grid0.coords t 2).val, (grid0.coords t 1).val]
    ∧ win0_6.index t = ![(grid0.coords t 0).val, 0, 8 + (grid0.coords t 1).val]
    ∧ win0_7.index t = ![(grid0.coords t 0).val, 0, 16 + (grid0.coords t 1).val]
    ∧ win0_8.index t = ![(grid0.coords t 0).val, (grid0.coords t 2).val, (grid0.coords t 1).val]
    ∧ win0_0.index t = ![0, 0] ∧ win0_1.index t = ![0, 0] ∧ win0_2.index t = ![0, 0] ∧ win0_3.index t = ![0, 0]
    ∧ win0_4.index t = ![0, 0] := by
  revert t
  decide +kernel

/-- The projections' entry at batch `b`, position `s`, column `x`. -/
def X (c : Dev nD) (b s x : ℕ) : EReal :=
  m ((c : Thread nD τ).loc main_arg0) (ix3 (n0 := 2) (n1 := 8192) (n2 := 3072) ⟨b % 2, Nat.mod_lt _ (by decide)⟩
    ⟨s % 8192, Nat.mod_lt _ (by decide)⟩ ⟨x % 3072, Nat.mod_lt _ (by decide)⟩)

theorem blk5 (c : Dev nD) (t : Fin cfg0.N) (r : Fin 256) (d : Fin 128) :
    iblk m c 5 t (ix3 0 r d) = X m c (grid0.coords t 0).val (256 * (grid0.coords t 2).val + r.val)
      (128 * (grid0.coords t 1).val + d.val) := by
  have h0 : (grid0.coords t 0).val < 2 := (grid0.coords t 0).isLt
  have h1 : (grid0.coords t 1).val < 8 := (grid0.coords t 1).isLt
  have h2 : (grid0.coords t 2).val < 32 := (grid0.coords t 2).isLt
  unfold X
  blk_ext [iblk, V, (idx t).1]

theorem blk6 (c : Dev nD) (t : Fin cfg0.N) (r : Fin 8192) (d : Fin 128) :
    iblk m c 6 t (ix3 0 r d) = X m c (grid0.coords t 0).val r.val
      (1024 + 128 * (grid0.coords t 1).val + d.val) := by
  have h0 : (grid0.coords t 0).val < 2 := (grid0.coords t 0).isLt
  have h1 : (grid0.coords t 1).val < 8 := (grid0.coords t 1).isLt
  unfold X
  blk_ext [iblk, V, (idx t).2.1]

theorem blk7 (c : Dev nD) (t : Fin cfg0.N) (r : Fin 8192) (d : Fin 128) :
    iblk m c 7 t (ix3 0 r d) = X m c (grid0.coords t 0).val r.val
      (2048 + 128 * (grid0.coords t 1).val + d.val) := by
  have h0 : (grid0.coords t 0).val < 2 := (grid0.coords t 0).isLt
  have h1 : (grid0.coords t 1).val < 8 := (grid0.coords t 1).isLt
  unfold X
  blk_ext [iblk, V, (idx t).2.2.1]

theorem blk0 (c : Dev nD) (t : Fin cfg0.N) (d : Fin 64) :
    iblk m c 0 t (ix2 0 d) = m ((c : Thread nD τ).loc main_arg1) (ix1 d) := by
  blk_ext! [iblk, (idx t).2.2.2.2.1]

theorem blk1 (c : Dev nD) (t : Fin cfg0.N) (d : Fin 64) :
    iblk m c 1 t (ix2 0 d) = m ((c : Thread nD τ).loc main_arg2) (ix1 d) := by
  blk_ext! [iblk, (idx t).2.2.2.2.2.1]

theorem blk2 (c : Dev nD) (t : Fin cfg0.N) (d : Fin 64) :
    iblk m c 2 t (ix2 0 d) = m ((c : Thread nD τ).loc main_arg3) (ix1 d) := by
  blk_ext! [iblk, (idx t).2.2.2.2.2.2.1]

theorem blk3 (c : Dev nD) (t : Fin cfg0.N) (d : Fin 64) :
    iblk m c 3 t (ix2 0 d) = m ((c : Thread nD τ).loc main_arg4) (ix1 d) := by
  blk_ext! [iblk, (idx t).2.2.2.2.2.2.2.1]

theorem blk4 (c : Dev nD) (t : Fin cfg0.N) (d : Fin 128) :
    iblk m c 4 t (ix2 0 d) = m ((c : Thread nD τ).loc main_arg5) (ix1 d) := by
  blk_ext! [iblk, (idx t).2.2.2.2.2.2.2.2]

theorem covers : (cfg0.win 8).Covers := by decide +kernel

end Cert.KernelIdeal.Diff
-- ==== Proof.Final.lean ====
module

public import proofs.«01_k».proof.Proof.Blocks

@[expose] public section

set_option maxRecDepth 16384

noncomputable section

open Idealize.ShloMosaic Idealize.ShloMosaic.TcCoe Idealize.SL.Sem
open Idealize.ShloMosaic.Pipeline (Dat)

namespace Cert.KernelIdeal.Diff

open Cert.KernelIdeal Cert.KernelIdeal.Gen Cert.Softmax

/-! ## A tile's masked score is the head's score -/

/-- The 128 lanes are two halves of 64. -/
theorem halves (f : Fin 128 → ℝ) : ∑ e : Fin 128, f e
    = ∑ e : Fin 64, f ⟨e.val, by omega⟩ + ∑ e : Fin 64, f ⟨64 + e.val, by omega⟩ := by
  have := Fin.sum_univ_add (a := 64) (b := 64) f
  exact this

theorem sc_eq (X : ℕ → ℕ → ℕ → ℝ) (b h n cc : ℕ) (hc : cc < 2) (r j : ℕ) (hr : r < 256) (hh : 256 * cc + r < 512) :
    sc (fun r d => X b (256 * n + r) (128 * h + d.val)) (fun j d => X b j (1024 + 128 * h + d.val)) ⟨256 * cc + r, hh⟩ j
      = score X b h cc (256 * n + r) j := by
  unfold sc score
  rw [halves, Finset.sum_mul]
  have hm : (256 * cc + r) % 256 = r := by omega
  rcases (by omega : cc = 0 ∨ cc = 1) with rfl | rfl
  · rw [show (∑ e : Fin 64, (if ((256 * 0 + r) < 256 ↔ 64 + e.val < 64) then X b (256 * n + (256 * 0 + r) % 256) (128 * h + (64 + e.val)) else 0) * (1 / 8)
        * X b j (1024 + 128 * h + (64 + e.val))) = 0 from Finset.sum_eq_zero fun e _ => by rw [if_neg (by omega)]; ring, add_zero]
    refine Finset.sum_congr rfl fun e _ => ?_
    dsimp only
    rw [if_pos (by omega), hm]
    simp only [Nat.mul_zero, Nat.add_zero]
    ring
  · rw [show (∑ e : Fin 64, (if ((256 * 1 + r) < 256 ↔ e.val < 64) then X b (256 * n + (256 * 1 + r) % 256) (128 * h + e.val) else 0) * (1 / 8)
        * X b j (1024 + 128 * h + e.val)) = 0 from Finset.sum_eq_zero fun e _ => by rw [if_neg (by omega)]; ring, zero_add]
    refine Finset.sum_congr rfl fun e _ => ?_
    dsimp only
    rw [if_pos (by omega), hm, Nat.mul_one, ← Nat.add_assoc, ← Nat.add_assoc]
    ring

theorem avg_eq (X : ℕ → ℕ → ℕ → ℝ) (b h n cc : ℕ) (hc : cc < 2) (r : ℕ) (hr : r < 256) (hh : 256 * cc + r < 512) (d : Fin 128) :
    avg (fun r d => X b (256 * n + r) (128 * h + d.val)) (fun j d => X b j (1024 + 128 * h + d.val))
        (fun j d => X b j (2048 + 128 * h + d.val)) n ⟨256 * cc + r, hh⟩ d
      = mean X b h cc (256 * n + r) d.val := by
  unfold avg mean weight
  have hm : (256 * cc + r) % 256 = r := by omega
  simp only [hm, sc_eq X b h n cc hc r _ hr hh]

/-! ## The result array -/

variable (m : (ℓ : Loc nD τ sig) → Buf (Elt Ideal) ℓ)

/-- λ of the launch's four vectors. -/
def lamOf (c : Dev nD) : EReal :=
  lam (fun x => m ((c : Thread nD τ).loc main_arg1) (ix1 x)) (fun x => m ((c : Thread nD τ).loc main_arg2) (ix1 x))
    (fun x => m ((c : Thread nD τ).loc main_arg3) (ix1 x)) (fun x => m ((c : Thread nD τ).loc main_arg4) (ix1 x))

theorem arr (c : Dev nD) (R : ℕ → ℕ → ℕ → ℝ) (hX : ∀ b s x, X m c b s x = (R b s x : EReal)) :
    (dats m 0 c).arrAt 8 cfg0.N = fun y : S2x8192x1024.Idx =>
      result R (lamOf m c) (fun d => m ((c : Thread nD τ).loc main_arg5) (ix1 d)) (y 0).val (y 1).val ((y 2).val / 128)
        ⟨(y 2).val % 128, Nat.mod_lt _ (by decide)⟩ := by
  refine (dats m 0 c).arrAt_eq_of_covers 8 _ covers fun t hf y => ?_
  have h0 : (grid0.coords t 0).val < 2 := (grid0.coords t 0).isLt
  have h1 : (grid0.coords t 1).val < 8 := (grid0.coords t 1).isLt
  have h2 : (grid0.coords t 2).val < 32 := (grid0.coords t 2).isLt
  blk_simp [(idx t).2.2.2.1]
  rw [after0_8]
  unfold outsAt0
  idx_vars y
  obtain rfl : y0 = 0 := Subsingleton.elim _ _
  rw [out_apply c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t)
    (qr := fun r d => R (grid0.coords t 0).val (256 * (grid0.coords t 2).val + r) (128 * (grid0.coords t 1).val + d.val))
    (kr := fun j d => R (grid0.coords t 0).val j (1024 + 128 * (grid0.coords t 1).val + d.val))
    (vr := fun j d => R (grid0.coords t 0).val j (2048 + 128 * (grid0.coords t 1).val + d.val))
    (fun r d => (blk5 m c t r d).trans (hX _ _ _)) (fun j d => (blk6 m c t j d).trans (hX _ _ _))
    (fun j d => (blk7 m c t j d).trans (hX _ _ _)) (iblk m c 0 t) (iblk m c 1 t) (iblk m c 2 t) (iblk m c 3 t) (iblk m c 4 t) y1 y2]
  have e0 : ∀ d, avg (fun r d => R (grid0.coords t 0).val (256 * (grid0.coords t 2).val + r) (128 * (grid0.coords t 1).val + d.val))
      (fun j d => R (grid0.coords t 0).val j (1024 + 128 * (grid0.coords t 1).val + d.val))
      (fun j d => R (grid0.coords t 0).val j (2048 + 128 * (grid0.coords t 1).val + d.val)) (grid0.coords t 2).val ⟨y1.val, by omega⟩ d
      = mean R (grid0.coords t 0).val (grid0.coords t 1).val 0 (256 * (grid0.coords t 2).val + y1.val) d.val := fun d => by
    rw [← avg_eq R _ _ _ 0 (by decide) y1.val y1.isLt (by omega)]
    congr 2
    omega
  have e1 : ∀ d, avg (fun r d => R (grid0.coords t 0).val (256 * (grid0.coords t 2).val + r) (128 * (grid0.coords t 1).val + d.val))
      (fun j d => R (grid0.coords t 0).val j (1024 + 128 * (grid0.coords t 1).val + d.val))
      (fun j d => R (grid0.coords t 0).val j (2048 + 128 * (grid0.coords t 1).val + d.val)) (grid0.coords t 2).val ⟨256 + y1.val, by omega⟩ d
      = mean R (grid0.coords t 0).val (grid0.coords t 1).val 1 (256 * (grid0.coords t 2).val + y1.val) d.val := fun d => by
    rw [← avg_eq R _ _ _ 1 (by decide) y1.val y1.isLt (by omega)]
  simp only [e0, e1, blk0, blk1, blk2, blk3, blk4]
  unfold result lamOf
  have a1 : (grid0.coords t 2).val * 256 + y1.val = 256 * (grid0.coords t 2).val + y1.val := by omega
  have a2 : ((grid0.coords t 1).val * 128 + y2.val) / 128 = (grid0.coords t 1).val := by omega
  have a3 : ((grid0.coords t 1).val * 128 + y2.val) % 128 = y2.val := by omega
  simp only [a1, a2, a3, Fin.eta]

end Cert.KernelIdeal.Diff
-- ==== Proof.RefValue.lean ====
module

public import proofs.«01_k».proof.Proof.Gen.ReferenceIdeal.Run
public import proofs.«01_k».proof.Proof.Spec
public import Idealize.ShloMosaic.Lib.Pointwise

@[expose] public section

set_option maxRecDepth 16384

noncomputable section

open Idealize.ShloMosaic Idealize.ShloMosaic.TcCoe Idealize.SL.Sem

namespace Cert.ReferenceIdeal.Diff

open Cert.ReferenceIdeal Cert.ReferenceIdeal.Gen Cert.Softmax

/-! ## The reference, layer by layer -/

/-- The queries by head and map. -/
def qs (x : FVec Ideal S2x8192x3072 .bf16) : FVec Ideal S2x8192x8x2x64 .f32 :=
  shapeCast _ (extractStridedSlice S2x8192x1024 ![0, 0, 0] (extf (F := Ideal) .f32 x bitsLt_bf16_f32) slices_S2x8192x3072_S2x8192x1024_0_0_0) shapeCasts_S2x8192x1024_S2x8192x8x2x64

/-- The keys by head and map. -/
def ks (x : FVec Ideal S2x8192x3072 .bf16) : FVec Ideal S2x8192x8x2x64 .f32 :=
  shapeCast _ (extractStridedSlice S2x8192x1024 ![0, 0, 1024] (extf (F := Ideal) .f32 x bitsLt_bf16_f32) slices_S2x8192x3072_S2x8192x1024_0_0_1024) shapeCasts_S2x8192x1024_S2x8192x8x2x64

/-- The values by head. -/
def vs (x : FVec Ideal S2x8192x3072 .bf16) : FVec Ideal S2x8192x8x128 .f32 :=
  shapeCast _ (extractStridedSlice S2x8192x1024 ![0, 0, 2048] (extf (F := Ideal) .f32 x bitsLt_bf16_f32) slices_S2x8192x3072_S2x8192x1024_0_0_2048) shapeCasts_S2x8192x1024_S2x8192x8x128

/-- λ. -/
def lm (l1 l2 l3 l4 : FVec Ideal S64 .f32) : FVec Ideal S_ .f32 :=
  addf (subf (Host.exp (Host.reduceAdd (mulf l1 l2) (constant S_ .f32 0x00000000#32) reducesTo_S64_S_d0 h_S_))
    (Host.exp (Host.reduceAdd (mulf l3 l4) (constant S_ .f32 0x00000000#32) reducesTo_S64_S_d0 h_S_))) (constant S_ .f32 0x3E4CCCCD#32)

/-- The scores of every query with every key, `-∞` where the key comes after the query. -/
def scores (x : FVec Ideal S2x8192x3072 .bf16) : FVec Ideal S2x8x2x8192x8192 .f32 :=
  select (broadcastInDim S2x8x2x8192x8192 ![3, 4] bcast_S8192x8192_S2x8x2x8192x8192_3_4
      (cmpi .sle (broadcastInDim S8192x8192 ![0, 1] bcast_S1x8192_S8192x8192_0_1 (broadcastInDim S1x8192 ![1] bcast_S8192_S1x8192_1 (iotaInDim S8192 32 0)))
        (broadcastInDim S8192x8192 ![0, 1] bcast_S8192x1_S8192x8192_0_1 (broadcastInDim S8192x1 ![0] bcast_S8192_S8192x1_0 (iotaInDim S8192 32 0)))))
    (mulf (Host.dotGeneral dot_S2x8192x8x2x64_S2x8192x8x2x64_S2x8x2x8192x8192_4_4_1_1_023_023 none (qs x) (ks x))
      (broadcastInDim S2x8x2x8192x8192 ![] bcast_S_S2x8x2x8192x8192 (constant (F := Ideal) S_ .f32 0x3E000000#32)))
    (broadcastInDim S2x8x2x8192x8192 ![] bcast_S_S2x8x2x8192x8192 (id (constant (F := Ideal) S_ .f32 0xFF800000#32)))

/-- Each row's greatest score. -/
def tops (s : FVec Ideal S2x8x2x8192x8192 .f32) : FVec Ideal S2x8x2x8192 .f32 :=
  Host.reduce FloatOps.maximumf s (constant (F := Ideal) S_ .f32 0xFF800000#32) reducesTo_S2x8x2x8192x8192_S2x8x2x8192_d4 h_S_

/-- The exponentials of the scores less their row's greatest. -/
def exps (s : FVec Ideal S2x8x2x8192x8192 .f32) (M : FVec Ideal S2x8x2x8192 .f32) : FVec Ideal S2x8x2x8192x8192 .f32 :=
  Host.exp (subf s (broadcastInDim S2x8x2x8192x8192 ![0, 1, 2, 3, 4] bcast_S2x8x2x8192x1_S2x8x2x8192x8192_0_1_2_3_4
    (broadcastInDim S2x8x2x8192x1 ![0, 1, 2, 3] bcast_S2x8x2x8192_S2x8x2x8192x1_0_1_2_3
      (maximumf (broadcastInDim S2x8x2x8192 ![] bcast_S_S2x8x2x8192 (constant (F := Ideal) S_ .f32 0xFF800000#32))
        M))))

/-- The softmax's weights. -/
def probs (e : FVec Ideal S2x8x2x8192x8192 .f32) : FVec Ideal S2x8x2x8192x8192 .f32 :=
  Host.divf e (broadcastInDim S2x8x2x8192x8192 ![0, 1, 2, 3, 4] bcast_S2x8x2x8192x1_S2x8x2x8192x8192_0_1_2_3_4
    (broadcastInDim S2x8x2x8192x1 ![0, 1, 2, 3] bcast_S2x8x2x8192_S2x8x2x8192x1_0_1_2_3
      (Host.reduceAdd e (constant (F := Ideal) S_ .f32 0x00000000#32) reducesTo_S2x8x2x8192x8192_S2x8x2x8192_d4 h_S_)))

/-- The first map less λ times the second. -/
def diffs (p : FVec Ideal S2x8x2x8192x8192 .f32) (l : FVec Ideal S_ .f32) : FVec Ideal S2x8x8192x8192 .f32 :=
  subf (shapeCast _ (extractStridedSlice S2x8x1x8192x8192 ![0, 0, 0, 0, 0] p slices_S2x8x2x8192x8192_S2x8x1x8192x8192_0_0_0_0_0) shapeCasts_S2x8x1x8192x8192_S2x8x8192x8192)
    (mulf (broadcastInDim S2x8x8192x8192 ![] bcast_S_S2x8x8192x8192 l)
      (shapeCast _ (extractStridedSlice S2x8x1x8192x8192 ![0, 0, 1, 0, 0] p slices_S2x8x2x8192x8192_S2x8x1x8192x8192_0_0_1_0_0) shapeCasts_S2x8x1x8192x8192_S2x8x8192x8192))

/-- The heads' outputs. -/
def outs (v : FVec Ideal S2x8192x8x128 .f32) (a : FVec Ideal S2x8x8192x8192 .f32) : FVec Ideal S2x8192x8x128 .f32 :=
  transpose S2x8192x8x128 [0, 3, 1, 2] (Host.dotGeneral dot_S2x8192x8x128_S2x8x8192x8192_S2x8x128x8192_1_3_3_2_02_01 none v a) transposes_S2x8x128x8192_S2x8192x8x128_0_3_1_2

/-- The normalised outputs, the heads side by side. -/
def norms (o : FVec Ideal S2x8192x8x128 .f32) (g : FVec Ideal S128 .f32) : FVec Ideal S2x8192x1024 .bf16 :=
  truncf .bf16 (shapeCast _ (mulf (mulf (mulf o (broadcastInDim S2x8192x8x128 ![0, 1, 2, 3] bcast_S2x8192x8x1_S2x8192x8x128_0_1_2_3
      (Host.rsqrt (addf (Host.divf (broadcastInDim S2x8192x8x1 ![0, 1, 2] bcast_S2x8192x8_S2x8192x8x1_0_1_2
          (Host.reduceAdd (mulf o o) (constant (F := Ideal) S_ .f32 0x00000000#32) reducesTo_S2x8192x8x128_S2x8192x8_d3 h_S_))
        (broadcastInDim S2x8192x8x1 ![] bcast_S_S2x8192x8x1 (constant (F := Ideal) S_ .f32 0x43000000#32)))
        (broadcastInDim S2x8192x8x1 ![] bcast_S_S2x8192x8x1 (constant (F := Ideal) S_ .f32 0x3727C5AC#32))))))
      (broadcastInDim S2x8192x8x128 ![0, 1, 2, 3] bcast_S1x1x1x128_S2x8192x8x128_0_1_2_3 (broadcastInDim S1x1x1x128 ![3] bcast_S128_S1x1x1x128_3 g)))
      (broadcastInDim S2x8192x8x128 ![] bcast_S_S2x8192x8x128 (constant (F := Ideal) S_ .f32 0x3F4CCCCD#32))) shapeCasts_S2x8192x8x128_S2x8192x1024) bitsLt_bf16_f32

variable (m : (ℓ : Loc nD τ sig) → Buf (Elt Ideal) ℓ)

/-- The reference's result. -/
def res (x : FVec Ideal S2x8192x3072 .bf16) (l1 l2 l3 l4 : FVec Ideal S64 .f32) (g : FVec Ideal S128 .f32) : FVec Ideal S2x8192x1024 .bf16 :=
  norms (outs (vs x) (diffs (probs (exps (scores x) (tops (scores x)))) (lm l1 l2 l3 l4))) g

theorem res_eq (c : Dev nD) : Value.res_main_v61 m c
    = res (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := rfl

theorem qs_apply (x : FVec Ideal S2x8192x3072 .bf16) (b : Fin 2) (s : Fin 8192) (h : Fin 8) (cc : Fin 2) (e : Fin 64) :
    qs x (ix5 b s h cc e) = x (ix3 b s ⟨128 * h.val + 64 * cc.val + e.val, by omega⟩) := by
  unfold qs
  pointwise
  congr 2
  ext
  dsimp only
  omega

theorem ks_apply (x : FVec Ideal S2x8192x3072 .bf16) (b : Fin 2) (s : Fin 8192) (h : Fin 8) (cc : Fin 2) (e : Fin 64) :
    ks x (ix5 b s h cc e) = x (ix3 b s ⟨1024 + 128 * h.val + 64 * cc.val + e.val, by omega⟩) := by
  unfold ks
  pointwise
  congr 2
  ext
  dsimp only
  omega

theorem vs_apply (x : FVec Ideal S2x8192x3072 .bf16) (b : Fin 2) (s : Fin 8192) (h : Fin 8) (d : Fin 128) :
    vs x (ix4 b s h d) = x (ix3 b s ⟨2048 + 128 * h.val + d.val, by omega⟩) := by
  unfold vs
  pointwise
  congr 2
  ext
  dsimp only
  omega

theorem lm_apply (l1 l2 l3 l4 : FVec Ideal S64 .f32) (i) : lm l1 l2 l3 l4 i
    = lam (fun x => l1 (ix1 x)) (fun x => l2 (ix1 x)) (fun x => l3 (ix1 x)) (fun x => l4 (ix1 x)) := by
  unfold lm lam
  pointwise

/-- The mask's comparison on words is the comparison of the positions. -/
theorem mask_le (j s : Fin 8192) (a b : EReal) :
    Scalar.select (IntOp.cmpi CmpIPredicate.sle (BitVec.ofNat 32 j.val) (BitVec.ofNat 32 s.val)) a b = if j.val ≤ s.val then a else b := by
  have hj : (BitVec.ofNat 32 j.val).toInt = j.val := by
    rw [BitVec.toInt_eq_toNat_of_lt (by rw [BitVec.toNat_ofNat]; omega), BitVec.toNat_ofNat, Nat.mod_eq_of_lt (by omega)]
  have hs : (BitVec.ofNat 32 s.val).toInt = s.val := by
    rw [BitVec.toInt_eq_toNat_of_lt (by rw [BitVec.toNat_ofNat]; omega), BitVec.toNat_ofNat, Nat.mod_eq_of_lt (by omega)]
  unfold IntOp.cmpi Scalar.select
  simp only [BitVec.sle, hj, hs]
  by_cases h : j.val ≤ s.val <;> simp [h]

theorem bot_word : Ideal.ofBits .f32 0xFF800000#32 = ⊥ := by simp [Ideal.ofBits, Ideal.ieee]

theorem eighth : Ideal.ofBits .f32 0x3E000000#32 = ((1 / 8 : ℝ) : EReal) := by
  simp [Ideal.ofBits, Ideal.ieee]
  rw [← EReal.coe_mul]
  norm_num

theorem tops_apply (x : FVec Ideal S2x8x2x8192x8192 .f32) (b : Fin 2) (h : Fin 8) (cc : Fin 2) (s : Fin 8192) :
    tops x (ix4 b h cc s) = Finset.fold max ⊥ (fun j : Fin 8192 => x (ix5 b h cc s j)) Finset.univ := by
  unfold tops
  rw [Host.reduce_eq_fold, Shape.ReducesTo.fold_fiber_r5_a4, ← bot_word]
  rfl

theorem exps_apply (x : FVec Ideal S2x8x2x8192x8192 .f32) (M) (b : Fin 2) (h : Fin 8) (cc : Fin 2) (s j : Fin 8192) :
    exps x M (ix5 b h cc s j) = Ideal.exp (x (ix5 b h cc s j) - max ⊥ (M (ix4 b h cc s))) := by
  rw [← bot_word]
  unfold exps
  pointwise

theorem probs_apply (x : FVec Ideal S2x8x2x8192x8192 .f32) (b : Fin 2) (h : Fin 8) (cc : Fin 2) (s j : Fin 8192) :
    probs x (ix5 b h cc s j) = Ideal.div (x (ix5 b h cc s j)) (∑ y : Fin 8192, x (ix5 b h cc s y)) := by
  unfold probs
  pointwise

theorem diffs_apply (x : FVec Ideal S2x8x2x8192x8192 .f32) (l) (b : Fin 2) (h : Fin 8) (s j : Fin 8192) :
    diffs x l (ix4 b h s j) = x (ix5 b h 0 s j) - l ix0 * x (ix5 b h 1 s j) := by
  unfold diffs
  pointwise

theorem outs_apply (v : FVec Ideal S2x8192x8x128 .f32) (a : FVec Ideal S2x8x8192x8192 .f32) (b : Fin 2) (s : Fin 8192) (h : Fin 8) (d : Fin 128) :
    outs v a (ix4 b s h d) = ∑ j : Fin 8192, v (ix4 b j h d) * a (ix4 b h s j) := by
  unfold outs
  pointwise

theorem norms_apply (o : FVec Ideal S2x8192x8x128 .f32) (g : FVec Ideal S128 .f32) (b : Fin 2) (s : Fin 8192) (y : Fin 1024) :
    norms o g (ix3 b s y) = nrm (fun d => o (ix4 b s ⟨y.val / 128, by omega⟩ d)) (g (ix1 ⟨y.val % 128, Nat.mod_lt _ (by decide)⟩))
      ⟨y.val % 128, Nat.mod_lt _ (by decide)⟩ := by
  unfold norms nrm
  pointwise

/-! ## On real entries -/

section
variable {x : FVec Ideal S2x8192x3072 .bf16} {X : ℕ → ℕ → ℕ → ℝ}
  (hx : ∀ (b : Fin 2) (s : Fin 8192) (y : Fin 3072), x (ix3 b s y) = (X b.val s.val y.val : EReal))
include hx

theorem scores_real (b : Fin 2) (h : Fin 8) (cc : Fin 2) (s j : Fin 8192) :
    scores x (ix5 b h cc s j) = if j.val ≤ s.val then (score X b.val h.val cc.val s.val j.val : EReal) else ⊥ := by
  have e : scores x (ix5 b h cc s j) = if j.val ≤ s.val then
      (∑ e : Fin 64, qs x (ix5 b s h cc e) * ks x (ix5 b j h cc e)) * Ideal.ofBits .f32 0x3E000000#32 else Ideal.ofBits .f32 0xFF800000#32 := by
    rw [← mask_le]
    unfold scores
    pointwise
    rfl
  rw [e, eighth, bot_word]
  unfold score
  simp only [qs_apply, ks_apply, hx, ← EReal.coe_mul, ← coe_sum]

theorem probs_real (b : Fin 2) (h : Fin 8) (cc : Fin 2) (s j : Fin 8192) :
    probs (exps (scores x) (tops (scores x))) (ix5 b h cc s j)
      = (((if j.val ≤ s.val then Real.exp (score X b.val h.val cc.val s.val j.val) else 0) / weight X b.val h.val cc.val s.val : ℝ) : EReal) := by
  rw [probs_apply]
  simp only [exps_apply, tops_apply]
  exact row (fun y : Fin 8192 => y.val ≤ s.val) (fun y => score X b.val h.val cc.val s.val y.val) (fun y => scores x (ix5 b h cc s y))
    (fun y => scores_real hx b h cc s y) ⟨s, le_refl _⟩ j

theorem outs_real (L : ℝ) (l : FVec Ideal S_ .f32) (hl : l ix0 = (L : EReal)) (b : Fin 2) (s : Fin 8192) (h : Fin 8) (d : Fin 128) :
    outs (vs x) (diffs (probs (exps (scores x) (tops (scores x)))) l) (ix4 b s h d)
      = (mean X b.val h.val 0 s.val d.val : EReal) - (L : EReal) * (mean X b.val h.val 1 s.val d.val : EReal) := by
  rw [outs_apply]
  simp only [diffs_apply, probs_real hx, vs_apply, hx, hl, ← EReal.coe_mul, ← EReal.coe_sub, ← coe_sum]
  congr 1
  unfold mean
  rw [Finset.sum_div, Finset.sum_div, Finset.mul_sum, ← Finset.sum_sub_distrib]
  refine Finset.sum_congr rfl fun j _ => ?_
  show _ * (_ - L * _) = _
  simp only [Fin.val_zero, Fin.val_one]
  by_cases hj : j.val ≤ s.val
  · simp only [if_pos hj]; ring
  · simp only [if_neg hj]; ring

theorem res_apply (l1 l2 l3 l4 : FVec Ideal S64 .f32) (g : FVec Ideal S128 .f32) (L : ℝ)
    (hl : lam (fun x => l1 (ix1 x)) (fun x => l2 (ix1 x)) (fun x => l3 (ix1 x)) (fun x => l4 (ix1 x)) = (L : EReal))
    (b : Fin 2) (s : Fin 8192) (y : Fin 1024) : res x l1 l2 l3 l4 g (ix3 b s y)
      = result X (lam (fun x => l1 (ix1 x)) (fun x => l2 (ix1 x)) (fun x => l3 (ix1 x)) (fun x => l4 (ix1 x))) (fun d => g (ix1 d))
          b.val s.val (y.val / 128) ⟨y.val % 128, Nat.mod_lt _ (by decide)⟩ := by
  unfold res result
  rw [norms_apply]
  simp only [outs_real hx L _ ((lm_apply l1 l2 l3 l4 ix0).trans hl), hl]

end

end Cert.ReferenceIdeal.Diff
-- ==== Proof.Claims.lean ====
module

public import proofs.«01_k».proof.Defs
public import proofs.«01_k».proof.Proof.Gen.Kernel.Frame
public import proofs.«01_k».proof.Proof.Gen.Pre_finite
public import proofs.«01_k».proof.Proof.Final
public import proofs.«01_k».proof.Proof.RefValue
public import Idealize.ShloMosaic.Lib.Quiescent
public import Idealize.ShloMosaic.Lib.ReduceAll

@[expose] public section

set_option maxRecDepth 16384

noncomputable section

open Idealize.ShloMosaic Idealize.ShloMosaic.TcCoe Idealize.SL.Sem

namespace Cert.Softmax

/-! ## What the precondition says -/

theorem inf_word : Ideal.ofBits .f32 0x7F800000#32 = ⊤ := by simp [Ideal.ofBits, Ideal.ieee]

/-- Below infinity in absolute value is a real number. -/
theorem real_of_abs_lt (a : EReal) (h : max a (-a) < ⊤) : ∃ r : ℝ, a = (r : EReal) := by
  induction a using EReal.rec with
  | bot => simp at h
  | coe r => exact ⟨r, rfl⟩
  | top => simp at h

/-- An array whose printed test is one everywhere holds real numbers only. -/
theorem real_of_test {s u : Shape} {axes : List (Fin s.rank)} {t : Shape} {bc} [Subsingleton u.Idx] (hb : u.BroadcastsInDim s bc) (x : FVec Ideal s .f32)
    (init : t.Idx → BitVec 1) (hr : s.ReducesTo axes u) (ht : 0 < t.numel) (j : u.Idx)
    (h : Host.reduce IntOp.andi (cmpf .olt (Host.absf x) (broadcastInDim s bc hb (constant (F := Ideal) u .f32 0x7F800000#32))) init hr ht j = 1#1)
    (i : s.Idx) : ∃ r : ℝ, x i = (r : EReal) := by
  have h1 := Host.reduce_andi_all _ init hr ht j h i
  have h2 : BitVec.ofBool (decide (max (x i) (-(x i)) < Ideal.ofBits .f32 0x7F800000#32)) = 1#1 := h1
  rw [inf_word] at h2
  refine real_of_abs_lt _ ?_
  by_contra hn
  rw [decide_eq_false hn] at h2
  exact absurd h2 (by decide)

end Cert.Softmax

namespace Cert.Proof.DiffClaims

open Cert.Softmax

theorem finite_of_pre (x : FVec Ideal Pre_finite.S2x8192x3072 .bf16) (l1 l2 l3 l4 : FVec Ideal Pre_finite.S64 .f32) (g : FVec Ideal Pre_finite.S128 .f32)
    (h : (Cert.Pre_finite.fn (F := Ideal) x l1 l2 l3 l4 g) = fun _ => 1#1) :
    (∀ i, ∃ r : ℝ, x i = (r : EReal)) ∧ (∀ i, ∃ r : ℝ, l1 i = (r : EReal)) ∧ (∀ i, ∃ r : ℝ, l2 i = (r : EReal))
      ∧ (∀ i, ∃ r : ℝ, l3 i = (r : EReal)) ∧ (∀ i, ∃ r : ℝ, l4 i = (r : EReal)) := by
  have h0 := congrFun h ix0
  dsimp only [Cert.Pre_finite.fn, Cert.Pre_finite.fn_part1] at h0
  simp only [andi, IntOp.andi_eq_one] at h0
  obtain ⟨⟨⟨⟨t0, t1⟩, t2⟩, t3⟩, t4⟩ := h0
  haveI : Subsingleton Pre_finite.S_.Idx := ⟨fun a b => funext fun i => i.elim0⟩
  exact ⟨fun i => real_of_test _ _ _ _ _ _ t0 i, fun i => real_of_test _ _ _ _ _ _ t1 i, fun i => real_of_test _ _ _ _ _ _ t2 i,
    fun i => real_of_test _ _ _ _ _ _ t3 i, fun i => real_of_test _ _ _ _ _ _ t4 i⟩

theorem frame_p : Cert.quiescent_Kernel := fun m ρ _ => Cert.Kernel.Gen.frame m ρ
theorem frame_pi : Cert.quiescent_KernelIdeal := fun m ρ _ => Cert.KernelIdeal.Gen.frame m ρ
theorem frame_pi_pre : Cert.quiescent_KernelIdeal_pre_finite := fun m ρ _ => Cert.KernelIdeal.Gen.frame m ρ
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)
theorem frame_ri_pre : Cert.quiescent_ReferenceIdeal_pre_finite := fun m ρ _ => frame_ri m ρ trivial

/-- The mask's constant is named `-∞`. -/
theorem preserves : Cert.preserves_Kernel_KernelIdeal :=
  IdealRules.named_const.statement Cert.KernelIdeal.κ "mask" .f32 0xF149F2CA#32 ⊥ rfl

/-- λ of real vectors is a real number. -/
theorem lam_real (x0 x1 x2 x3 : Fin 64 → EReal) (h0 : ∀ i, ∃ r : ℝ, x0 i = (r : EReal)) (h1 : ∀ i, ∃ r : ℝ, x1 i = (r : EReal))
    (h2 : ∀ i, ∃ r : ℝ, x2 i = (r : EReal)) (h3 : ∀ i, ∃ r : ℝ, x3 i = (r : EReal)) : ∃ L : ℝ, lam x0 x1 x2 x3 = (L : EReal) := by
  choose r0 e0 using h0
  choose r1 e1 using h1
  choose r2 e2 using h2
  choose r3 e3 using h3
  obtain ⟨k, hk⟩ : ∃ k : ℝ, Ideal.ofBits .f32 0x3E4CCCCD#32 = (k : EReal) := by
    simp only [Ideal.ofBits, Ideal.ieee]
    simp
    exact ⟨_, (EReal.coe_mul _ _).symm⟩
  unfold lam
  simp only [e0, e1, e2, e3, ← EReal.coe_mul, ← coe_sum, Ideal.exp_coe, hk, ← EReal.coe_sub, ← EReal.coe_add]
  exact ⟨_, rfl⟩

theorem algebraic : Cert.algebraic_KernelIdeal_ReferenceIdeal_pre_finite := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  obtain ⟨f0, f1, f2, f3, f4⟩ := finite_of_pre _ _ _ _ _ _ (hpre c)
  choose X hX using f0
  obtain ⟨L, hL⟩ := lam_real _ _ _ _ (fun i => f1 (ix1 i)) (fun i => f2 (ix1 i)) (fun i => f3 (ix1 i)) (fun i => f4 (ix1 i))
  rw [Cert.ReferenceIdeal.Diff.res_eq, a0, a1, a2, a3, a4, a5]
  rw [Cert.KernelIdeal.Diff.arr m c (fun b s x => X (ix3 (n0 := 2) (n1 := 8192) (n2 := 3072) ⟨b % 2, Nat.mod_lt _ (by decide)⟩
    ⟨s % 8192, Nat.mod_lt _ (by decide)⟩ ⟨x % 3072, Nat.mod_lt _ (by decide)⟩)) fun b s x => hX _]
  funext y
  idx_vars y
  exact Cert.ReferenceIdeal.Diff.res_apply (X := fun b s x => X (ix3 (n0 := 2) (n1 := 8192) (n2 := 3072) ⟨b % 2, Nat.mod_lt _ (by decide)⟩
    ⟨s % 8192, Nat.mod_lt _ (by decide)⟩ ⟨x % 3072, Nat.mod_lt _ (by decide)⟩)) (fun b s z => by
      rw [hX]
      simp only [Nat.mod_eq_of_lt b.isLt, Nat.mod_eq_of_lt s.isLt, Nat.mod_eq_of_lt z.isLt, Fin.eta]) _ _ _ _ _ L hL y0 y1 y2

end Cert.Proof.DiffClaims

end
-- ==== Proof.QkvClaims.lean ====
module

public import proofs.«01_k».proof.Defs
public import proofs.«01_k».proof.Proof.Gen.Qkv.Frame
public import proofs.«01_k».proof.Proof.Gen.QkvIdeal.Value
public import proofs.«01_k».proof.Proof.Gen.QkvRefIdeal.Run
public import Idealize.ShloMosaic.Lib.Pointwise
public import Idealize.ShloMosaic.Lib.Pipeline.Covers
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.QkvIdeal.Proj

open Cert.QkvIdeal Cert.QkvIdeal.Gen

theorem idx (t : Fin cfg0.N) : win0_0.index t = ![(grid0.coords t 1).val, 0] ∧ win0_1.index t = ![0, (grid0.coords t 0).val]
    ∧ win0_2.index t = ![(grid0.coords t 1).val, (grid0.coords t 0).val] := by
  revert t
  decide +kernel

theorem covers : (cfg0.win 2).Covers := by decide +kernel

/-- A tile of the product. -/
theorem out_apply (x0 : Vec Ideal S1024x2048 .bf16) (x1 : Vec Ideal S2048x1024 .bf16) (r : Fin 1024) (d : Fin 1024) :
    out0_2 x0 x1 (ix2 r d) = ∑ k : Fin 2048, x0 (ix2 r k) * x1 (ix2 k d) := by
  frame_out
  pointwise [k0_pay1]

variable (m : (ℓ : Loc nD τ sig) → Buf (Elt Ideal) ℓ)

theorem blk0 (c : Dev nD) (t : Fin cfg0.N) (r : Fin 1024) (k : Fin 2048) :
    iblk m c 0 t (ix2 r k) = m ((c : Thread nD τ).loc main_arg0) (ix3 (n0 := 2) (n1 := 8192) (n2 := 2048)
      ⟨(1024 * (grid0.coords t 1).val + r.val) / 8192 % 2, Nat.mod_lt _ (by decide)⟩ ⟨(1024 * (grid0.coords t 1).val + r.val) % 8192, Nat.mod_lt _ (by decide)⟩ k) := by
  have h1 : (grid0.coords t 1).val < 16 := (grid0.coords t 1).isLt
  blk_ext! [iblk, (idx t).1]

theorem blk1 (c : Dev nD) (t : Fin cfg0.N) (k : Fin 2048) (d : Fin 1024) :
    iblk m c 1 t (ix2 k d) = m ((c : Thread nD τ).loc main_arg1) (ix2 (n0 := 2048) (n1 := 5648)
      k ⟨(1024 * (grid0.coords t 0).val + d.val) % 5648, Nat.mod_lt _ (by decide)⟩) := by
  have h0 : (grid0.coords t 0).val < 3 := (grid0.coords t 0).isLt
  blk_ext! [iblk, (idx t).2.1]

/-- The result's entry. -/
def entry (x : FVec Ideal S2x8192x2048 .f32) (w : FVec Ideal S2048x5648 .f32) (r d : ℕ) : EReal :=
  ∑ k : Fin 2048, x (ix3 (n0 := 2) (n1 := 8192) (n2 := 2048) ⟨r / 8192 % 2, Nat.mod_lt _ (by decide)⟩ ⟨r % 8192, Nat.mod_lt _ (by decide)⟩ k)
    * w (ix2 (n0 := 2048) (n1 := 5648) k ⟨d % 5648, Nat.mod_lt _ (by decide)⟩)

theorem arr (c : Dev nD) : (dats m 0 c).arrAt 2 cfg0.N = fun y : S16384x3072.Idx =>
    entry (m ((c : Thread nD τ).loc main_arg0)) (m ((c : Thread nD τ).loc main_arg1)) (y 0).val (y 1).val := by
  refine (dats m 0 c).arrAt_eq_of_covers 2 _ covers fun t hf y => ?_
  have h0 : (grid0.coords t 0).val < 3 := (grid0.coords t 0).isLt
  have h1 : (grid0.coords t 1).val < 16 := (grid0.coords t 1).isLt
  blk_simp [(idx t).2.2]
  rw [after0_2]
  idx_vars y
  rw [out_apply]
  simp only [blk0, blk1, entry, Nat.mul_comm]

end Cert.QkvIdeal.Proj

namespace Cert.QkvRefIdeal.Proj

open Cert.QkvRefIdeal Cert.QkvRefIdeal.Gen

/-- The reference's result. -/
def res (x : FVec Ideal S2x8192x2048 .f32) (w : FVec Ideal S2048x5648 .f32) : FVec Ideal S16384x3072 .bf16 :=
  truncf .bf16 (extractStridedSlice S16384x3072 ![0, 0] (Host.dotGeneral dot_S16384x2048_S2048x5648_S16384x5648_1_0_0_1_n_n none
    (shapeCast _ x shapeCasts_S2x8192x2048_S16384x2048) w) slices_S16384x5648_S16384x3072_0_0) bitsLt_bf16_f32

theorem res_apply (x : FVec Ideal S2x8192x2048 .f32) (w : FVec Ideal S2048x5648 .f32) (r : Fin 16384) (d : Fin 3072) :
    res x w (ix2 r d) = Cert.QkvIdeal.Proj.entry x w r.val d.val := by
  unfold res Cert.QkvIdeal.Proj.entry
  have hr : r.val / 8192 % 2 = r.val / 8192 := Nat.mod_eq_of_lt (by omega)
  have hd : d.val % 5648 = d.val := Nat.mod_eq_of_lt (by omega)
  simp only [hr, hd]
  pointwise

end Cert.QkvRefIdeal.Proj

namespace Cert.Proof.QkvClaims

theorem frame_p : Cert.quiescent_Qkv := fun m ρ _ => Cert.Qkv.Gen.frame m ρ
theorem frame_pi : Cert.quiescent_QkvIdeal := fun m ρ _ => Cert.QkvIdeal.Gen.frame m ρ
theorem frame_ri : Cert.quiescent_QkvRefIdeal := fun m ρ _ =>
  (θ_run Cert.QkvRefIdeal.defs _ _).mono (fun r h => ⟨fun c => (h c).2,
      Idealize.ShloMosaic.sem_eq_zero_of_no_sems (by decide) r.2⟩)
    (Cert.QkvRefIdeal.Value.run (F := Ideal) m ρ)

theorem algebraic : Cert.algebraic_QkvIdeal_QkvRefIdeal := by
  intro m ρ m' ρ' hpre hagree
  refine ⟨_, Cert.QkvIdeal.Value.run_blocks (F := Ideal) m ρ, ?_⟩
  refine (θ_run Cert.QkvRefIdeal.defs _ _).mono (fun _ h c => ⟨(h c).1.trans ?_, (h c).2⟩)
    (Cert.QkvRefIdeal.Value.run (F := Ideal) m' ρ')
  obtain ⟨a0, a1⟩ := hagree c
  rw [a0, a1, Cert.QkvIdeal.Proj.arr]
  funext y
  idx_vars y
  exact Cert.QkvRefIdeal.Proj.res_apply _ _ y0 y1

end Cert.Proof.QkvClaims

end
-- ==== Proof.SsmInClaims.lean ====
module

public import proofs.«01_k».proof.Defs
public import proofs.«01_k».proof.Proof.Gen.SsmIn.Frame
public import proofs.«01_k».proof.Proof.Gen.SsmInIdeal.Value
public import proofs.«01_k».proof.Proof.Gen.SsmInRefIdeal.Run
public import Idealize.ShloMosaic.Lib.Pointwise
public import Idealize.ShloMosaic.Lib.KernelVsHost
public import Idealize.ShloMosaic.Lib.Pipeline.Covers
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.SsmInIdeal.Proj

open Cert.SsmInIdeal Cert.SsmInIdeal.Gen

theorem zf : (FloatOps.sitofp (F := Ideal) .f32 (0#32) : Ideal .f32) = 0 := sitofp_zero

theorem idx (t : Fin cfg0.N) : win0_0.index t = ![(grid0.coords t 1).val, 0] ∧ win0_1.index t = ![0, (grid0.coords t 0).val]
    ∧ win0_2.index t = ![(grid0.coords t 1).val, (grid0.coords t 0).val] := by
  revert t
  decide +kernel

theorem covers : (cfg0.win 2).Covers := by decide +kernel

/-- A tile of the product. -/
theorem out_apply (x0 : Vec Ideal S1024x2048 .bf16) (x1 : Vec Ideal S2048x896 .bf16) (r : Fin 1024) (d : Fin 896) :
    out0_2 x0 x1 (ix2 r d) = ∑ k : Fin 2048, x0 (ix2 r k) * x1 (ix2 k d) := by
  frame_out
  pointwise [k0_pay1]

/-- The weights' columns, padded with zero columns. -/
def wmat (w : FVec Ideal S2048x5648 .f32) : FVec Ideal S2048x2688 .bf16 :=
  truncf .bf16 (pad S2048x2688 ![0, 0] ![0, 112] ![0, 0] (extractStridedSlice S2048x2576 ![0, 3072] w slices_S2048x5648_S2048x2576_0_3072)
    (sitofp (F := Ideal) .f32 (constantI S_ 32 0#32)) pads_S2048x2576_S2048x2688_000_01120 h_S_) bitsLt_bf16_f32

/-- Column `d` of the weights. -/
def wcol (w : FVec Ideal S2048x5648 .f32) (k : Fin 2048) (d : ℕ) : EReal :=
  if d < 2576 then w (ix2 (n0 := 2048) (n1 := 5648) k ⟨(3072 + d) % 5648, Nat.mod_lt _ (by decide)⟩) else 0

theorem wmat_apply (w : FVec Ideal S2048x5648 .f32) (k : Fin 2048) (d : Fin 2688) : wmat w (ix2 k d) = wcol w k d.val := by
  unfold wmat wcol
  pointwise
  simp only [zf]
  by_cases h : d.val < 2576
  · have hd : (3072 + d.val) % 5648 = 3072 + d.val := Nat.mod_eq_of_lt (by omega)
    simp only [h, hd, if_true, dite_true]
  · simp only [h, if_false, dite_false]

/-- The two batches' rows one after the other. -/
def xmat (x : FVec Ideal S2x8192x2048 .f32) : FVec Ideal S16384x2048 .bf16 :=
  truncf .bf16 (shapeCast _ x shapeCasts_S2x8192x2048_S16384x2048 : FVec Ideal S16384x2048 .f32) bitsLt_bf16_f32

theorem xmat_apply (x : FVec Ideal S2x8192x2048 .f32) (r : Fin 16384) (k : Fin 2048) :
    xmat x (ix2 r k) = x (ix3 (n0 := 2) (n1 := 8192) (n2 := 2048) ⟨r.val / 8192 % 2, Nat.mod_lt _ (by decide)⟩ ⟨r.val % 8192, Nat.mod_lt _ (by decide)⟩ k) := by
  have hr : r.val / 8192 % 2 = r.val / 8192 := Nat.mod_eq_of_lt (by omega)
  unfold xmat
  simp only [hr]
  pointwise

variable (m : (ℓ : Loc nD τ sig) → Buf (Elt Ideal) ℓ)

theorem blk0 (c : Dev nD) (t : Fin cfg0.N) (r : Fin 1024) (k : Fin 2048) :
    iblk m c 0 t (ix2 r k) = m ((c : Thread nD τ).loc main_arg0) (ix3 (n0 := 2) (n1 := 8192) (n2 := 2048)
      ⟨(1024 * (grid0.coords t 1).val + r.val) / 8192 % 2, Nat.mod_lt _ (by decide)⟩ ⟨(1024 * (grid0.coords t 1).val + r.val) % 8192, Nat.mod_lt _ (by decide)⟩ k) := by
  have h1 : (grid0.coords t 1).val < 16 := (grid0.coords t 1).isLt
  have hv : V m c main_v1 = xmat (m ((c : Thread nD τ).loc main_arg0)) := by
    unfold V xmat
    simp only [hostOps0, hostOps0_1, hostOps0_2, List.flatten_cons, List.flatten_nil, List.append_nil, List.cons_append, List.nil_append]
    entry_read
    rfl
  have he : iblk m c 0 t (ix2 r k) = V m c main_v1 ((win0_0.blk t).view.emb (ix2 r k)) := rfl
  have key (X : FVec Ideal S16384x2048 .bf16) : X ((win0_0.blk t).view.emb (ix2 r k))
      = X (ix2 (n0 := 16384) (n1 := 2048) ⟨1024 * (grid0.coords t 1).val + r.val, by omega⟩ k) := by
    blk_ext [(idx t).1]
  rw [he, key (V m c main_v1), hv, xmat_apply]

theorem blk1 (c : Dev nD) (t : Fin cfg0.N) (k : Fin 2048) (d : Fin 896) :
    iblk m c 1 t (ix2 k d) = wcol (m ((c : Thread nD τ).loc main_arg1)) k (896 * (grid0.coords t 0).val + d.val) := by
  have h0 : (grid0.coords t 0).val < 3 := (grid0.coords t 0).isLt
  rw [← wmat_apply (m ((c : Thread nD τ).loc main_arg1)) k ⟨896 * (grid0.coords t 0).val + d.val, by omega⟩]
  unfold wmat
  blk_ext! [iblk, (idx t).2.1]

/-- The result's entry. -/
def entry (x : FVec Ideal S2x8192x2048 .f32) (w : FVec Ideal S2048x5648 .f32) (r d : ℕ) : EReal :=
  ∑ k : Fin 2048, x (ix3 (n0 := 2) (n1 := 8192) (n2 := 2048) ⟨r / 8192 % 2, Nat.mod_lt _ (by decide)⟩ ⟨r % 8192, Nat.mod_lt _ (by decide)⟩ k) * wcol w k d

theorem arr (c : Dev nD) : (dats m 0 c).arrAt 2 cfg0.N = fun y : S16384x2688.Idx =>
    entry (m ((c : Thread nD τ).loc main_arg0)) (m ((c : Thread nD τ).loc main_arg1)) (y 0).val (y 1).val := by
  refine (dats m 0 c).arrAt_eq_of_covers 2 _ covers fun t hf y => ?_
  have h0 : (grid0.coords t 0).val < 3 := (grid0.coords t 0).isLt
  have h1 : (grid0.coords t 1).val < 16 := (grid0.coords t 1).isLt
  blk_simp [(idx t).2.2]
  rw [after0_2]
  idx_vars y
  rw [out_apply]
  simp only [blk0, blk1, entry, Nat.mul_comm]

end Cert.SsmInIdeal.Proj

namespace Cert.SsmInRefIdeal.Proj

open Cert.SsmInRefIdeal Cert.SsmInRefIdeal.Gen

/-- The reference's result. -/
def res (x : FVec Ideal S2x8192x2048 .f32) (w : FVec Ideal S2048x5648 .f32) : FVec Ideal S16384x2688 .f32 :=
  pad S16384x2688 ![0, 0] ![0, 112] ![0, 0] (extractStridedSlice S16384x2576 ![0, 3072] (Host.dotGeneral dot_S16384x2048_S2048x5648_S16384x5648_1_0_0_1_n_n none
    (shapeCast _ x shapeCasts_S2x8192x2048_S16384x2048) w) slices_S16384x5648_S16384x2576_0_3072) (sitofp (F := Ideal) .f32 (constantI S_ 32 0#32))
    pads_S16384x2576_S16384x2688_000_01120 h_S_

theorem res_apply (x : FVec Ideal S2x8192x2048 .f32) (w : FVec Ideal S2048x5648 .f32) (r : Fin 16384) (d : Fin 2688) :
    res x w (ix2 r d) = Cert.SsmInIdeal.Proj.entry x w r.val d.val := by
  unfold res Cert.SsmInIdeal.Proj.entry Cert.SsmInIdeal.Proj.wcol
  have hr : r.val / 8192 % 2 = r.val / 8192 := Nat.mod_eq_of_lt (by omega)
  simp only [hr]
  pointwise
  simp only [Cert.SsmInIdeal.Proj.zf]
  by_cases h : d.val < 2576
  · have hd : (3072 + d.val) % 5648 = 3072 + d.val := Nat.mod_eq_of_lt (by omega)
    simp only [h, hd, if_true, dite_true]
  · simp only [h, if_false, dite_false, mul_zero, Finset.sum_const_zero]

end Cert.SsmInRefIdeal.Proj

namespace Cert.Proof.SsmInClaims

theorem frame_p : Cert.quiescent_SsmIn := fun m ρ _ => Cert.SsmIn.Gen.frame m ρ
theorem frame_pi : Cert.quiescent_SsmInIdeal := fun m ρ _ => Cert.SsmInIdeal.Gen.frame m ρ
theorem frame_ri : Cert.quiescent_SsmInRefIdeal := fun m ρ _ =>
  (θ_run Cert.SsmInRefIdeal.defs _ _).mono (fun r h => ⟨fun c => (h c).2,
      Idealize.ShloMosaic.sem_eq_zero_of_no_sems (by decide) r.2⟩)
    (Cert.SsmInRefIdeal.Value.run (F := Ideal) m ρ)

theorem algebraic : Cert.algebraic_SsmInIdeal_SsmInRefIdeal := by
  intro m ρ m' ρ' hpre hagree
  refine ⟨_, Cert.SsmInIdeal.Value.run_blocks (F := Ideal) m ρ, ?_⟩
  refine (θ_run Cert.SsmInRefIdeal.defs _ _).mono (fun _ h c => ⟨(h c).1.trans ?_, (h c).2⟩)
    (Cert.SsmInRefIdeal.Value.run (F := Ideal) m' ρ')
  obtain ⟨a0, a1⟩ := hagree c
  rw [a0, a1, Cert.SsmInIdeal.Proj.arr]
  funext y
  idx_vars y
  exact Cert.SsmInRefIdeal.Proj.res_apply _ _ y0 y1

end Cert.Proof.SsmInClaims

end
-- ==== Proof.NsaAClaims.lean ====
module

public import proofs.«01_k».proof.Defs
public import proofs.«01_k».proof.Proof.Gen.NsaA.Frame
public import proofs.«01_k».proof.Proof.Gen.NsaAIdeal.Value
public import proofs.«01_k».proof.Proof.Gen.NsaARefIdeal.Run
public import Idealize.ShloMosaic.Lib.Pointwise
public import Idealize.ShloMosaic.Lib.KernelVsHost
public import Idealize.ShloMosaic.Lib.Pipeline.Covers
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.NsaAIdeal.Proj

open Cert.NsaAIdeal Cert.NsaAIdeal.Gen

theorem zf : (FloatOps.sitofp (F := Ideal) .f32 (0#32) : Ideal .f32) = 0 := sitofp_zero

theorem idx (t : Fin cfg0.N) : win0_0.index t = ![(grid0.coords t 1).val, 0] ∧ win0_1.index t = ![0, (grid0.coords t 0).val]
    ∧ win0_2.index t = ![(grid0.coords t 1).val, (grid0.coords t 0).val] := by
  revert t
  decide +kernel

theorem covers : (cfg0.win 2).Covers := by decide +kernel

/-- A tile of the product. -/
theorem out_apply (x0 : Vec Ideal S1024x2048 .bf16) (x1 : Vec Ideal S2048x1024 .bf16) (r : Fin 1024) (d : Fin 1024) :
    out0_2 x0 x1 (ix2 r d) = ∑ k : Fin 2048, x0 (ix2 r k) * x1 (ix2 k d) := by
  frame_out
  pointwise [k0_pay1]

/-- The weights' columns that are taken. -/
def wmat (w : FVec Ideal S2048x5168 .f32) : FVec Ideal S2048x4096 .bf16 :=
  truncf .bf16 (concatenate S2048x4096 1 [⟨S2048x2048, extractStridedSlice S2048x2048 ![0, 0] w slices_S2048x5168_S2048x2048_0_0⟩,
    ⟨S2048x2048, extractStridedSlice S2048x2048 ![0, 1024] (extractStridedSlice S2048x3072 ![0, 2048] w slices_S2048x5168_S2048x3072_0_2048) slices_S2048x3072_S2048x2048_0_1024⟩]
    concatenates_S2048x2048_S2048x2048_S2048x4096_d1) bitsLt_bf16_f32

/-- Column `d` of the weights. -/
def wcol (w : FVec Ideal S2048x5168 .f32) (k : Fin 2048) (d : ℕ) : EReal :=
  w (ix2 (n0 := 2048) (n1 := 5168) k ⟨(if d < 2048 then d else d + 1024) % 5168, Nat.mod_lt _ (by decide)⟩)

theorem wmat_apply (w : FVec Ideal S2048x5168 .f32) (k : Fin 2048) (d : Fin 4096) : wmat w (ix2 k d) = wcol w k d.val := by
  unfold wmat wcol
  pointwise
  by_cases h : d.val < 2048
  · have hd : d.val % 5168 = d.val := Nat.mod_eq_of_lt (by omega)
    simp only [h, hd, if_true, dite_true]
  · have hd : (d.val + 1024) % 5168 = d.val + 1024 := Nat.mod_eq_of_lt (by omega)
    have he : 2048 + (1024 + (d.val - 2048)) = d.val + 1024 := by omega
    simp only [h, hd, he, if_false, dite_false]

variable (m : (ℓ : Loc nD τ sig) → Buf (Elt Ideal) ℓ)

theorem blk0 (c : Dev nD) (t : Fin cfg0.N) (r : Fin 1024) (k : Fin 2048) :
    iblk m c 0 t (ix2 r k) = m ((c : Thread nD τ).loc main_arg0) (ix2 (n0 := 16384) (n1 := 2048)
      ⟨(1024 * (grid0.coords t 1).val + r.val) % 16384, Nat.mod_lt _ (by decide)⟩ k) := by
  have h1 : (grid0.coords t 1).val < 16 := (grid0.coords t 1).isLt
  blk_ext [iblk, V, (idx t).1]

theorem blk1 (c : Dev nD) (t : Fin cfg0.N) (k : Fin 2048) (d : Fin 1024) :
    iblk m c 1 t (ix2 k d) = wcol (m ((c : Thread nD τ).loc main_arg1)) k (1024 * (grid0.coords t 0).val + d.val) := by
  have h0 : (grid0.coords t 0).val < 4 := (grid0.coords t 0).isLt
  rw [← wmat_apply (m ((c : Thread nD τ).loc main_arg1)) k ⟨1024 * (grid0.coords t 0).val + d.val, by omega⟩]
  unfold wmat
  blk_ext! [iblk, (idx t).2.1]

/-- The result's entry. -/
def entry (x : FVec Ideal S16384x2048 .bf16) (w : FVec Ideal S2048x5168 .f32) (r d : ℕ) : EReal :=
  ∑ k : Fin 2048, x (ix2 (n0 := 16384) (n1 := 2048) ⟨r % 16384, Nat.mod_lt _ (by decide)⟩ k) * wcol w k d

theorem arr (c : Dev nD) : (dats m 0 c).arrAt 2 cfg0.N = fun y : S16384x4096.Idx =>
    entry (m ((c : Thread nD τ).loc main_arg0)) (m ((c : Thread nD τ).loc main_arg1)) (y 0).val (y 1).val := by
  refine (dats m 0 c).arrAt_eq_of_covers 2 _ covers fun t hf y => ?_
  have h0 : (grid0.coords t 0).val < 4 := (grid0.coords t 0).isLt
  have h1 : (grid0.coords t 1).val < 16 := (grid0.coords t 1).isLt
  blk_simp [(idx t).2.2]
  rw [after0_2]
  idx_vars y
  rw [out_apply]
  simp only [blk0, blk1, entry, Nat.mul_comm]

end Cert.NsaAIdeal.Proj

namespace Cert.NsaARefIdeal.Proj

open Cert.NsaARefIdeal Cert.NsaARefIdeal.Gen

/-- The reference's result. -/
def res (x : FVec Ideal S16384x2048 .bf16) (w : FVec Ideal S2048x5168 .f32) : FVec Ideal S16384x4096 .bf16 :=
  truncf .bf16 (concatenate S16384x4096 1 [⟨S16384x2048, (extractStridedSlice S16384x2048 ![0, 0] (Host.dotGeneral dot_S16384x2048_S2048x5168_S16384x5168_1_0_0_1_n_n none (extf .f32 x bitsLt_bf16_f32) w) slices_S16384x5168_S16384x2048_0_0)⟩, ⟨S16384x2048, (extractStridedSlice S16384x2048 ![0, 3072] (Host.dotGeneral dot_S16384x2048_S2048x5168_S16384x5168_1_0_0_1_n_n none (extf .f32 x bitsLt_bf16_f32) w) slices_S16384x5168_S16384x2048_0_3072)⟩] concatenates_S16384x2048_S16384x2048_S16384x4096_d1) bitsLt_bf16_f32

theorem res_apply (x : FVec Ideal S16384x2048 .bf16) (w : FVec Ideal S2048x5168 .f32) (r : Fin 16384) (d : Fin 4096) :
    res x w (ix2 r d) = Cert.NsaAIdeal.Proj.entry x w r.val d.val := by
  unfold res Cert.NsaAIdeal.Proj.entry Cert.NsaAIdeal.Proj.wcol
  have hr : r.val % 16384 = r.val := Nat.mod_eq_of_lt r.isLt
  simp only [hr]
  pointwise
  by_cases h : d.val < 2048
  · have hd : d.val % 5168 = d.val := Nat.mod_eq_of_lt (by omega)
    simp only [h, hd, if_true, dite_true]
  · have hd : (d.val + 1024) % 5168 = d.val + 1024 := Nat.mod_eq_of_lt (by omega)
    have he : 3072 + (d.val - 2048) = d.val + 1024 := by omega
    simp only [h, hd, he, if_false, dite_false]

end Cert.NsaARefIdeal.Proj

namespace Cert.Proof.NsaAClaims

theorem frame_p : Cert.quiescent_NsaA := fun m ρ _ => Cert.NsaA.Gen.frame m ρ
theorem frame_pi : Cert.quiescent_NsaAIdeal := fun m ρ _ => Cert.NsaAIdeal.Gen.frame m ρ
theorem frame_ri : Cert.quiescent_NsaARefIdeal := fun m ρ _ =>
  (θ_run Cert.NsaARefIdeal.defs _ _).mono (fun r h => ⟨fun c => (h c).2,
      Idealize.ShloMosaic.sem_eq_zero_of_no_sems (by decide) r.2⟩)
    (Cert.NsaARefIdeal.Value.run (F := Ideal) m ρ)

theorem algebraic : Cert.algebraic_NsaAIdeal_NsaARefIdeal := by
  intro m ρ m' ρ' hpre hagree
  refine ⟨_, Cert.NsaAIdeal.Value.run_blocks (F := Ideal) m ρ, ?_⟩
  refine (θ_run Cert.NsaARefIdeal.defs _ _).mono (fun _ h c => ⟨(h c).1.trans ?_, (h c).2⟩)
    (Cert.NsaARefIdeal.Value.run (F := Ideal) m' ρ')
  obtain ⟨a0, a1⟩ := hagree c
  rw [a0, a1, Cert.NsaAIdeal.Proj.arr]
  funext y
  idx_vars y
  exact Cert.NsaARefIdeal.Proj.res_apply _ _ y0 y1

end Cert.Proof.NsaAClaims

end
-- ==== Proof.NsaBClaims.lean ====
module

public import proofs.«01_k».proof.Defs
public import proofs.«01_k».proof.Proof.Gen.NsaB.Frame
public import proofs.«01_k».proof.Proof.Gen.NsaBIdeal.Value
public import proofs.«01_k».proof.Proof.Gen.NsaBRefIdeal.Run
public import Idealize.ShloMosaic.Lib.Pointwise
public import Idealize.ShloMosaic.Lib.KernelVsHost
public import Idealize.ShloMosaic.Lib.Pipeline.Covers
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.NsaBIdeal.Proj

open Cert.NsaBIdeal Cert.NsaBIdeal.Gen

theorem zf : (FloatOps.sitofp (F := Ideal) .f32 (0#32) : Ideal .f32) = 0 := sitofp_zero

theorem idx (t : Fin cfg0.N) : win0_0.index t = ![(grid0.coords t 1).val, 0] ∧ win0_1.index t = ![0, (grid0.coords t 0).val]
    ∧ win0_2.index t = ![(grid0.coords t 1).val, (grid0.coords t 0).val] := by
  revert t
  decide +kernel

theorem covers : (cfg0.win 2).Covers := by decide +kernel

/-- A tile of the product. -/
theorem out_apply (x0 : Vec Ideal S1024x2048 .bf16) (x1 : Vec Ideal S2048x512 .bf16) (r : Fin 1024) (d : Fin 512) :
    out0_2 x0 x1 (ix2 r d) = ∑ k : Fin 2048, x0 (ix2 r k) * x1 (ix2 k d) := by
  frame_out
  pointwise [k0_pay1]

/-- The weights' columns that are taken, the gates' padded with zero columns to whole groups of lanes. -/
def wmat (w : FVec Ideal S2048x5168 .f32) : FVec Ideal S2048x1536 .bf16 :=
  truncf .bf16 (concatenate S2048x1536 1 [⟨S2048x1024, extractStridedSlice S2048x1024 ![0, 0] (extractStridedSlice S2048x3072 ![0, 2048] w slices_S2048x5168_S2048x3072_0_2048) slices_S2048x3072_S2048x1024_0_0⟩,
    ⟨S2048x512, shapeCast _ (pad S2048x4x128 ![0, 0, 0] ![0, 0, 116] ![0, 0, 0] (shapeCast _ (extractStridedSlice S2048x48 ![0, 5120] w slices_S2048x5168_S2048x48_0_5120) shapeCasts_S2048x48_S2048x4x12)
      (sitofp (F := Ideal) .f32 (constantI S_ 32 0#32)) pads_S2048x4x12_S2048x4x128_000_000_01160 h_S_) shapeCasts_S2048x4x128_S2048x512⟩]
    concatenates_S2048x1024_S2048x512_S2048x1536_d1) bitsLt_bf16_f32

/-- Column `d` of the weights. -/
def wcol (w : FVec Ideal S2048x5168 .f32) (k : Fin 2048) (d : ℕ) : EReal :=
  if d < 1024 then w (ix2 (n0 := 2048) (n1 := 5168) k ⟨(2048 + d) % 5168, Nat.mod_lt _ (by decide)⟩)
  else if (d - 1024) % 128 < 12 then w (ix2 (n0 := 2048) (n1 := 5168) k ⟨(5120 + ((d - 1024) / 128 * 12 + (d - 1024) % 128)) % 5168, Nat.mod_lt _ (by decide)⟩)
  else 0

theorem wmat_apply (w : FVec Ideal S2048x5168 .f32) (k : Fin 2048) (d : Fin 1536) : wmat w (ix2 k d) = wcol w k d.val := by
  unfold wmat wcol
  pointwise
  simp only [zf]
  by_cases h : d.val < 1024
  · have hd : (2048 + d.val) % 5168 = 2048 + d.val := Nat.mod_eq_of_lt (by omega)
    simp only [h, hd, if_true, dite_true]
  · have hg : (d.val - 1024) / 128 < 4 := by omega
    by_cases hl : (d.val - 1024) % 128 < 12
    · have hd : (5120 + ((d.val - 1024) / 128 * 12 + (d.val - 1024) % 128)) % 5168 = 5120 + ((d.val - 1024) / 128 * 12 + (d.val - 1024) % 128) :=
        Nat.mod_eq_of_lt (by omega)
      simp only [h, hg, hl, hd, if_true, if_false, dite_true, dite_false, and_self]
    · simp only [h, hl, if_false, dite_false, and_false, mul_zero, Finset.sum_const_zero]

variable (m : (ℓ : Loc nD τ sig) → Buf (Elt Ideal) ℓ)

theorem blk0 (c : Dev nD) (t : Fin cfg0.N) (r : Fin 1024) (k : Fin 2048) :
    iblk m c 0 t (ix2 r k) = m ((c : Thread nD τ).loc main_arg0) (ix2 (n0 := 16384) (n1 := 2048)
      ⟨(1024 * (grid0.coords t 1).val + r.val) % 16384, Nat.mod_lt _ (by decide)⟩ k) := by
  have h1 : (grid0.coords t 1).val < 16 := (grid0.coords t 1).isLt
  blk_ext [iblk, V, (idx t).1]

theorem blk1 (c : Dev nD) (t : Fin cfg0.N) (k : Fin 2048) (d : Fin 512) :
    iblk m c 1 t (ix2 k d) = wcol (m ((c : Thread nD τ).loc main_arg1)) k (512 * (grid0.coords t 0).val + d.val) := by
  have h0 : (grid0.coords t 0).val < 3 := (grid0.coords t 0).isLt
  rw [← wmat_apply (m ((c : Thread nD τ).loc main_arg1)) k ⟨512 * (grid0.coords t 0).val + d.val, by omega⟩]
  unfold wmat
  blk_ext! [iblk, (idx t).2.1]

/-- The result's entry. -/
def entry (x : FVec Ideal S16384x2048 .bf16) (w : FVec Ideal S2048x5168 .f32) (r d : ℕ) : EReal :=
  ∑ k : Fin 2048, x (ix2 (n0 := 16384) (n1 := 2048) ⟨r % 16384, Nat.mod_lt _ (by decide)⟩ k) * wcol w k d

theorem arr (c : Dev nD) : (dats m 0 c).arrAt 2 cfg0.N = fun y : S16384x1536.Idx =>
    entry (m ((c : Thread nD τ).loc main_arg0)) (m ((c : Thread nD τ).loc main_arg1)) (y 0).val (y 1).val := by
  refine (dats m 0 c).arrAt_eq_of_covers 2 _ covers fun t hf y => ?_
  have h0 : (grid0.coords t 0).val < 3 := (grid0.coords t 0).isLt
  have h1 : (grid0.coords t 1).val < 16 := (grid0.coords t 1).isLt
  blk_simp [(idx t).2.2]
  rw [after0_2]
  idx_vars y
  rw [out_apply]
  simp only [blk0, blk1, entry, Nat.mul_comm]

end Cert.NsaBIdeal.Proj

namespace Cert.NsaBRefIdeal.Proj

open Cert.NsaBRefIdeal Cert.NsaBRefIdeal.Gen

/-- The reference's result. -/
def res (x : FVec Ideal S16384x2048 .bf16) (w : FVec Ideal S2048x5168 .f32) : FVec Ideal S16384x1536 .f32 :=
  concatenate S16384x1536 1 [⟨S16384x1024, (extractStridedSlice S16384x1024 ![0, 2048] (Host.dotGeneral dot_S16384x2048_S2048x5168_S16384x5168_1_0_0_1_n_n none (extf .f32 x bitsLt_bf16_f32) w) slices_S16384x5168_S16384x1024_0_2048)⟩, ⟨S16384x512, (shapeCast _ (pad S16384x4x128 ![0, 0, 0] ![0, 0, 116] ![0, 0, 0] (shapeCast _ (extractStridedSlice S16384x48 ![0, 5120] (Host.dotGeneral dot_S16384x2048_S2048x5168_S16384x5168_1_0_0_1_n_n none (extf .f32 x bitsLt_bf16_f32) w) slices_S16384x5168_S16384x48_0_5120) shapeCasts_S16384x48_S16384x4x12) (sitofp (F := Ideal) .f32 (constantI S_ 32 0#32)) pads_S16384x4x12_S16384x4x128_000_000_01160 h_S_) shapeCasts_S16384x4x128_S16384x512)⟩] concatenates_S16384x1024_S16384x512_S16384x1536_d1

theorem res_apply (x : FVec Ideal S16384x2048 .bf16) (w : FVec Ideal S2048x5168 .f32) (r : Fin 16384) (d : Fin 1536) :
    res x w (ix2 r d) = Cert.NsaBIdeal.Proj.entry x w r.val d.val := by
  unfold res Cert.NsaBIdeal.Proj.entry Cert.NsaBIdeal.Proj.wcol
  have hr : r.val % 16384 = r.val := Nat.mod_eq_of_lt r.isLt
  simp only [hr]
  pointwise
  simp only [Cert.NsaBIdeal.Proj.zf]
  by_cases h : d.val < 1024
  · have hd : (2048 + d.val) % 5168 = 2048 + d.val := Nat.mod_eq_of_lt (by omega)
    simp only [h, hd, if_true, dite_true]
  · have hg : (d.val - 1024) / 128 < 4 := by omega
    by_cases hl : (d.val - 1024) % 128 < 12
    · have hd : (5120 + ((d.val - 1024) / 128 * 12 + (d.val - 1024) % 128)) % 5168 = 5120 + ((d.val - 1024) / 128 * 12 + (d.val - 1024) % 128) :=
        Nat.mod_eq_of_lt (by omega)
      simp only [h, hg, hl, hd, if_true, if_false, dite_true, dite_false, and_self]
    · simp only [h, hl, if_false, dite_false, and_false, mul_zero, Finset.sum_const_zero]

end Cert.NsaBRefIdeal.Proj

namespace Cert.Proof.NsaBClaims

theorem frame_p : Cert.quiescent_NsaB := fun m ρ _ => Cert.NsaB.Gen.frame m ρ
theorem frame_pi : Cert.quiescent_NsaBIdeal := fun m ρ _ => Cert.NsaBIdeal.Gen.frame m ρ
theorem frame_ri : Cert.quiescent_NsaBRefIdeal := fun m ρ _ =>
  (θ_run Cert.NsaBRefIdeal.defs _ _).mono (fun r h => ⟨fun c => (h c).2,
      Idealize.ShloMosaic.sem_eq_zero_of_no_sems (by decide) r.2⟩)
    (Cert.NsaBRefIdeal.Value.run (F := Ideal) m ρ)

theorem algebraic : Cert.algebraic_NsaBIdeal_NsaBRefIdeal := by
  intro m ρ m' ρ' hpre hagree
  refine ⟨_, Cert.NsaBIdeal.Value.run_blocks (F := Ideal) m ρ, ?_⟩
  refine (θ_run Cert.NsaBRefIdeal.defs _ _).mono (fun _ h c => ⟨(h c).1.trans ?_, (h c).2⟩)
    (Cert.NsaBRefIdeal.Value.run (F := Ideal) m' ρ')
  obtain ⟨a0, a1⟩ := hagree c
  rw [a0, a1, Cert.NsaBIdeal.Proj.arr]
  funext y
  idx_vars y
  exact Cert.NsaBRefIdeal.Proj.res_apply _ _ y0 y1

end Cert.Proof.NsaBClaims

end
-- ==== Proof.LayerNorm.lean ====
module

public import Idealize.ShloMosaic.Lib.Pointwise

@[expose] public section

noncomputable section

open Idealize.ShloMosaic

namespace Cert.LayerNorm

/-- The mean of a row of 2048. -/
def mean (s : Fin 2048 → EReal) : EReal := Ideal.div (∑ k, s k) (Ideal.ofBits .f32 1157627904#32)

/-- Layer norm of a row at lane `d`, with gain `g` and shift `b` of that lane. -/
def norm (s : Fin 2048 → EReal) (g b : EReal) (d : Fin 2048) : EReal :=
  (s d - mean s) * Ideal.rsqrt (Ideal.div (∑ k, (s k - mean s) * (s k - mean s)) (Ideal.ofBits .f32 1157627904#32)
    + Ideal.ofBits .f32 925353388#32) * g + b

/-- The residual's factor. -/
def alpha : EReal := Ideal.ofBits .f32 1068827891#32

end Cert.LayerNorm

end
-- ==== Proof.OutClaims.lean ====
module

public import proofs.«01_k».proof.Defs
public import proofs.«01_k».proof.Proof.Gen.Out.Frame
public import proofs.«01_k».proof.Proof.Gen.OutIdeal.Value
public import proofs.«01_k».proof.Proof.Gen.OutRefIdeal.Run
public import proofs.«01_k».proof.Proof.LayerNorm
public import Idealize.ShloMosaic.Lib.Pointwise
public import Idealize.ShloMosaic.Lib.Pipeline.Covers
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.OutIdeal.Proj

open Cert.OutIdeal Cert.OutIdeal.Gen

theorem idx (t : Fin cfg0.N) : win0_0.index t = ![(grid0.coords t 0).val, 0] ∧ win0_1.index t = ![0, 0] ∧ win0_2.index t = ![(grid0.coords t 0).val, 0] ∧ win0_3.index t = ![0, 0] ∧ win0_4.index t = ![0, 0] ∧ win0_5.index t = ![(grid0.coords t 0).val, 0] ∧ win0_6.index t = ![(grid0.coords t 0).val, 0] := by
  revert t
  decide +kernel

theorem covers5 : (cfg0.win 5).Covers := by decide +kernel
theorem covers6 : (cfg0.win 6).Covers := by decide +kernel

/-- A tile's entry: the layer norm of its row. -/
theorem out_apply (x0 : Vec Ideal S256x2048 .bf16) (x1 : Vec Ideal S2048x2048 .bf16) (x2 : Vec Ideal S256x2048 .f32) (x3 x4 : Vec Ideal S1x2048 .f32) (r : Fin 256) (d : Fin 2048) :
    out0_5 x0 x1 x2 x3 x4 (ix2 r d) = LayerNorm.norm (fun k => (∑ j : Fin 2048, x0 (ix2 r j) * x1 (ix2 j k)) + LayerNorm.alpha * x2 (ix2 r k)) (x3 (ix2 (0 : Fin 1) d)) (x4 (ix2 (0 : Fin 1) d)) d := by
  frame_out
  unfold LayerNorm.norm LayerNorm.mean LayerNorm.alpha
  pointwise [k0_pay1]

/-- The narrow copy of the tile. -/
theorem out_apply' (x0 : Vec Ideal S256x2048 .bf16) (x1 : Vec Ideal S2048x2048 .bf16) (x2 : Vec Ideal S256x2048 .f32) (x3 x4 : Vec Ideal S1x2048 .f32) (r : Fin 256) (d : Fin 2048) :
    out0_6 x0 x1 x2 x3 x4 (ix2 r d) = LayerNorm.norm (fun k => (∑ j : Fin 2048, x0 (ix2 r j) * x1 (ix2 j k)) + LayerNorm.alpha * x2 (ix2 r k)) (x3 (ix2 (0 : Fin 1) d)) (x4 (ix2 (0 : Fin 1) d)) d := by
  frame_out
  unfold LayerNorm.norm LayerNorm.mean LayerNorm.alpha
  pointwise [k0_pay2, k0_pay1]

variable (m : (ℓ : Loc nD τ sig) → Buf (Elt Ideal) ℓ)

theorem blk0 (c : Dev nD) (t : Fin cfg0.N) (r : Fin 256) (k : Fin 2048) :
    iblk m c 0 t (ix2 r k) = m ((c : Thread nD τ).loc main_arg0) (ix2 (n0 := 16384) (n1 := 2048)
      ⟨(256 * (grid0.coords t 0).val + r.val) % 16384, Nat.mod_lt _ (by decide)⟩ k) := by
  have h0 : (grid0.coords t 0).val < 64 := (grid0.coords t 0).isLt
  blk_ext [iblk, V, (idx t).1]

theorem blk1 (c : Dev nD) (t : Fin cfg0.N) (j k : Fin 2048) :
    iblk m c 1 t (ix2 j k) = m ((c : Thread nD τ).loc main_arg1) (ix2 (n0 := 2048) (n1 := 2048) j k) := by
  blk_ext! [iblk, (idx t).2.1]

theorem blk2 (c : Dev nD) (t : Fin cfg0.N) (r : Fin 256) (k : Fin 2048) :
    iblk m c 2 t (ix2 r k) = m ((c : Thread nD τ).loc main_arg2) (ix2 (n0 := 16384) (n1 := 2048)
      ⟨(256 * (grid0.coords t 0).val + r.val) % 16384, Nat.mod_lt _ (by decide)⟩ k) := by
  have h0 : (grid0.coords t 0).val < 64 := (grid0.coords t 0).isLt
  blk_ext [iblk, V, (idx t).2.2.1]

theorem blk3 (c : Dev nD) (t : Fin cfg0.N) (k : Fin 2048) :
    iblk m c 3 t (ix2 (0 : Fin 1) k) = m ((c : Thread nD τ).loc main_arg3) (ix1 k) := by
  blk_ext! [iblk, (idx t).2.2.2.1]

theorem blk4 (c : Dev nD) (t : Fin cfg0.N) (k : Fin 2048) :
    iblk m c 4 t (ix2 (0 : Fin 1) k) = m ((c : Thread nD τ).loc main_arg4) (ix1 k) := by
  blk_ext! [iblk, (idx t).2.2.2.2.1]

/-- The result's entry. -/
def entry (x : FVec Ideal S16384x2048 .bf16) (w : FVec Ideal S2048x2048 .f32) (z : FVec Ideal S16384x2048 .f32) (g b : FVec Ideal S2048 .f32) (r d : ℕ) : EReal :=
  LayerNorm.norm (fun k => (∑ j : Fin 2048, x (ix2 (n0 := 16384) (n1 := 2048) ⟨r % 16384, Nat.mod_lt _ (by decide)⟩ j) * w (ix2 j k)) + LayerNorm.alpha * z (ix2 (n0 := 16384) (n1 := 2048) ⟨r % 16384, Nat.mod_lt _ (by decide)⟩ k)) (g (ix1 (n0 := 2048) ⟨d % 2048, Nat.mod_lt _ (by decide)⟩)) (b (ix1 (n0 := 2048) ⟨d % 2048, Nat.mod_lt _ (by decide)⟩)) ⟨d % 2048, Nat.mod_lt _ (by decide)⟩

theorem arr5 (c : Dev nD) : (dats m 0 c).arrAt 5 cfg0.N = fun y : S16384x2048.Idx =>
    entry (m ((c : Thread nD τ).loc main_arg0)) (m ((c : Thread nD τ).loc main_arg1)) (m ((c : Thread nD τ).loc main_arg2)) (m ((c : Thread nD τ).loc main_arg3)) (m ((c : Thread nD τ).loc main_arg4)) (y 0).val (y 1).val := by
  refine (dats m 0 c).arrAt_eq_of_covers 5 _ covers5 fun t hf y => ?_
  have h0 : (grid0.coords t 0).val < 64 := (grid0.coords t 0).isLt
  blk_simp [(idx t).2.2.2.2.2.1]
  rw [after0_5]
  idx_vars y
  rw [out_apply]
  simp only [blk0, blk1, blk2, blk3, blk4, entry, Nat.mul_comm, Nat.zero_add, Nat.zero_mul, Nat.mul_zero, Nat.mod_eq_of_lt y1.isLt]

theorem arr6 (c : Dev nD) : (dats m 0 c).arrAt 6 cfg0.N = fun y : S16384x2048.Idx =>
    entry (m ((c : Thread nD τ).loc main_arg0)) (m ((c : Thread nD τ).loc main_arg1)) (m ((c : Thread nD τ).loc main_arg2)) (m ((c : Thread nD τ).loc main_arg3)) (m ((c : Thread nD τ).loc main_arg4)) (y 0).val (y 1).val := by
  refine (dats m 0 c).arrAt_eq_of_covers 6 _ covers6 fun t hf y => ?_
  have h0 : (grid0.coords t 0).val < 64 := (grid0.coords t 0).isLt
  blk_simp [(idx t).2.2.2.2.2.2]
  rw [after0_6]
  idx_vars y
  rw [out_apply']
  simp only [blk0, blk1, blk2, blk3, blk4, entry, Nat.mul_comm, Nat.zero_add, Nat.zero_mul, Nat.mul_zero, Nat.mod_eq_of_lt y1.isLt]

end Cert.OutIdeal.Proj

namespace Cert.OutRefIdeal.Proj

open Cert.OutRefIdeal Cert.OutRefIdeal.Gen

/-- The layer norm of every row. -/
def norm (y : FVec Ideal S16384x2048 .f32) (g b : FVec Ideal S2048 .f32) : FVec Ideal S16384x2048 .f32 :=
  addf (mulf (mulf (subf y (broadcastInDim S16384x2048 ![0, 1] bcast_S16384x1_S16384x2048_0_1 (Host.divf (broadcastInDim S16384x1 ![0] bcast_S16384_S16384x1_0 (Host.reduceAdd y (constant S_ .f32 0x00000000#32) reducesTo_S16384x2048_S16384_d1 h_S_)) (broadcastInDim S16384x1 ![] bcast_S_S16384x1 (constant S_ .f32 0x45000000#32)))))
    (broadcastInDim S16384x2048 ![0, 1] bcast_S16384x1_S16384x2048_0_1 (Host.rsqrt (addf (Host.divf (broadcastInDim S16384x1 ![0] bcast_S16384_S16384x1_0 (Host.reduceAdd (mulf (subf y (broadcastInDim S16384x2048 ![0, 1] bcast_S16384x1_S16384x2048_0_1 (Host.divf (broadcastInDim S16384x1 ![0] bcast_S16384_S16384x1_0 (Host.reduceAdd y (constant S_ .f32 0x00000000#32) reducesTo_S16384x2048_S16384_d1 h_S_)) (broadcastInDim S16384x1 ![] bcast_S_S16384x1 (constant S_ .f32 0x45000000#32)))))
      (subf y (broadcastInDim S16384x2048 ![0, 1] bcast_S16384x1_S16384x2048_0_1 (Host.divf (broadcastInDim S16384x1 ![0] bcast_S16384_S16384x1_0 (Host.reduceAdd y (constant S_ .f32 0x00000000#32) reducesTo_S16384x2048_S16384_d1 h_S_)) (broadcastInDim S16384x1 ![] bcast_S_S16384x1 (constant S_ .f32 0x45000000#32)))))) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x3727C5AC#32))))))
    (broadcastInDim S16384x2048 ![0, 1] bcast_S1x2048_S16384x2048_0_1 (broadcastInDim S1x2048 ![1] bcast_S2048_S1x2048_1 g))) (broadcastInDim S16384x2048 ![0, 1] bcast_S1x2048_S16384x2048_0_1 (broadcastInDim S1x2048 ![1] bcast_S2048_S1x2048_1 b))

theorem norm_apply (y : FVec Ideal S16384x2048 .f32) (g b : FVec Ideal S2048 .f32) (r : Fin 16384) (d : Fin 2048) :
    norm y g b (ix2 r d) = LayerNorm.norm (fun k => y (ix2 r k)) (g (ix1 d)) (b (ix1 d)) d := by
  unfold norm LayerNorm.norm LayerNorm.mean
  pointwise

/-- The sum whose rows are normed. -/
def sum (x : FVec Ideal S16384x2048 .bf16) (w : FVec Ideal S2048x2048 .f32) (z : FVec Ideal S16384x2048 .f32) : FVec Ideal S16384x2048 .f32 :=
  addf (mulf (broadcastInDim S16384x2048 ![] bcast_S_S16384x2048 (constant S_ .f32 0x3FB504F3#32)) z)
    (Host.dotGeneral dot_S16384x2048_S2048x2048_S16384x2048_1_0_0_1_n_n none (extf .f32 x bitsLt_bf16_f32) w)

theorem sum_apply (x : FVec Ideal S16384x2048 .bf16) (w : FVec Ideal S2048x2048 .f32) (z : FVec Ideal S16384x2048 .f32) (r : Fin 16384) (d : Fin 2048) :
    sum x w z (ix2 r d) = (∑ j : Fin 2048, x (ix2 r j) * w (ix2 j d)) + LayerNorm.alpha * z (ix2 r d) := by
  rw [add_comm]
  unfold sum LayerNorm.alpha
  pointwise

theorem res_apply (x : FVec Ideal S16384x2048 .bf16) (w : FVec Ideal S2048x2048 .f32) (z : FVec Ideal S16384x2048 .f32) (g b : FVec Ideal S2048 .f32) (r : Fin 16384) (d : Fin 2048) :
    norm (sum x w z) g b (ix2 r d) = Cert.OutIdeal.Proj.entry x w z g b r.val d.val := by
  have hr : r.val % 16384 = r.val := Nat.mod_eq_of_lt r.isLt
  have hd : d.val % 2048 = d.val := Nat.mod_eq_of_lt d.isLt
  rw [norm_apply]
  simp only [Cert.OutIdeal.Proj.entry, sum_apply, hr, hd]

end Cert.OutRefIdeal.Proj

namespace Cert.Proof.OutClaims

theorem frame_p : Cert.quiescent_Out := fun m ρ _ => Cert.Out.Gen.frame m ρ
theorem frame_pi : Cert.quiescent_OutIdeal := fun m ρ _ => Cert.OutIdeal.Gen.frame m ρ
theorem frame_ri : Cert.quiescent_OutRefIdeal := fun m ρ _ =>
  (θ_run Cert.OutRefIdeal.defs _ _).mono (fun r h => ⟨fun c => (h c).2.2,
      Idealize.ShloMosaic.sem_eq_zero_of_no_sems (by decide) r.2⟩)
    (Cert.OutRefIdeal.Value.run (F := Ideal) m ρ)

theorem algebraic : Cert.algebraic_OutIdeal_OutRefIdeal := by
  intro m ρ m' ρ' hpre hagree
  refine ⟨_, _, Cert.OutIdeal.Value.run_blocks (F := Ideal) m ρ, ?_⟩
  refine (θ_run Cert.OutRefIdeal.defs _ _).mono (fun _ h c => ⟨(h c).1.trans ?_, (h c).2.1.trans ?_, (h c).2.2⟩)
    (Cert.OutRefIdeal.Value.run (F := Ideal) m' ρ')
  · obtain ⟨a0, a1, a2, a3, a4⟩ := hagree c
    rw [a0, a1, a2, a3, a4, Cert.OutIdeal.Proj.arr5]
    funext y
    idx_vars y
    exact Cert.OutRefIdeal.Proj.res_apply _ _ _ _ _ y0 y1
  · obtain ⟨a0, a1, a2, a3, a4⟩ := hagree c
    rw [a0, a1, a2, a3, a4, Cert.OutIdeal.Proj.arr6]
    funext y
    idx_vars y
    exact Cert.OutRefIdeal.Proj.res_apply _ _ _ _ _ y0 y1

end Cert.Proof.OutClaims

end
-- ==== Proof.AddLnClaims.lean ====
module

public import proofs.«01_k».proof.Defs
public import proofs.«01_k».proof.Proof.Gen.AddLn.Frame
public import proofs.«01_k».proof.Proof.Gen.AddLnIdeal.Value
public import proofs.«01_k».proof.Proof.Gen.AddLnRefIdeal.Run
public import proofs.«01_k».proof.Proof.LayerNorm
public import Idealize.ShloMosaic.Lib.Pointwise
public import Idealize.ShloMosaic.Lib.Pipeline.Covers
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AddLnIdeal.Proj

open Cert.AddLnIdeal Cert.AddLnIdeal.Gen

theorem idx (t : Fin cfg0.N) : win0_0.index t = ![(grid0.coords t 0).val, 0] ∧ win0_1.index t = ![(grid0.coords t 0).val, 0] ∧ win0_2.index t = ![0, 0] ∧ win0_3.index t = ![0, 0] ∧ win0_4.index t = ![(grid0.coords t 0).val, 0] ∧ win0_5.index t = ![(grid0.coords t 0).val, 0] := by
  revert t
  decide +kernel

theorem covers4 : (cfg0.win 4).Covers := by decide +kernel
theorem covers5 : (cfg0.win 5).Covers := by decide +kernel

/-- A tile's entry: the layer norm of its row. -/
theorem out_apply (x0 x1 : Vec Ideal S512x2048 .f32) (x2 x3 : Vec Ideal S1x2048 .f32) (r : Fin 512) (d : Fin 2048) :
    out0_4 x0 x1 x2 x3 (ix2 r d) = LayerNorm.norm (fun k => LayerNorm.alpha * x0 (ix2 r k) + x1 (ix2 r k)) (x2 (ix2 (0 : Fin 1) d)) (x3 (ix2 (0 : Fin 1) d)) d := by
  frame_out
  unfold LayerNorm.norm LayerNorm.mean LayerNorm.alpha
  pointwise [k0_pay1]

/-- The narrow copy of the tile. -/
theorem out_apply' (x0 x1 : Vec Ideal S512x2048 .f32) (x2 x3 : Vec Ideal S1x2048 .f32) (r : Fin 512) (d : Fin 2048) :
    out0_5 x0 x1 x2 x3 (ix2 r d) = LayerNorm.norm (fun k => LayerNorm.alpha * x0 (ix2 r k) + x1 (ix2 r k)) (x2 (ix2 (0 : Fin 1) d)) (x3 (ix2 (0 : Fin 1) d)) d := by
  frame_out
  unfold LayerNorm.norm LayerNorm.mean LayerNorm.alpha
  pointwise [k0_pay2, k0_pay1]

variable (m : (ℓ : Loc nD τ sig) → Buf (Elt Ideal) ℓ)

theorem blk0 (c : Dev nD) (t : Fin cfg0.N) (r : Fin 512) (k : Fin 2048) :
    iblk m c 0 t (ix2 r k) = m ((c : Thread nD τ).loc main_arg0) (ix2 (n0 := 16384) (n1 := 2048)
      ⟨(512 * (grid0.coords t 0).val + r.val) % 16384, Nat.mod_lt _ (by decide)⟩ k) := by
  have h0 : (grid0.coords t 0).val < 32 := (grid0.coords t 0).isLt
  blk_ext [iblk, V, (idx t).1]

theorem blk1 (c : Dev nD) (t : Fin cfg0.N) (r : Fin 512) (k : Fin 2048) :
    iblk m c 1 t (ix2 r k) = m ((c : Thread nD τ).loc main_arg1) (ix2 (n0 := 16384) (n1 := 2048)
      ⟨(512 * (grid0.coords t 0).val + r.val) % 16384, Nat.mod_lt _ (by decide)⟩ k) := by
  have h0 : (grid0.coords t 0).val < 32 := (grid0.coords t 0).isLt
  blk_ext [iblk, V, (idx t).2.1]

theorem blk2 (c : Dev nD) (t : Fin cfg0.N) (k : Fin 2048) :
    iblk m c 2 t (ix2 (0 : Fin 1) k) = m ((c : Thread nD τ).loc main_arg2) (ix1 k) := by
  blk_ext! [iblk, (idx t).2.2.1]

theorem blk3 (c : Dev nD) (t : Fin cfg0.N) (k : Fin 2048) :
    iblk m c 3 t (ix2 (0 : Fin 1) k) = m ((c : Thread nD τ).loc main_arg3) (ix1 k) := by
  blk_ext! [iblk, (idx t).2.2.2.1]

/-- The result's entry. -/
def entry (x y : FVec Ideal S16384x2048 .f32) (g b : FVec Ideal S2048 .f32) (r d : ℕ) : EReal :=
  LayerNorm.norm (fun k => LayerNorm.alpha * x (ix2 (n0 := 16384) (n1 := 2048) ⟨r % 16384, Nat.mod_lt _ (by decide)⟩ k) + y (ix2 (n0 := 16384) (n1 := 2048) ⟨r % 16384, Nat.mod_lt _ (by decide)⟩ k)) (g (ix1 (n0 := 2048) ⟨d % 2048, Nat.mod_lt _ (by decide)⟩)) (b (ix1 (n0 := 2048) ⟨d % 2048, Nat.mod_lt _ (by decide)⟩)) ⟨d % 2048, Nat.mod_lt _ (by decide)⟩

theorem arr4 (c : Dev nD) : (dats m 0 c).arrAt 4 cfg0.N = fun y : S16384x2048.Idx =>
    entry (m ((c : Thread nD τ).loc main_arg0)) (m ((c : Thread nD τ).loc main_arg1)) (m ((c : Thread nD τ).loc main_arg2)) (m ((c : Thread nD τ).loc main_arg3)) (y 0).val (y 1).val := by
  refine (dats m 0 c).arrAt_eq_of_covers 4 _ covers4 fun t hf y => ?_
  have h0 : (grid0.coords t 0).val < 32 := (grid0.coords t 0).isLt
  blk_simp [(idx t).2.2.2.2.1]
  rw [after0_4]
  idx_vars y
  rw [out_apply]
  simp only [blk0, blk1, blk2, blk3, entry, Nat.mul_comm, Nat.zero_add, Nat.zero_mul, Nat.mul_zero, Nat.mod_eq_of_lt y1.isLt]

theorem arr5 (c : Dev nD) : (dats m 0 c).arrAt 5 cfg0.N = fun y : S16384x2048.Idx =>
    entry (m ((c : Thread nD τ).loc main_arg0)) (m ((c : Thread nD τ).loc main_arg1)) (m ((c : Thread nD τ).loc main_arg2)) (m ((c : Thread nD τ).loc main_arg3)) (y 0).val (y 1).val := by
  refine (dats m 0 c).arrAt_eq_of_covers 5 _ covers5 fun t hf y => ?_
  have h0 : (grid0.coords t 0).val < 32 := (grid0.coords t 0).isLt
  blk_simp [(idx t).2.2.2.2.2]
  rw [after0_5]
  idx_vars y
  rw [out_apply']
  simp only [blk0, blk1, blk2, blk3, entry, Nat.mul_comm, Nat.zero_add, Nat.zero_mul, Nat.mul_zero, Nat.mod_eq_of_lt y1.isLt]

end Cert.AddLnIdeal.Proj

namespace Cert.AddLnRefIdeal.Proj

open Cert.AddLnRefIdeal Cert.AddLnRefIdeal.Gen

/-- The layer norm of every row. -/
def norm (y : FVec Ideal S16384x2048 .f32) (g b : FVec Ideal S2048 .f32) : FVec Ideal S16384x2048 .f32 :=
  addf (mulf (mulf (subf y (broadcastInDim S16384x2048 ![0, 1] bcast_S16384x1_S16384x2048_0_1 (Host.divf (broadcastInDim S16384x1 ![0] bcast_S16384_S16384x1_0 (Host.reduceAdd y (constant S_ .f32 0x00000000#32) reducesTo_S16384x2048_S16384_d1 h_S_)) (broadcastInDim S16384x1 ![] bcast_S_S16384x1 (constant S_ .f32 0x45000000#32)))))
    (broadcastInDim S16384x2048 ![0, 1] bcast_S16384x1_S16384x2048_0_1 (Host.rsqrt (addf (Host.divf (broadcastInDim S16384x1 ![0] bcast_S16384_S16384x1_0 (Host.reduceAdd (mulf (subf y (broadcastInDim S16384x2048 ![0, 1] bcast_S16384x1_S16384x2048_0_1 (Host.divf (broadcastInDim S16384x1 ![0] bcast_S16384_S16384x1_0 (Host.reduceAdd y (constant S_ .f32 0x00000000#32) reducesTo_S16384x2048_S16384_d1 h_S_)) (broadcastInDim S16384x1 ![] bcast_S_S16384x1 (constant S_ .f32 0x45000000#32)))))
      (subf y (broadcastInDim S16384x2048 ![0, 1] bcast_S16384x1_S16384x2048_0_1 (Host.divf (broadcastInDim S16384x1 ![0] bcast_S16384_S16384x1_0 (Host.reduceAdd y (constant S_ .f32 0x00000000#32) reducesTo_S16384x2048_S16384_d1 h_S_)) (broadcastInDim S16384x1 ![] bcast_S_S16384x1 (constant S_ .f32 0x45000000#32)))))) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x3727C5AC#32))))))
    (broadcastInDim S16384x2048 ![0, 1] bcast_S1x2048_S16384x2048_0_1 (broadcastInDim S1x2048 ![1] bcast_S2048_S1x2048_1 g))) (broadcastInDim S16384x2048 ![0, 1] bcast_S1x2048_S16384x2048_0_1 (broadcastInDim S1x2048 ![1] bcast_S2048_S1x2048_1 b))

theorem norm_apply (y : FVec Ideal S16384x2048 .f32) (g b : FVec Ideal S2048 .f32) (r : Fin 16384) (d : Fin 2048) :
    norm y g b (ix2 r d) = LayerNorm.norm (fun k => y (ix2 r k)) (g (ix1 d)) (b (ix1 d)) d := by
  unfold norm LayerNorm.norm LayerNorm.mean
  pointwise

/-- The sum whose rows are normed. -/
def sum (x y : FVec Ideal S16384x2048 .f32) : FVec Ideal S16384x2048 .f32 :=
  addf (mulf (broadcastInDim S16384x2048 ![] bcast_S_S16384x2048 (constant S_ .f32 0x3FB504F3#32)) x) y

theorem sum_apply (x y : FVec Ideal S16384x2048 .f32) (r : Fin 16384) (d : Fin 2048) :
    sum x y (ix2 r d) = LayerNorm.alpha * x (ix2 r d) + y (ix2 r d) := by
  unfold sum LayerNorm.alpha
  pointwise

theorem res_apply (x y : FVec Ideal S16384x2048 .f32) (g b : FVec Ideal S2048 .f32) (r : Fin 16384) (d : Fin 2048) :
    norm (sum x y) g b (ix2 r d) = Cert.AddLnIdeal.Proj.entry x y g b r.val d.val := by
  have hr : r.val % 16384 = r.val := Nat.mod_eq_of_lt r.isLt
  have hd : d.val % 2048 = d.val := Nat.mod_eq_of_lt d.isLt
  rw [norm_apply]
  simp only [Cert.AddLnIdeal.Proj.entry, sum_apply, hr, hd]

end Cert.AddLnRefIdeal.Proj

namespace Cert.Proof.AddLnClaims

theorem frame_p : Cert.quiescent_AddLn := fun m ρ _ => Cert.AddLn.Gen.frame m ρ
theorem frame_pi : Cert.quiescent_AddLnIdeal := fun m ρ _ => Cert.AddLnIdeal.Gen.frame m ρ
theorem frame_ri : Cert.quiescent_AddLnRefIdeal := fun m ρ _ =>
  (θ_run Cert.AddLnRefIdeal.defs _ _).mono (fun r h => ⟨fun c => (h c).2.2,
      Idealize.ShloMosaic.sem_eq_zero_of_no_sems (by decide) r.2⟩)
    (Cert.AddLnRefIdeal.Value.run (F := Ideal) m ρ)

theorem algebraic : Cert.algebraic_AddLnIdeal_AddLnRefIdeal := by
  intro m ρ m' ρ' hpre hagree
  refine ⟨_, _, Cert.AddLnIdeal.Value.run_blocks (F := Ideal) m ρ, ?_⟩
  refine (θ_run Cert.AddLnRefIdeal.defs _ _).mono (fun _ h c => ⟨(h c).1.trans ?_, (h c).2.1.trans ?_, (h c).2.2⟩)
    (Cert.AddLnRefIdeal.Value.run (F := Ideal) m' ρ')
  · obtain ⟨a0, a1, a2, a3⟩ := hagree c
    rw [a0, a1, a2, a3, Cert.AddLnIdeal.Proj.arr4]
    funext y
    idx_vars y
    exact Cert.AddLnRefIdeal.Proj.res_apply _ _ _ _ y0 y1
  · obtain ⟨a0, a1, a2, a3⟩ := hagree c
    rw [a0, a1, a2, a3, Cert.AddLnIdeal.Proj.arr5]
    funext y
    idx_vars y
    exact Cert.AddLnRefIdeal.Proj.res_apply _ _ _ _ y0 y1

end Cert.Proof.AddLnClaims

end
-- ==== Proof.RouterClaims.lean ====
module

public import proofs.«01_k».proof.Defs
public import proofs.«01_k».proof.Proof.Gen.Router.Frame
public import proofs.«01_k».proof.Proof.Gen.RouterIdeal.Value
public import proofs.«01_k».proof.Proof.Gen.RouterRefIdeal.Run
public import Idealize.ShloMosaic.Lib.Pointwise
public import Idealize.ShloMosaic.Lib.Pipeline.Covers
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.RouterIdeal.Proj

open Cert.RouterIdeal Cert.RouterIdeal.Gen

theorem idx (t : Fin cfg0.N) : win0_0.index t = ![(grid0.coords t 0).val, 0] ∧ win0_1.index t = ![0, 0]
    ∧ win0_2.index t = ![(grid0.coords t 0).val, 0] := by
  revert t
  decide +kernel

theorem covers : (cfg0.win 2).Covers := by decide +kernel

/-- A tile of the product. -/
theorem out_apply (x0 : Vec Ideal S1024x2048 .f32) (x1 : Vec Ideal S2048x32 .f32) (r : Fin 1024) (d : Fin 32) :
    out0_2 x0 x1 (ix2 r d) = ∑ k : Fin 2048, x0 (ix2 r k) * x1 (ix2 k d) := by
  frame_out
  pointwise [k0_pay1]

variable (m : (ℓ : Loc nD τ sig) → Buf (Elt Ideal) ℓ)

theorem blk0 (c : Dev nD) (t : Fin cfg0.N) (r : Fin 1024) (k : Fin 2048) :
    iblk m c 0 t (ix2 r k) = m ((c : Thread nD τ).loc main_arg0) (ix2 (n0 := 16384) (n1 := 2048)
      ⟨(1024 * (grid0.coords t 0).val + r.val) % 16384, Nat.mod_lt _ (by decide)⟩ k) := by
  have h0 : (grid0.coords t 0).val < 16 := (grid0.coords t 0).isLt
  blk_ext [iblk, V, (idx t).1]

theorem blk1 (c : Dev nD) (t : Fin cfg0.N) (k : Fin 2048) (d : Fin 32) :
    iblk m c 1 t (ix2 k d) = m ((c : Thread nD τ).loc main_arg1) (ix2 (n0 := 2048) (n1 := 32) k d) := by
  blk_ext [iblk, V, (idx t).2.1]

/-- The result's entry. -/
def entry (x : FVec Ideal S16384x2048 .f32) (w : FVec Ideal S2048x32 .f32) (r d : ℕ) : EReal :=
  ∑ k : Fin 2048, x (ix2 (n0 := 16384) (n1 := 2048) ⟨r % 16384, Nat.mod_lt _ (by decide)⟩ k) * w (ix2 (n0 := 2048) (n1 := 32) k ⟨d % 32, Nat.mod_lt _ (by decide)⟩)

theorem arr (c : Dev nD) : (dats m 0 c).arrAt 2 cfg0.N = fun y : S16384x32.Idx =>
    entry (m ((c : Thread nD τ).loc main_arg0)) (m ((c : Thread nD τ).loc main_arg1)) (y 0).val (y 1).val := by
  refine (dats m 0 c).arrAt_eq_of_covers 2 _ covers fun t hf y => ?_
  have h0 : (grid0.coords t 0).val < 16 := (grid0.coords t 0).isLt
  blk_simp [(idx t).2.2]
  rw [after0_2]
  idx_vars y
  rw [out_apply]
  simp only [blk0, blk1, entry, Nat.mul_comm, Nat.zero_add, Nat.zero_mul, Nat.mul_zero, Nat.mod_eq_of_lt y1.isLt]

end Cert.RouterIdeal.Proj

namespace Cert.RouterRefIdeal.Proj

open Cert.RouterRefIdeal Cert.RouterRefIdeal.Gen

/-- The reference's result. -/
def res (x : FVec Ideal S16384x2048 .f32) (w : FVec Ideal S2048x32 .f32) : FVec Ideal S16384x32 .f32 :=
  Host.dotGeneral dot_S16384x2048_S2048x32_S16384x32_1_0_0_1_n_n none x w

theorem res_apply (x : FVec Ideal S16384x2048 .f32) (w : FVec Ideal S2048x32 .f32) (r : Fin 16384) (d : Fin 32) :
    res x w (ix2 r d) = Cert.RouterIdeal.Proj.entry x w r.val d.val := by
  unfold res Cert.RouterIdeal.Proj.entry
  have hr : r.val % 16384 = r.val := Nat.mod_eq_of_lt r.isLt
  have hd : d.val % 32 = d.val := Nat.mod_eq_of_lt d.isLt
  simp only [hr, hd]
  pointwise

end Cert.RouterRefIdeal.Proj

namespace Cert.Proof.RouterClaims

theorem frame_p : Cert.quiescent_Router := fun m ρ _ => Cert.Router.Gen.frame m ρ
theorem frame_pi : Cert.quiescent_RouterIdeal := fun m ρ _ => Cert.RouterIdeal.Gen.frame m ρ
theorem frame_ri : Cert.quiescent_RouterRefIdeal := fun m ρ _ =>
  (θ_run Cert.RouterRefIdeal.defs _ _).mono (fun r h => ⟨fun c => (h c).2,
      Idealize.ShloMosaic.sem_eq_zero_of_no_sems (by decide) r.2⟩)
    (Cert.RouterRefIdeal.Value.run (F := Ideal) m ρ)

theorem algebraic : Cert.algebraic_RouterIdeal_RouterRefIdeal := by
  intro m ρ m' ρ' hpre hagree
  refine ⟨_, Cert.RouterIdeal.Value.run_blocks (F := Ideal) m ρ, ?_⟩
  refine (θ_run Cert.RouterRefIdeal.defs _ _).mono (fun _ h c => ⟨(h c).1.trans ?_, (h c).2⟩)
    (Cert.RouterRefIdeal.Value.run (F := Ideal) m' ρ')
  obtain ⟨a0, a1⟩ := hagree c
  rw [a0, a1, Cert.RouterIdeal.Proj.arr]
  funext y
  idx_vars y
  exact Cert.RouterRefIdeal.Proj.res_apply _ _ y0 y1

end Cert.Proof.RouterClaims

end
-- ==== Proof.ExpertsIdealFrame.lean ====
module

public import proofs.«01_k».proof.Proof.Gen.ExpertsIdeal.Launch
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.Claim

/-! The expert kernel (ideal reading): the launch runs and leaves its arguments as they were, for
tables that name blocks inside the weights. At each grid point the body takes exactly one of its
two branches, told apart by the word of the second table: the product of a live block, or zeros. -/

@[expose] public section

set_option maxRecDepth 16384

noncomputable section

namespace Cert.ExpertsIdeal.Run

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch word -/

/-- The two conditions of the body, as a comparison of the point with the count of live blocks. -/
theorem cond1_iff (i : grid0.Coords) (v : BitVec 32) :
    k0_cond1 i v = 1#1 ↔ (BitVec.ofNat 32 (i 0).val).slt v = true := by
  unfold k0_cond1
  cases h : (BitVec.ofNat 32 (i 0).val).slt v <;> simp only [Scalar.cmpi, Scalar.extui, IntOp.cmpi, h] <;> decide

/-- Exactly one of the body's two branches is taken. -/
theorem cond2_iff (i : grid0.Coords) (v : BitVec 32) :
    k0_cond2 i v = 1#1 ↔ ¬ k0_cond1 i v = 1#1 := by
  rw [cond1_iff]
  unfold k0_cond2
  have e : v.sle (BitVec.ofNat 32 (i 0).val) = !(BitVec.ofNat 32 (i 0).val).slt v := by
    rw [Bool.eq_iff_iff]; simp [BitVec.sle, BitVec.slt]
  cases h : (BitVec.ofNat 32 (i 0).val).slt v <;> rw [h] at e <;> simp only [Scalar.cmpi, Scalar.extui, IntOp.cmpi, e] <;> decide

attribute [local irreducible] k0_cond1 k0_cond2

/-! ## The body -/

/-- The two tables as the body is handed them. -/
abbrev tabBe : Memref sig .tc .smem S160 .i32 := Memref.whole main_arg0
abbrev tabNu : Memref sig .tc .smem S1 .i32 := Memref.whole main_arg1

abbrev TabBuf (c : Dev nD) {S : Shape} {e : EltTy} (M : Memref sig .tc .smem S e) : Type := Buf (Elt F) (M.view.loc (c : Thread nD τ))
abbrev tabHeld (c : Dev nD) {S : Shape} {e : EltTy} (M : Memref sig .tc .smem S e) (f : TabBuf (F := F) c M) : sProp 𝕄 :=
  M.view.loc (c : Thread nD τ) ↦{fullShare.right} f

/-- The count of live blocks. -/
def count (c : Dev nD) (f : TabBuf (F := F) c tabNu) : BitVec 32 :=
  tabNu.view.readAt (Elt F) (Rect.unit (s := S1) ![0] S1.size inb_S1_S1_0).toLoadRect f (Shape.Idx.first (numel1_S1.symm ▸ Nat.one_pos))

theorem count_eq (c : Dev nD) (f : TabBuf (F := F) c tabNu) : count c f = f (ix1 (n0 := 1) 0) := by
  unfold count
  have one : ∀ x y : S1.Idx, x = y := fun x y => funext fun a => by
    match a with
    | ⟨0, _⟩ => exact Subsingleton.elim (α := Fin 1) _ _
  exact congrArg f (one _ _)

/-- What the body is run between: from the staged blocks, an output block at anything and the tables, to the same with the
    pieces `L` written into the output block. -/
abbrev Triple (c : Dev nD) (i : grid0.Coords) (arg3 : Memref sig .tc .vmem S256x2048 .bf16) (h3 : arg3.IsWhole)
    (arg4 : Memref sig .tc .vmem S256x1 .f32) (h4 : arg4.IsWhole) (arg5 : Memref sig .tc .vmem S1x2048x1024 .bf16) (h5 : arg5.IsWhole)
    (arg6 : Memref sig .tc .vmem S1x2048x1024 .bf16) (h6 : arg6.IsWhole) (arg7 : Memref sig .tc .vmem S1x1024x2048 .bf16) (h7 : arg7.IsWhole)
    (arg8 : Memref sig .tc .vmem S256x2048 .f32) (h8 : arg8.IsWhole)
    (x0 : Vec F S256x2048 .bf16) (x1 : Vec F S256x1 .f32) (x2 x3 : Vec F S1x2048x1024 .bf16) (x4 : Vec F S1x1024x2048 .bf16)
    (be : TabBuf (F := F) c tabBe) (nu : TabBuf (F := F) c tabNu) (L : List (View.Piece (Elt F) S256x2048 .f32)) : Prop :=
  ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ (∃ d, owns (c : Thread nD τ) arg8 fullShare d)
            ∗ tabHeld c tabBe be ∗ tabHeld c tabNu nu
            ∗ (iprop(owns (c : Thread nD τ) arg3 fullShare x0 ∗ owns (c : Thread nD τ) arg4 fullShare x1 ∗ owns (c : Thread nD τ) arg5 fullShare x2
                ∗ owns (c : Thread nD τ) arg6 fullShare x3 ∗ owns (c : Thread nD τ) arg7 fullShare x4
                ∗ (∃ f, arg8.view.loc (c : Thread nD τ) ↦[arg8.view.set]{fullShare} arg8.view.writes (Elt F) f L)
                ∗ tabHeld c tabBe be ∗ tabHeld c tabNu nu) -∗ K ⟨⟩))
          ⊢ wp frame (wpE (defs₀ (F := F)) Variants.none c none) E
              (cc0_moe_experts i tabBe (Memref.isWhole_whole _) tabNu (Memref.isWhole_whole _) arg3 h3 arg4 h4 arg5 h5 arg6 h6 arg7 h7 arg8 h8) K

set_option maxHeartbeats 1000000 in
/-- A live point: the pieces the body writes of its output block. -/
noncomputable def runLive (c : Dev nD) (i : grid0.Coords) (arg3 : Memref sig .tc .vmem S256x2048 .bf16) (h3 : arg3.IsWhole)
    (arg4 : Memref sig .tc .vmem S256x1 .f32) (h4 : arg4.IsWhole) (arg5 : Memref sig .tc .vmem S1x2048x1024 .bf16) (h5 : arg5.IsWhole)
    (arg6 : Memref sig .tc .vmem S1x2048x1024 .bf16) (h6 : arg6.IsWhole) (arg7 : Memref sig .tc .vmem S1x1024x2048 .bf16) (h7 : arg7.IsWhole)
    (arg8 : Memref sig .tc .vmem S256x2048 .f32) (h8 : arg8.IsWhole)
    (x0 : Vec F S256x2048 .bf16) (x1 : Vec F S256x1 .f32) (x2 x3 : Vec F S1x2048x1024 .bf16) (x4 : Vec F S1x1024x2048 .bf16)
    (be : TabBuf (F := F) c tabBe) (nu : TabBuf (F := F) c tabNu)
    (hc1 : k0_cond1 i (count c nu) = 1#1) (hc2 : ¬ k0_cond2 i (count c nu) = 1#1) :
    { L : List (View.Piece (Elt F) S256x2048 .f32) // Triple c i arg3 h3 arg4 h4 arg5 h5 arg6 h6 arg7 h7 arg8 h8 x0 x1 x2 x3 x4 be nu L } := by
  refine ⟨?_, fun E K => ?run⟩
  case run =>
    unfold cc0_moe_experts
    unfold owns
    iintro ⟨⟨%f0, %e0, H0⟩, ⟨%f1, %e1, H1⟩, ⟨%f2, %e2, H2⟩, ⟨%f3, %e3, H3⟩, ⟨%f4, %e4, H4⟩, ⟨%d5, %f5, -, H5⟩, HT0, HT1, Hk⟩
    obtain rfl := h3.eq_unread e0; obtain rfl := h4.eq_unread e1; obtain rfl := h5.eq_unread e2; obtain rfl := h6.eq_unread e3; obtain rfl := h7.eq_unread e4
    set_option sl_exec.dischHeartbeats 200000 in
    sl_exec (disch := first | sl_exact hc1 | sl_exact hc2 | exact hc1 | exact hc2)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    isplitl [H4]
    · iexists _; isplitr; · ipureintro; exact h7.read_unread _
      iexact H4
    isplitl [H5]; · iexists _; iexact H5
    isplitl [HT0]; · iexact HT0
    iexact HT1

set_option maxHeartbeats 1000000 in
/-- A point past the live blocks: the pieces the body writes of its output block. -/
noncomputable def runDead (c : Dev nD) (i : grid0.Coords) (arg3 : Memref sig .tc .vmem S256x2048 .bf16) (h3 : arg3.IsWhole)
    (arg4 : Memref sig .tc .vmem S256x1 .f32) (h4 : arg4.IsWhole) (arg5 : Memref sig .tc .vmem S1x2048x1024 .bf16) (h5 : arg5.IsWhole)
    (arg6 : Memref sig .tc .vmem S1x2048x1024 .bf16) (h6 : arg6.IsWhole) (arg7 : Memref sig .tc .vmem S1x1024x2048 .bf16) (h7 : arg7.IsWhole)
    (arg8 : Memref sig .tc .vmem S256x2048 .f32) (h8 : arg8.IsWhole)
    (x0 : Vec F S256x2048 .bf16) (x1 : Vec F S256x1 .f32) (x2 x3 : Vec F S1x2048x1024 .bf16) (x4 : Vec F S1x1024x2048 .bf16)
    (be : TabBuf (F := F) c tabBe) (nu : TabBuf (F := F) c tabNu)
    (hc1 : ¬ k0_cond1 i (count c nu) = 1#1) (hc2 : k0_cond2 i (count c nu) = 1#1) :
    { L : List (View.Piece (Elt F) S256x2048 .f32) // Triple c i arg3 h3 arg4 h4 arg5 h5 arg6 h6 arg7 h7 arg8 h8 x0 x1 x2 x3 x4 be nu L } := by
  refine ⟨?_, fun E K => ?run⟩
  case run =>
    unfold cc0_moe_experts
    unfold owns
    iintro ⟨⟨%f0, %e0, H0⟩, ⟨%f1, %e1, H1⟩, ⟨%f2, %e2, H2⟩, ⟨%f3, %e3, H3⟩, ⟨%f4, %e4, H4⟩, ⟨%d5, %f5, -, H5⟩, HT0, HT1, Hk⟩
    obtain rfl := h3.eq_unread e0; obtain rfl := h4.eq_unread e1; obtain rfl := h5.eq_unread e2; obtain rfl := h6.eq_unread e3; obtain rfl := h7.eq_unread e4
    set_option sl_exec.dischHeartbeats 200000 in
    sl_exec (disch := first | sl_exact hc1 | sl_exact hc2 | exact hc1 | exact hc2)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    isplitl [H4]
    · iexists _; isplitr; · ipureintro; exact h7.read_unread _
      iexact H4
    isplitl [H5]; · iexists _; iexact H5
    isplitl [HT0]; · iexact HT0
    iexact HT1

/-- One staging buffer of the output's, through which its contents are stated. -/
abbrev outView : View sig .tc .vmem S256x2048 .f32 := (Memref.whole cc0_stg5_0 : Memref sig .tc .vmem S256x2048 .f32).view

/-- The pieces of a live point fill the output block. -/
theorem coverLive (c : Dev nD) (i : grid0.Coords) (arg3 : Memref sig .tc .vmem S256x2048 .bf16) (h3 : arg3.IsWhole)
    (arg4 : Memref sig .tc .vmem S256x1 .f32) (h4 : arg4.IsWhole) (arg5 : Memref sig .tc .vmem S1x2048x1024 .bf16) (h5 : arg5.IsWhole)
    (arg6 : Memref sig .tc .vmem S1x2048x1024 .bf16) (h6 : arg6.IsWhole) (arg7 : Memref sig .tc .vmem S1x1024x2048 .bf16) (h7 : arg7.IsWhole)
    (arg8 : Memref sig .tc .vmem S256x2048 .f32) (h8 : arg8.IsWhole)
    (x0 : Vec F S256x2048 .bf16) (x1 : Vec F S256x1 .f32) (x2 x3 : Vec F S1x2048x1024 .bf16) (x4 : Vec F S1x1024x2048 .bf16)
    (be : TabBuf (F := F) c tabBe) (nu : TabBuf (F := F) c tabNu)
    (hc1 : k0_cond1 i (count c nu) = 1#1) (hc2 : ¬ k0_cond2 i (count c nu) = 1#1) (y : S256x2048.Idx) :
    ∃ pc ∈ (runLive c i arg3 h3 arg4 h4 arg5 h5 arg6 h6 arg7 h7 arg8 h8 x0 x1 x2 x3 x4 be nu hc1 hc2).1, y ∈ pc.1.set :=
  View.cover_of_tiledL (runLive c i arg3 h3 arg4 h4 arg5 h5 arg6 h6 arg7 h7 arg8 h8 x0 x1 x2 x3 x4 be nu hc1 hc2).1 S256x2048.size (by sl_kernel_rfl) y

/-- What a live point leaves in the output block. -/
def outLive (c : Dev nD) (i : grid0.Coords) (arg3 : Memref sig .tc .vmem S256x2048 .bf16) (h3 : arg3.IsWhole)
    (arg4 : Memref sig .tc .vmem S256x1 .f32) (h4 : arg4.IsWhole) (arg5 : Memref sig .tc .vmem S1x2048x1024 .bf16) (h5 : arg5.IsWhole)
    (arg6 : Memref sig .tc .vmem S1x2048x1024 .bf16) (h6 : arg6.IsWhole) (arg7 : Memref sig .tc .vmem S1x1024x2048 .bf16) (h7 : arg7.IsWhole)
    (arg8 : Memref sig .tc .vmem S256x2048 .f32) (h8 : arg8.IsWhole)
    (x0 : Vec F S256x2048 .bf16) (x1 : Vec F S256x1 .f32) (x2 x3 : Vec F S1x2048x1024 .bf16) (x4 : Vec F S1x1024x2048 .bf16)
    (be : TabBuf (F := F) c tabBe) (nu : TabBuf (F := F) c tabNu)
    (hc1 : k0_cond1 i (count c nu) = 1#1) (hc2 : ¬ k0_cond2 i (count c nu) = 1#1) : Vec F S256x2048 .f32 :=
  outView.read (Elt F) (outView.writes (Elt F) outView.junk (runLive c i arg3 h3 arg4 h4 arg5 h5 arg6 h6 arg7 h7 arg8 h8 x0 x1 x2 x3 x4 be nu hc1 hc2).1)

/-- The pieces of a point past the live blocks fill the output block. -/
theorem coverDead (c : Dev nD) (i : grid0.Coords) (arg3 : Memref sig .tc .vmem S256x2048 .bf16) (h3 : arg3.IsWhole)
    (arg4 : Memref sig .tc .vmem S256x1 .f32) (h4 : arg4.IsWhole) (arg5 : Memref sig .tc .vmem S1x2048x1024 .bf16) (h5 : arg5.IsWhole)
    (arg6 : Memref sig .tc .vmem S1x2048x1024 .bf16) (h6 : arg6.IsWhole) (arg7 : Memref sig .tc .vmem S1x1024x2048 .bf16) (h7 : arg7.IsWhole)
    (arg8 : Memref sig .tc .vmem S256x2048 .f32) (h8 : arg8.IsWhole)
    (x0 : Vec F S256x2048 .bf16) (x1 : Vec F S256x1 .f32) (x2 x3 : Vec F S1x2048x1024 .bf16) (x4 : Vec F S1x1024x2048 .bf16)
    (be : TabBuf (F := F) c tabBe) (nu : TabBuf (F := F) c tabNu)
    (hc1 : ¬ k0_cond1 i (count c nu) = 1#1) (hc2 : k0_cond2 i (count c nu) = 1#1) (y : S256x2048.Idx) :
    ∃ pc ∈ (runDead c i arg3 h3 arg4 h4 arg5 h5 arg6 h6 arg7 h7 arg8 h8 x0 x1 x2 x3 x4 be nu hc1 hc2).1, y ∈ pc.1.set :=
  View.cover_of_tiledL (runDead c i arg3 h3 arg4 h4 arg5 h5 arg6 h6 arg7 h7 arg8 h8 x0 x1 x2 x3 x4 be nu hc1 hc2).1 S256x2048.size (by sl_kernel_rfl) y

/-- What a point past the live blocks leaves in the output block. -/
def outDead (c : Dev nD) (i : grid0.Coords) (arg3 : Memref sig .tc .vmem S256x2048 .bf16) (h3 : arg3.IsWhole)
    (arg4 : Memref sig .tc .vmem S256x1 .f32) (h4 : arg4.IsWhole) (arg5 : Memref sig .tc .vmem S1x2048x1024 .bf16) (h5 : arg5.IsWhole)
    (arg6 : Memref sig .tc .vmem S1x2048x1024 .bf16) (h6 : arg6.IsWhole) (arg7 : Memref sig .tc .vmem S1x1024x2048 .bf16) (h7 : arg7.IsWhole)
    (arg8 : Memref sig .tc .vmem S256x2048 .f32) (h8 : arg8.IsWhole)
    (x0 : Vec F S256x2048 .bf16) (x1 : Vec F S256x1 .f32) (x2 x3 : Vec F S1x2048x1024 .bf16) (x4 : Vec F S1x1024x2048 .bf16)
    (be : TabBuf (F := F) c tabBe) (nu : TabBuf (F := F) c tabNu)
    (hc1 : ¬ k0_cond1 i (count c nu) = 1#1) (hc2 : k0_cond2 i (count c nu) = 1#1) : Vec F S256x2048 .f32 :=
  outView.read (Elt F) (outView.writes (Elt F) outView.junk (runDead c i arg3 h3 arg4 h4 arg5 h5 arg6 h6 arg7 h7 arg8 h8 x0 x1 x2 x3 x4 be nu hc1 hc2).1)

/-! ## The region's entry -/

variable (m : (ℓ : Loc nD τ sig) → Buf (Elt F) ℓ) (ρ : Dev nD → PrngReg)

/-- Core `c`'s buffers when the region is entered: after the casts of the weights. -/
abbrev V (c : Dev nD) (b : Ref sig .tc) : Buf (Elt F) ((c : Thread nD τ).loc b) := StableHlo.after hostOps0 (fun b => m (c, b)) b

theorem casts_fresh : (hostOps0 : List (HloOp τ sig (Elt F))).Forall fun op => op.fresh = ∅ := by
  simp only [List.Forall]; repeat' constructor

theorem entered (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub casts_fresh main_chain

/-- A buffer none of the three casts writes is entered as launched. -/
theorem V_of_ne (c : Dev nD) (b : Ref sig .tc) (h0 : b ≠ main_v0) (h1 : b ≠ main_v1) (h2 : b ≠ main_v2) :
    V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1, StableHlo.devRef_ne_of_ne h2⟩))

/-! ## The tables -/

/-- The tables' contents when the region is entered. -/
def tbl : pre0.Contents (Elt F) := fun j => V m (0 : Dev nD) (pre0.ref j)

theorem V_tbl (c : Dev nD) (j : Fin 2) : V m c (pre0.ref j) = tbl m j := by
  obtain rfl : c = 0 := Subsingleton.elim _ _; rfl

/-- Every weight block the first table names is inside the weights. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem tables_eq (c : Dev nD) : (Pipeline.ΦT pre0 (tbl m) c : sProp 𝕄) = iprop(tabHeld c tabBe (tbl m 0) ∗ tabHeld c tabNu (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The word the output's idle points are told by is the count. -/
theorem never_idle (hO : Ok m) (c : Dev nD) (t : Fin (cfgM m hO).N) : (cfgM m hO).idle 5 ((cfgM m hO).grid.coords t) = false := by
  show (!(k0_cond1 (grid0.coords t) ((tbl m).atD 1 ![0]) == 1#1) && !(k0_cond2 (grid0.coords t) ((tbl m).atD 1 ![0]) == 1#1)) = false
  by_cases h : k0_cond1 (grid0.coords t) ((tbl m).atD 1 ![0]) = 1#1
  · rw [h]; rfl
  · rw [(cond2_iff _ _).mpr h]; exact Bool.and_false _

/-! ## The windows -/

/-- Window `w`'s block at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-! Each window's staging memref at a point. -/

abbrev stg0 (hO : Ok m) (t : Fin (cfgM m hO).N) : Memref sig .tc .vmem S256x2048 .bf16 := spec0_0.stage ((cfgM m hO).slots t 0)
abbrev whole0 (hO : Ok m) (t : Fin (cfgM m hO).N) : (stg0 m hO t).IsWhole := hstage0_0 (((cfgM m hO).slots t 0).cast nbuf0_0)
abbrev stg1 (hO : Ok m) (t : Fin (cfgM m hO).N) : Memref sig .tc .vmem S256x1 .f32 := spec0_1.stage ((cfgM m hO).slots t 1)
abbrev whole1 (hO : Ok m) (t : Fin (cfgM m hO).N) : (stg1 m hO t).IsWhole := hstage0_1 (((cfgM m hO).slots t 1).cast nbuf0_1)
abbrev stg2 (hO : Ok m) (t : Fin (cfgM m hO).N) : Memref sig .tc .vmem S1x2048x1024 .bf16 := spec0_2.stage ((cfgM m hO).slots t 2)
abbrev whole2 (hO : Ok m) (t : Fin (cfgM m hO).N) : (stg2 m hO t).IsWhole := hstage0_2 (((cfgM m hO).slots t 2).cast nbuf0_2)
abbrev stg3 (hO : Ok m) (t : Fin (cfgM m hO).N) : Memref sig .tc .vmem S1x2048x1024 .bf16 := spec0_3.stage ((cfgM m hO).slots t 3)
abbrev whole3 (hO : Ok m) (t : Fin (cfgM m hO).N) : (stg3 m hO t).IsWhole := hstage0_3 (((cfgM m hO).slots t 3).cast nbuf0_3)
abbrev stg4 (hO : Ok m) (t : Fin (cfgM m hO).N) : Memref sig .tc .vmem S1x1024x2048 .bf16 := spec0_4.stage ((cfgM m hO).slots t 4)
abbrev whole4 (hO : Ok m) (t : Fin (cfgM m hO).N) : (stg4 m hO t).IsWhole := hstage0_4 (((cfgM m hO).slots t 4).cast nbuf0_4)
abbrev stg5 (hO : Ok m) (t : Fin (cfgM m hO).N) : Memref sig .tc .vmem S256x2048 .f32 := spec0_5.stage ((cfgM m hO).slots t 5)
abbrev whole5 (hO : Ok m) (t : Fin (cfgM m hO).N) : (stg5 m hO t).IsWhole := hstage0_5 (((cfgM m hO).slots t 5).cast nbuf0_5)

/-- The body at a point, on what the pipeline hands it. -/
abbrev bodyAt (hO : Ok m) (t : Fin (cfgM m hO).N) : Prog (TpuEff nD τ sig (Elt F) Λ₀ .tc) PUnit :=
  cc0_moe_experts (grid0.coords t) tabBe (Memref.isWhole_whole _) tabNu (Memref.isWhole_whole _) (stg0 m hO t) (whole0 m hO t) (stg1 m hO t) (whole1 m hO t) (stg2 m hO t) (whole2 m hO t) (stg3 m hO t) (whole3 m hO t) (stg4 m hO t) (whole4 m hO t) (stg5 m hO t) (whole5 m hO t)

theorem body_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- What the body leaves in the output block at a point. -/
def outAt (hO : Ok m) (c : Dev nD) (t : Fin (cfgM m hO).N) : Vec F S256x2048 .f32 :=
  if h : k0_cond1 (grid0.coords t) (count c (tbl m 1)) = 1#1 then
    outLive c (grid0.coords t) (stg0 m hO t) (whole0 m hO t) (stg1 m hO t) (whole1 m hO t) (stg2 m hO t) (whole2 m hO t) (stg3 m hO t) (whole3 m hO t) (stg4 m hO t) (whole4 m hO t) (stg5 m hO t) (whole5 m hO t) (iblk m hO c 0 t) (iblk m hO c 1 t) (iblk m hO c 2 t) (iblk m hO c 3 t) (iblk m hO c 4 t) (tbl m 0) (tbl m 1) h (fun h' => (cond2_iff _ _).mp h' h)
  else
    outDead c (grid0.coords t) (stg0 m hO t) (whole0 m hO t) (stg1 m hO t) (whole1 m hO t) (stg2 m hO t) (whole2 m hO t) (stg3 m hO t) (whole3 m hO t) (stg4 m hO t) (whole4 m hO t) (stg5 m hO t) (whole5 m hO t) (iblk m hO c 0 t) (iblk m hO c 1 t) (iblk m hO c 2 t) (iblk m hO c 3 t) (iblk m hO c 4 t) (tbl m 0) (tbl m 1) h ((cond2_iff _ _).mpr h)

/-- The pipeline's proof data: inputs stay at their blocks, the output at `outAt`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt m hO c t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

/-- The output's block after a point. -/
theorem after_out (hO : Ok m) (c : Dev nD) (t : Fin (cfgM m hO).N) : (dats m hO 0 c).after 5 t = outAt m hO c t := by dsimp only [dats]; try rfl

theorem after0 (hO : Ok m) (c : Dev nD) (t : Fin (cfgM m hO).N) : (dats m hO 0 c).after 0 t = iblk m hO c 0 t := by dsimp only [dats]; try rfl
theorem before0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem after1 (hO : Ok m) (c : Dev nD) (t : Fin (cfgM m hO).N) : (dats m hO 0 c).after 1 t = iblk m hO c 1 t := by dsimp only [dats]; try rfl
theorem before1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem after2 (hO : Ok m) (c : Dev nD) (t : Fin (cfgM m hO).N) : (dats m hO 0 c).after 2 t = iblk m hO c 2 t := by dsimp only [dats]; try rfl
theorem before2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem after3 (hO : Ok m) (c : Dev nD) (t : Fin (cfgM m hO).N) : (dats m hO 0 c).after 3 t = iblk m hO c 3 t := by dsimp only [dats]; try rfl
theorem before3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
theorem after4 (hO : Ok m) (c : Dev nD) (t : Fin (cfgM m hO).N) : (dats m hO 0 c).after 4 t = iblk m hO c 4 t := by dsimp only [dats]; try rfl
theorem before4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)

/-! ## The body obligation -/

/-- What the body is called with at a point, and what it returns. -/
def bodyPre (hO : Ok m) (c : Dev nD) (t : Fin (cfgM m hO).N) : sProp 𝕄 :=
  iprop((dats m hO 0 c).Φ t.castSucc ∗ (dats m hO 0 c).owesAt () t.castSucc ∗ (∃ d, owns (c : Thread nD τ) (stg0 m hO t) fullShare ((dats m hO 0 c).before 0 t d)) ∗ (∃ d, owns (c : Thread nD τ) (stg1 m hO t) fullShare ((dats m hO 0 c).before 1 t d)) ∗ (∃ d, owns (c : Thread nD τ) (stg2 m hO t) fullShare ((dats m hO 0 c).before 2 t d)) ∗ (∃ d, owns (c : Thread nD τ) (stg3 m hO t) fullShare ((dats m hO 0 c).before 3 t d)) ∗ (∃ d, owns (c : Thread nD τ) (stg4 m hO t) fullShare ((dats m hO 0 c).before 4 t d)) ∗ (∃ d, owns (c : Thread nD τ) (stg5 m hO t) fullShare ((dats m hO 0 c).before 5 t d)))
def bodyPost (hO : Ok m) (c : Dev nD) (t : Fin (cfgM m hO).N) : sProp 𝕄 :=
  iprop((dats m hO 0 c).Φ t.succ ∗ (dats m hO 0 c).owesAt () t.succ ∗ owns (c : Thread nD τ) (stg0 m hO t) fullShare ((dats m hO 0 c).after 0 t) ∗ owns (c : Thread nD τ) (stg1 m hO t) fullShare ((dats m hO 0 c).after 1 t) ∗ owns (c : Thread nD τ) (stg2 m hO t) fullShare ((dats m hO 0 c).after 2 t) ∗ owns (c : Thread nD τ) (stg3 m hO t) fullShare ((dats m hO 0 c).after 3 t) ∗ owns (c : Thread nD τ) (stg4 m hO t) fullShare ((dats m hO 0 c).after 4 t) ∗ owns (c : Thread nD τ) (stg5 m hO t) fullShare ((dats m hO 0 c).after 5 t))

/-- The body at a point from a triple whose pieces fill the output block with `X`. -/
theorem body_of_triple (hO : Ok m) (c : Dev nD) (t : Fin (cfgM m hO).N) (L : List (View.Piece (Elt F) S256x2048 .f32))
    (hL : Triple c (grid0.coords t) (stg0 m hO t) (whole0 m hO t) (stg1 m hO t) (whole1 m hO t) (stg2 m hO t) (whole2 m hO t) (stg3 m hO t) (whole3 m hO t) (stg4 m hO t) (whole4 m hO t) (stg5 m hO t) (whole5 m hO t) (iblk m hO c 0 t) (iblk m hO c 1 t) (iblk m hO c 2 t) (iblk m hO c 3 t) (iblk m hO c 4 t) (tbl m 0) (tbl m 1) L)
    (hcov : ∀ y : S256x2048.Idx, ∃ pc ∈ L, y ∈ pc.1.set)
    (hX : outAt m hO c t = outView.read (Elt F) (outView.writes (Elt F) outView.junk L)) :
    bodyPre m hO c t ⊢ wp frame (wpE (defs₀ (F := F)) Variants.none c none) Set.univ (bodyAt m hO t) (fun _ => bodyPost m hO c t) := by
  unfold bodyPre bodyPost bodyAt
  simp only [before0, before1, before2, before3, before4]
  rw [show (dats m hO 0 c).Φ t.succ = (dats m hO 0 c).Φ t.castSucc from rfl,
    show (dats m hO 0 c).owesAt () t.succ = (dats m hO 0 c).owesAt () t.castSucc from rfl,
    after0, after1, after2, after3, after4, after_out, hX]
  rw [show (dats m hO 0 c).Φ t.castSucc = iprop(Pipeline.ΦA spec0 c ∗ Pipeline.ΦT pre0 (tbl m) c) from rfl, tables_eq]
  iintro ⟨⟨HΦ, ⟨HT0, HT1⟩⟩, Ho, ⟨%d0, H0⟩, ⟨%d1, H1⟩, ⟨%d2, H2⟩, ⟨%d3, H3⟩, ⟨%d4, H4⟩, ⟨%d5, H5⟩⟩
  iapply (hL Set.univ _)
  isplitl [H0]; · iexact H0
  isplitl [H1]; · iexact H1
  isplitl [H2]; · iexact H2
  isplitl [H3]; · iexact H3
  isplitl [H4]; · iexact H4
  isplitl [H5]; · iexists _; iexact H5
  isplitl [HT0]; · iexact HT0
  isplitl [HT1]; · iexact HT1
  iintro ⟨H0, H1, H2, H3, H4, ⟨%e5, H5⟩, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ hcov

theorem body_sound (hO : Ok m) (c : Dev nD) (t : Fin (cfgM m hO).N) :
    bodyPre m hO c t ⊢ wp frame (wpE (defs₀ (F := F)) Variants.none c none) Set.univ (bodyAt m hO t) (fun _ => bodyPost m hO c t) := by
  by_cases h : k0_cond1 (grid0.coords t) (count c (tbl m 1)) = 1#1
  · have h2 : ¬ k0_cond2 (grid0.coords t) (count c (tbl m 1)) = 1#1 := fun h' => (cond2_iff _ _).mp h' h
    exact body_of_triple m hO c t _ (runLive c (grid0.coords t) (stg0 m hO t) (whole0 m hO t) (stg1 m hO t) (whole1 m hO t) (stg2 m hO t) (whole2 m hO t) (stg3 m hO t) (whole3 m hO t) (stg4 m hO t) (whole4 m hO t) (stg5 m hO t) (whole5 m hO t) (iblk m hO c 0 t) (iblk m hO c 1 t) (iblk m hO c 2 t) (iblk m hO c 3 t) (iblk m hO c 4 t) (tbl m 0) (tbl m 1) h h2).2 (coverLive c (grid0.coords t) (stg0 m hO t) (whole0 m hO t) (stg1 m hO t) (whole1 m hO t) (stg2 m hO t) (whole2 m hO t) (stg3 m hO t) (whole3 m hO t) (stg4 m hO t) (whole4 m hO t) (stg5 m hO t) (whole5 m hO t) (iblk m hO c 0 t) (iblk m hO c 1 t) (iblk m hO c 2 t) (iblk m hO c 3 t) (iblk m hO c 4 t) (tbl m 0) (tbl m 1) h h2) (by unfold outAt; rw [dif_pos h]; rfl)
  · have h2 : k0_cond2 (grid0.coords t) (count c (tbl m 1)) = 1#1 := (cond2_iff _ _).mpr h
    exact body_of_triple m hO c t _ (runDead c (grid0.coords t) (stg0 m hO t) (whole0 m hO t) (stg1 m hO t) (whole1 m hO t) (stg2 m hO t) (whole2 m hO t) (stg3 m hO t) (whole3 m hO t) (stg4 m hO t) (whole4 m hO t) (stg5 m hO t) (whole5 m hO t) (iblk m hO c 0 t) (iblk m hO c 1 t) (iblk m hO c 2 t) (iblk m hO c 3 t) (iblk m hO c 4 t) (tbl m 0) (tbl m 1) h h2).2 (coverDead c (grid0.coords t) (stg0 m hO t) (whole0 m hO t) (stg1 m hO t) (whole1 m hO t) (stg2 m hO t) (whole2 m hO t) (stg3 m hO t) (whole3 m hO t) (stg4 m hO t) (whole4 m hO t) (stg5 m hO t) (whole5 m hO t) (iblk m hO c 0 t) (iblk m hO c 1 t) (iblk m hO c 2 t) (iblk m hO c 3 t) (iblk m hO c 4 t) (tbl m 0) (tbl m 1) h h2) (by unfold outAt; rw [dif_neg h]; rfl)

theorem obligation (hO : Ok m) (c : Dev nD) : BodyObligation (dats (F := F) m hO 0 c) (defs₀ (F := F)) Variants.none () Set.univ := fun t => by
  rw [bigSep_W0, bigSep_W0, body_row m hO]
  have hi := never_idle m hO c t
  refine triple_restated (body_sound m hO c t) rfl .rfl fun _ => ?_
  simp only []
  split
  · rename_i h
    exact absurd (h.symm.trans hi) (by decide)
  · exact .rfl

/-! ## The run and the frame -/

set_option backward.isDefEq.respectTransparency.types false in
/-- The launch: every array of the pipeline ends at what the proof data says, every counter at zero. -/
theorem run_quiet (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (obligation m hO c).loose) (hshare := fun c => (dats m hO 0 c).share_full fun _ => rfl)
    (howed := fun _ _ => rfl) (V := V m) (hmain := entered m Variants.none) (hA := A_eq m hO) (hpf := V_tbl m)
    (hΦ := fun _ _ => rfl)

/-- The output array and the arguments after the launch. -/
theorem run_out (hO : Ok m) : θ_run defs (onTc (τ := τ) (main (F := F))) ⟨m, fun _ => 0, ρ⟩ (fun r => (∀ c : Dev nD,
      r.2.mem ((c.tc : Thread nD τ).loc main_v3) = (dats m hO 0 c).arrAt 5 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨(h.1 c).1 5,
      ((h.1 c).2 main_arg0 (by decide : main_arg0 ∈ Pipeline.restRefs sig spec0)).trans (V_of_ne m c main_arg0 (by decide) (by decide) (by decide)),
      ((h.1 c).2 main_arg1 (by decide : main_arg1 ∈ Pipeline.restRefs sig spec0)).trans (V_of_ne m c main_arg1 (by decide) (by decide) (by decide)),
      ((h.1 c).1 0).trans (((dats m hO 0 c).arrAt_in 0 rfl _).trans ((A_eq m hO c 0).trans (V_of_ne m c main_arg2 (by decide) (by decide) (by decide)))),
      ((h.1 c).1 1).trans (((dats m hO 0 c).arrAt_in 1 rfl _).trans ((A_eq m hO c 1).trans (V_of_ne m c main_arg3 (by decide) (by decide) (by decide)))),
      ((h.1 c).2 main_arg4 (by decide : main_arg4 ∈ Pipeline.restRefs sig spec0)).trans (V_of_ne m c main_arg4 (by decide) (by decide) (by decide)),
      ((h.1 c).2 main_arg5 (by decide : main_arg5 ∈ Pipeline.restRefs sig spec0)).trans (V_of_ne m c main_arg5 (by decide) (by decide) (by decide)),
      ((h.1 c).2 main_arg6 (by decide : main_arg6 ∈ Pipeline.restRefs sig spec0)).trans (V_of_ne m c main_arg6 (by decide) (by decide) (by decide))⟩, h.2⟩) (run_quiet m ρ hO)

/-! ## Tables whose words name experts -/

/-- The word of the first table a weight window's index map reads at a point. -/
theorem map_word (i : grid0.Coords) :
    cc0_transform_2 k0_off1_inb numel1_S1 (tbl m) i
      = ![(m (((0 : Dev nD).tc : Thread nD τ).loc main_arg0) (ix1 (n0 := 160) (i 0))).toNat, 0, 0] := by
  have hV : tbl m 0 = m (((0 : Dev nD).tc : Thread nD τ).loc main_arg0) := V_of_ne m 0 main_arg0 (by decide) (by decide) (by decide)
  have hw : (tbl m).at 0 (Rect.unit (s := S160) ![(Scalar.indexCast (BitVec.ofNat 32 (i 0).val)).toNat] S1.size (k0_off1_inb i)) numel1_S1
      = m (((0 : Dev nD).tc : Thread nD τ).loc main_arg0) (ix1 (n0 := 160) (i 0)) := by
    rw [← hV]
    have he : (Rect.unit (s := S160) ![(Scalar.indexCast (BitVec.ofNat 32 (i 0).val)).toNat] S1.size (k0_off1_inb i)).emb
        (Shape.Idx.first (numel1_S1.symm ▸ Nat.one_pos)) = ix1 (n0 := 160) (i 0) := by
      funext a
      refine Fin.ext ?_
      match a with
      | ⟨0, _⟩ =>
        have hlt : (i 0).val < 160 := (i 0).isLt
        show (BitVec.ofNat 32 (i 0).val).toNat + 0 * 1 = (i 0).val
        rw [BitVec.toNat_ofNat]; omega
    exact congrArg (tbl m 0) he
  show ![BitVec.toNat _, _, _] = _
  rw [hw]; rfl

/-- Words below 32 name blocks inside the weights. -/
theorem ok_of_range (h : ∀ j : Fin 160, (m (((0 : Dev nD).tc : Thread nD τ).loc main_arg0) (ix1 j)).toNat < 32) : Ok m := by
  have hw : ∀ i : grid0.Coords, (m (((0 : Dev nD).tc : Thread nD τ).loc main_arg0) (ix1 (n0 := 160) (i 0))).toNat < 32 := fun i => h (i 0)
  have hin : ∀ (i : grid0.Coords) (a : Fin 3), (cc0_transform_2 k0_off1_inb numel1_S1 (tbl m) i a + 1) * S1x2048x1024.size a ≤ S32x2048x1024.size a := fun i a => by
    rw [map_word]
    match a with
    | ⟨0, _⟩ => exact Nat.mul_le_mul_right 1 (hw i)
    | ⟨1, _⟩ => exact Nat.le_refl _
    | ⟨2, _⟩ => exact Nat.le_refl _
  have hin' : ∀ (i : grid0.Coords) (a : Fin 3), (cc0_transform_2 k0_off1_inb numel1_S1 (tbl m) i a + 1) * S1x1024x2048.size a ≤ S32x1024x2048.size a := fun i a => by
    rw [map_word]
    match a with
    | ⟨0, _⟩ => exact Nat.mul_le_mul_right 1 (hw i)
    | ⟨1, _⟩ => exact Nat.le_refl _
    | ⟨2, _⟩ => exact Nat.le_refl _
  exact ⟨fun i => ⟨hin i, .inr (.inr ⟨by decide, rfl, rfl, rfl⟩)⟩, fun i => ⟨hin i, .inr (.inr ⟨by decide, rfl, rfl, rfl⟩)⟩,
    fun i => ⟨hin' i, .inr (.inr ⟨by decide, rfl, rfl, rfl⟩)⟩⟩

end Cert.ExpertsIdeal.Run

end
-- ==== Proof.ExpertsValue.lean ====
module

public import proofs.«01_k».proof.Proof.ExpertsIdealFrame
public import Idealize.ShloMosaic.Lib.Pointwise
public import Idealize.ShloMosaic.Lib.Pipeline.Covers

/-! What the expert kernel leaves in its output, entry by entry. -/

@[expose] public section

set_option maxRecDepth 16384

noncomputable section

namespace Cert.Proof.ExpertsValue

open Cert.ExpertsIdeal Cert.ExpertsIdeal.Gen Cert.ExpertsIdeal.Run
open Idealize.ShloMosaic Idealize.ShloMosaic.TcCoe Idealize.SL.Sem
open Idealize.ShloMosaic.Pipeline (Dat)

/-- One entry of the result, from a row, the expert's weights and the row's gate. -/
def value (X : Fin 2048 → EReal) (G U : Fin 2048 → Fin 1024 → EReal) (D : Fin 1024 → EReal) (b : EReal) : EReal :=
  (∑ f : Fin 1024, ((∑ k : Fin 2048, X k * G k f) * Ideal.logistic (∑ k : Fin 2048, X k * G k f) * ∑ k : Fin 2048, X k * U k f) * D f) * b

theorem value_congr {X X' : Fin 2048 → EReal} {G G' U U' : Fin 2048 → Fin 1024 → EReal} {D D' : Fin 1024 → EReal} {b b' : EReal}
    (hX : ∀ k, X k = X' k) (hG : ∀ k f, G k f = G' k f) (hU : ∀ k f, U k f = U' k f) (hD : ∀ f, D f = D' f) (hb : b = b') :
    value X G U D b = value X' G' U' D' b' := by
  obtain rfl : X = X' := funext hX
  obtain rfl : G = G' := funext fun k => funext (hG k)
  obtain rfl : U = U' := funext fun k => funext (hU k)
  obtain rfl : D = D' := funext hD
  rw [hb]

theorem outDead_apply (c : Dev nD) (i : grid0.Coords) (arg3 : Memref sig .tc .vmem S256x2048 .bf16) (h3 : arg3.IsWhole)
    (arg4 : Memref sig .tc .vmem S256x1 .f32) (h4 : arg4.IsWhole) (arg5 : Memref sig .tc .vmem S1x2048x1024 .bf16) (h5 : arg5.IsWhole)
    (arg6 : Memref sig .tc .vmem S1x2048x1024 .bf16) (h6 : arg6.IsWhole) (arg7 : Memref sig .tc .vmem S1x1024x2048 .bf16) (h7 : arg7.IsWhole)
    (arg8 : Memref sig .tc .vmem S256x2048 .f32) (h8 : arg8.IsWhole)
    (x0 : Vec Ideal S256x2048 .bf16) (x1 : Vec Ideal S256x1 .f32) (x2 x3 : Vec Ideal S1x2048x1024 .bf16) (x4 : Vec Ideal S1x1024x2048 .bf16)
    (be : TabBuf (F := Ideal) c tabBe) (nu : TabBuf (F := Ideal) c tabNu)
    (hc1 : ¬ k0_cond1 i (count c nu) = 1#1) (hc2 : k0_cond2 i (count c nu) = 1#1) (r : Fin 256) (d : Fin 2048) :
    outDead c i arg3 h3 arg4 h4 arg5 h5 arg6 h6 arg7 h7 arg8 h8 x0 x1 x2 x3 x4 be nu hc1 hc2 (ix2 r d) = 0 := by
  unfold outDead
  frame_out
  pointwise

theorem outLive_apply (c : Dev nD) (i : grid0.Coords) (arg3 : Memref sig .tc .vmem S256x2048 .bf16) (h3 : arg3.IsWhole)
    (arg4 : Memref sig .tc .vmem S256x1 .f32) (h4 : arg4.IsWhole) (arg5 : Memref sig .tc .vmem S1x2048x1024 .bf16) (h5 : arg5.IsWhole)
    (arg6 : Memref sig .tc .vmem S1x2048x1024 .bf16) (h6 : arg6.IsWhole) (arg7 : Memref sig .tc .vmem S1x1024x2048 .bf16) (h7 : arg7.IsWhole)
    (arg8 : Memref sig .tc .vmem S256x2048 .f32) (h8 : arg8.IsWhole)
    (x0 : Vec Ideal S256x2048 .bf16) (x1 : Vec Ideal S256x1 .f32) (x2 x3 : Vec Ideal S1x2048x1024 .bf16) (x4 : Vec Ideal S1x1024x2048 .bf16)
    (be : TabBuf (F := Ideal) c tabBe) (nu : TabBuf (F := Ideal) c tabNu)
    (hc1 : k0_cond1 i (count c nu) = 1#1) (hc2 : ¬ k0_cond2 i (count c nu) = 1#1) (r : Fin 256) (d : Fin 2048) :
    outLive c i arg3 h3 arg4 h4 arg5 h5 arg6 h6 arg7 h7 arg8 h8 x0 x1 x2 x3 x4 be nu hc1 hc2 (ix2 r d)
      = value (fun k => x0 (ix2 r k)) (fun k f => x2 (ix3 (0 : Fin 1) k f)) (fun k f => x3 (ix3 (0 : Fin 1) k f))
          (fun f => x4 (ix3 (0 : Fin 1) f d)) (x1 (ix2 r (0 : Fin 1))) := by
  unfold value
  unfold outLive
  frame_out
  pointwise

variable (m : (ℓ : Loc nD τ sig) → Buf (Elt Ideal) ℓ) (hO : Ok m)

theorem idx0 (t : Fin (cfgM m hO).N) : ((cfgM m hO).win 0).index t = ![(grid0.coords t 0).val, 0] := by
  have h0 : (grid0.coords t 0).val < 160 := (grid0.coords t 0).isLt
  show ![(BitVec.ofNat 32 (grid0.coords t 0).val).toNat, 0] = _
  rw [BitVec.toNat_ofNat, Nat.mod_eq_of_lt (by omega)]

theorem idx1 (t : Fin (cfgM m hO).N) : ((cfgM m hO).win 1).index t = ![(grid0.coords t 0).val, 0] := idx0 m hO t
theorem idx5 (t : Fin (cfgM m hO).N) : ((cfgM m hO).win 5).index t = ![(grid0.coords t 0).val, 0] := idx0 m hO t

/-- The expert of a point's block of rows. -/
def word (m : (ℓ : Loc nD τ sig) → Buf (Elt Ideal) ℓ) (i : grid0.Coords) : ℕ :=
  (m (((0 : Dev nD).tc : Thread nD τ).loc main_arg0) (ix1 (n0 := 160) (i 0))).toNat

theorem idx2 (t : Fin (cfgM m hO).N) : ((cfgM m hO).win 2).index t = ![word m (grid0.coords t), 0, 0] := map_word m (grid0.coords t)
theorem idx3 (t : Fin (cfgM m hO).N) : ((cfgM m hO).win 3).index t = ![word m (grid0.coords t), 0, 0] := map_word m (grid0.coords t)
theorem idx4 (t : Fin (cfgM m hO).N) : ((cfgM m hO).win 4).index t = ![word m (grid0.coords t), 0, 0] := map_word m (grid0.coords t)

theorem V_gate (c : Dev nD) : V m c main_v0 = m ((c : Thread nD τ).loc main_arg4) := rfl
theorem V_up (c : Dev nD) : V m c main_v1 = m ((c : Thread nD τ).loc main_arg5) := rfl
theorem V_down (c : Dev nD) : V m c main_v2 = m ((c : Thread nD τ).loc main_arg6) := rfl

theorem blk0 (c : Dev nD) (t : Fin (cfgM m hO).N) (r : Fin 256) (k : Fin 2048) :
    iblk m hO c 0 t (ix2 r k) = m ((c : Thread nD τ).loc main_arg2) (ix2 (n0 := 40960) (n1 := 2048)
      ⟨((grid0.coords t 0).val * 256 + r.val) % 40960, Nat.mod_lt _ (by decide)⟩ k) := by
  have h0 : (grid0.coords t 0).val < 160 := (grid0.coords t 0).isLt
  blk_ext [iblk, V, idx0 m hO t]

theorem blk1 (c : Dev nD) (t : Fin (cfgM m hO).N) (r : Fin 256) :
    iblk m hO c 1 t (ix2 r (0 : Fin 1)) = m ((c : Thread nD τ).loc main_arg3) (ix2 (n0 := 40960) (n1 := 1)
      ⟨((grid0.coords t 0).val * 256 + r.val) % 40960, Nat.mod_lt _ (by decide)⟩ 0) := by
  have h0 : (grid0.coords t 0).val < 160 := (grid0.coords t 0).isLt
  blk_ext [iblk, V, idx1 m hO t]

theorem blk2 (hw : ∀ i, word m i < 32) (c : Dev nD) (t : Fin (cfgM m hO).N) (k : Fin 2048) (f : Fin 1024) :
    iblk m hO c 2 t (ix3 (0 : Fin 1) k f) = m ((c : Thread nD τ).loc main_arg4) (ix3 (n0 := 32) (n1 := 2048) (n2 := 1024)
      ⟨word m (grid0.coords t) % 32, Nat.mod_lt _ (by decide)⟩ k f) := by
  have h0 : word m (grid0.coords t) < 32 := hw _
  blk_ext [iblk, V, idx2 m hO t]

theorem blk3 (hw : ∀ i, word m i < 32) (c : Dev nD) (t : Fin (cfgM m hO).N) (k : Fin 2048) (f : Fin 1024) :
    iblk m hO c 3 t (ix3 (0 : Fin 1) k f) = m ((c : Thread nD τ).loc main_arg5) (ix3 (n0 := 32) (n1 := 2048) (n2 := 1024)
      ⟨word m (grid0.coords t) % 32, Nat.mod_lt _ (by decide)⟩ k f) := by
  have h0 : word m (grid0.coords t) < 32 := hw _
  blk_ext [iblk, V, idx3 m hO t]

theorem blk4 (hw : ∀ i, word m i < 32) (c : Dev nD) (t : Fin (cfgM m hO).N) (f : Fin 1024) (d : Fin 2048) :
    iblk m hO c 4 t (ix3 (0 : Fin 1) f d) = m ((c : Thread nD τ).loc main_arg6) (ix3 (n0 := 32) (n1 := 1024) (n2 := 2048)
      ⟨word m (grid0.coords t) % 32, Nat.mod_lt _ (by decide)⟩ f d) := by
  have h0 : word m (grid0.coords t) < 32 := hw _
  blk_ext [iblk, V, idx4 m hO t]

/-! ## The output array -/

theorem point : ∀ q : Fin 160, ∃ t : Fin grid0.N, (grid0.coords t 0).val = q.val := by decide +kernel

theorem next : ∀ t : Fin grid0.N, t.val + 1 = grid0.N ∨ ∃ h : t.val + 1 < grid0.N, (grid0.coords ⟨t.val + 1, h⟩ 0).val ≠ (grid0.coords t 0).val := by
  decide +kernel

/-- The output's blocks cover it. -/
theorem covers : ((cfgM m hO).win 5).Covers := by
  refine ⟨(by decide : ∀ a : Fin 2, 0 < S256x2048.size a), fun β => ?_⟩
  have b0 : (β (0 : Fin 2)).val < 160 := Nat.lt_of_lt_of_eq (β (0 : Fin 2)).isLt (by decide : (40960 + 256 - 1) / 256 = 160)
  have b1 : (β (1 : Fin 2)).val < 1 := Nat.lt_of_lt_of_eq (β (1 : Fin 2)).isLt (by decide : (2048 + 2048 - 1) / 2048 = 1)
  obtain ⟨t, ht⟩ := point ⟨_, b0⟩
  refine ⟨t, ?_, fun a => ⟨?_, .inl ?_⟩⟩
  · show (true && (t.val + 1 = grid0.N || decide (∃ h : t.val + 1 < grid0.N, ((cfgM m hO).win 5).index ⟨t.val + 1, h⟩ ≠ ((cfgM m hO).win 5).index t))) = true
    rcases next t with h | ⟨h, hne⟩
    · simp [h]
    · have : ((cfgM m hO).win 5).index ⟨t.val + 1, h⟩ ≠ ((cfgM m hO).win 5).index t := fun e => hne (by
        rw [idx5, idx5] at e
        exact congrFun e (0 : Fin 2))
      simp only [Bool.true_and, Bool.or_eq_true, decide_eq_true_eq]
      exact .inr ⟨h, this⟩
  · rw [idx5]
    match a with
    | ⟨0, _⟩ => exact ht
    | ⟨1, _⟩ => exact (Nat.lt_one_iff.mp b1).symm
  · rfl

/-- The output's entry. -/
def entry (be : IVec S160 32) (nu : IVec S1 32) (x : FVec Ideal S40960x2048 .bf16) (b : FVec Ideal S40960x1 .f32)
    (wg wu : FVec Ideal S32x2048x1024 .f32) (wd : FVec Ideal S32x1024x2048 .f32) (r d : ℕ) : EReal :=
  let row : Fin 40960 := ⟨r % 40960, Nat.mod_lt _ (by decide)⟩
  let e : Fin 32 := ⟨(be (ix1 (n0 := 160) ⟨row.val / 256, by omega⟩)).toNat % 32, Nat.mod_lt _ (by decide)⟩
  if (BitVec.ofNat 32 (row.val / 256)).slt (nu (ix1 (n0 := 1) 0)) = true then
    value (fun k => x (ix2 row k)) (fun k f => wg (ix3 e k f)) (fun k f => wu (ix3 e k f))
      (fun f => wd (ix3 e f ⟨d % 2048, Nat.mod_lt _ (by decide)⟩)) (b (ix2 row (0 : Fin 1)))
  else 0

theorem arr (hw : ∀ i, word m i < 32) (c : Dev nD) : (dats m hO 0 c).arrAt 5 (cfgM m hO).N = fun y : S40960x2048.Idx =>
    entry (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (y 0).val (y 1).val := by
  refine (dats m hO 0 c).arrAt_eq_of_covers 5 _ (covers m hO) fun t hf (y : S256x2048.Idx) => ?_
  have h0 : (grid0.coords t 0).val < 160 := (grid0.coords t 0).isLt
  blk_simp [idx5 m hO t]
  rw [after_out]
  idx_vars y
  obtain rfl : c = 0 := Subsingleton.elim _ _
  have hy : y0.val < 256 := y0.isLt
  have hrow : ((grid0.coords t 0).val * 256 + y0.val) % 40960 / 256 = (grid0.coords t 0).val := by omega
  have hd : y1.val % 2048 = y1.val := Nat.mod_eq_of_lt y1.isLt
  have hcond : k0_cond1 (grid0.coords t) (Run.count 0 (tbl m 1)) = 1#1
      ↔ (BitVec.ofNat 32 (grid0.coords t 0).val).slt (m (((0 : Dev nD) : Thread nD τ).loc main_arg1) (ix1 (n0 := 1) 0)) = true := by
    have hcount : Run.count 0 (tbl m 1) = m (((0 : Dev nD) : Thread nD τ).loc main_arg1) (ix1 (n0 := 1) 0) :=
      (count_eq 0 _).trans (congrFun (V_of_ne m 0 main_arg1 (by decide) (by decide) (by decide)) _)
    rw [cond1_iff, hcount]
  by_cases h : k0_cond1 (grid0.coords t) (Run.count 0 (tbl m 1)) = 1#1
  · have hl := hcond.mp h
    unfold outAt
    rw [dif_pos h]
    refine (outLive_apply _ _ _ _ _ _ _ _ _ _ _ _ _ _ _ _ _ _ _ _ _ _ _ y0 y1).trans ?_
    refine (value_congr (fun k => blk0 m hO 0 t y0 k) (fun k f => blk2 m hO hw 0 t k f) (fun k f => blk3 m hO hw 0 t k f)
      (fun f => blk4 m hO hw 0 t f y1) (blk1 m hO 0 t y0)).trans ?_
    unfold entry
    simp only [hrow, hd, if_pos hl]
    rfl
  · have hl := mt hcond.mpr h
    unfold outAt
    rw [dif_neg h]
    refine (outDead_apply _ _ _ _ _ _ _ _ _ _ _ _ _ _ _ _ _ _ _ _ _ _ _ y0 y1).trans ?_
    unfold entry
    simp only [hrow, if_neg hl]

end Cert.Proof.ExpertsValue

end
-- ==== Proof.ExpertsRef.lean ====
module

public import proofs.«01_k».proof.Proof.Gen.ExpertsRefIdeal.Run
public import Idealize.ShloMosaic.Lib.Pointwise
public import Idealize.ShloMosaic.Lib.ValueIdxCore

/-! What the reference of the experts computes, entry by entry: the row's expert is the word of its
block of 256 rows, and rows past the blocks in use are zero. -/

@[expose] public section

set_option maxRecDepth 16384

noncomputable section

namespace Cert.Proof.ExpertsRef

open Cert.ExpertsRefIdeal Cert.ExpertsRefIdeal.Gen Cert.ExpertsRefIdeal.Value
open Idealize.ShloMosaic Idealize.ShloMosaic.TcCoe Idealize.SL.Sem

/-! ## Taking one slab of the weights per row -/

/-- The dimension numbers of `w[e]` for weights `[N, A, B]` and one index per row. -/
abbrev slabDims (N R A B : ℕ)
    (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- `w[e]` at `(r, a, b)`: the weights at the row's index, read signed and clamped. -/
theorem slab_apply {α : Type} {N R A B : ℕ} (hN : 0 < N)
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ 32) (r : Fin R) (a : Fin A) (b : Fin B) :
    Host.gather (slabDims N R A B wf) x idx (ix3 r a b)
      = x (ix3 ⟨min (idx (ix2 r (0 : Fin 1))).toInt.toNat (N - 1), by omega⟩ a b) := by
  unfold Host.gather
  congr 1
  funext k
  refine Fin.ext ?_
  show (slabDims N R A B wf).start (ix3 r a b) idx k + (slabDims N R A B wf).batchCoord (ix3 r a b) k
      + (slabDims N R A B wf).offCoord (ix3 r a b) k = _
  rw [GatherDims.batchCoord_eq_zero _ _ _ List.not_mem_nil, Nat.add_zero]
  match k with
  | ⟨0, _⟩ =>
    have hk : (0 : Fin 3) ∉ (slabDims N R A B wf).sKept := fun h =>
      ((GatherDims.mem_sKept _ _).mp h).1 (List.mem_singleton.mpr rfl)
    show (slabDims N R A B wf).start (ix3 r a b) idx 0 + (slabDims N R A B wf).offCoord (ix3 r a b) 0 = _
    rw [GatherDims.offCoord_eq_zero _ _ _ hk, Nat.add_zero]
    unfold GatherDims.start
    rw [dif_pos (show (0 : Fin 3) ∈ (slabDims N R A B wf).startIndexMap from List.mem_singleton.mpr rfl)]
    have hsi : (slabDims N R A B wf).siIdx (ix3 r a b) ⟨List.idxOf (0 : Fin 3) (slabDims N R A B wf).startIndexMap,
        List.idxOf_lt_length_iff.2 (List.mem_singleton.mpr rfl)⟩ = ix2 r (0 : Fin 1) := by
      funext j; refine Fin.ext ?_
      match j with
      | ⟨0, _⟩ => rfl
      | ⟨1, _⟩ => rfl
    rw [hsi]
    rfl
  | ⟨1, _⟩ =>
    show (slabDims N R A B wf).start (ix3 r a b) idx 1 + (slabDims N R A B wf).offCoord (ix3 r a b) 1 = a.val
    unfold GatherDims.start
    rw [dif_neg (by decide : (1 : Fin 3) ∉ ([0] : List (Fin 3))), Nat.zero_add]
    rfl
  | ⟨2, _⟩ =>
    show (slabDims N R A B wf).start (ix3 r a b) idx 2 + (slabDims N R A B wf).offCoord (ix3 r a b) 2 = b.val
    unfold GatherDims.start
    rw [dif_neg (by decide : (2 : Fin 3) ∉ ([0] : List (Fin 3))), Nat.zero_add]
    rfl

/-! ## The row's block and its expert -/

/-- The start index of each row: the word of its block. -/
def slot (be : IVec S160 32) : IVec S40960x1 32 :=
  broadcastInDim S40960x1 ![0] bcast_S40960_S40960x1_0 (select (cmpi .slt (shapeCast _ (broadcastInDim S160x256 ![0] bcast_S160_S160x256_0 be) shapeCasts_S160x256_S40960) (broadcastInDim S40960 ![] bcast_S_S40960 (constantI S_ 32 0#32))) (addi (shapeCast _ (broadcastInDim S160x256 ![0] bcast_S160_S160x256_0 be) shapeCasts_S160x256_S40960) (broadcastInDim S40960 ![] bcast_S_S40960 (constantI S_ 32 32#32))) (shapeCast _ (broadcastInDim S160x256 ![0] bcast_S160_S160x256_0 be) shapeCasts_S160x256_S40960))

theorem slot_apply (be : IVec S160 32) (hbe : ∀ j : Fin 160, (be (ix1 j)).slt 0#32 = false) (r : Fin 40960) :
    slot be (ix2 r (0 : Fin 1)) = be (ix1 ⟨r.val / 256, by omega⟩) := by
  unfold slot
  pointwise
  have h := hbe ⟨r.val / 256, by omega⟩
  simp only [IntOp.cmpi, h]
  rfl

/-- The sign of a word. -/
abbrev sign (x : BitVec 32) : BitVec 32 := if x = 0 then 0 else if x.msb = true then -1 else 1

/-- Rounding division of a row number by 256, as the reference spells it. -/
theorem floor_word (n : ℕ) (hn : n < 40960) :
    Scalar.select
        (IntOp.andi
          (IntOp.cmpi CmpIPredicate.ne
            (sign (BitVec.ofNat 32 n))
            (sign 256#32))
          (IntOp.cmpi CmpIPredicate.ne (IntOp.remsi ArithUnit.host (BitVec.ofNat 32 n) 256#32) 0#32))
        (IntOp.subi (IntOp.divsi ArithUnit.host (BitVec.ofNat 32 n) 256#32) 1#32)
        (IntOp.divsi ArithUnit.host (BitVec.ofNat 32 n) 256#32)
      = BitVec.ofNat 32 (n / 256) := by
  have hm : (BitVec.ofNat 32 n).msb = false := by
    rw [BitVec.msb_eq_false_iff_two_mul_lt, BitVec.toNat_ofNat]; omega
  have hd : IntOp.divsi ArithUnit.host (BitVec.ofNat 32 n) 256#32 = BitVec.ofNat 32 (n / 256) := by
    have h : (BitVec.ofNat 32 n).sdiv 256#32 = BitVec.ofNat 32 (n / 256) := by
      rw [BitVec.sdiv_eq, hm, show (256#32).msb = false from by decide]
      apply BitVec.eq_of_toNat_eq
      simp only [BitVec.udiv_eq, BitVec.toNat_udiv, BitVec.toNat_ofNat, Nat.reducePow, Nat.reduceMod]
      omega
    unfold IntOp.divsi
    rw [if_neg (by simp [IntOp.SDivCorner]), h]
  rw [hd]
  by_cases h0 : n = 0
  · subst h0; decide
  · have hne : ¬ BitVec.ofNat 32 n = 0 := fun h => h0 (by
      have := congrArg BitVec.toNat h
      simp only [BitVec.toNat_ofNat, BitVec.ofNat_eq_ofNat, Nat.zero_mod] at this
      omega)
    rw [show sign (BitVec.ofNat 32 n) = 1#32 from by unfold sign; rw [if_neg hne, hm]; rfl,
      show IntOp.cmpi CmpIPredicate.ne 1#32 (sign 256#32) = 0#1 from by decide]
    have hz : ∀ v : BitVec 1, IntOp.andi 0#1 v = 0#1 := by decide
    rw [hz]
    rfl

/-- The mask of the rows in use. -/
def live (nu : IVec S1 32) : IVec S40960 1 :=
  cmpi .slt (select (andi (cmpi .ne (signi (iotaInDim S40960 32 0)) (broadcastInDim S40960 ![] bcast_S_S40960 (signi (constantI S_ 32 256#32)))) (cmpi .ne (Host.remsi (iotaInDim S40960 32 0) (broadcastInDim S40960 ![] bcast_S_S40960 (constantI S_ 32 256#32))) (broadcastInDim S40960 ![] bcast_S_S40960 (constantI S_ 32 0#32)))) (subi (Host.divsi (iotaInDim S40960 32 0) (broadcastInDim S40960 ![] bcast_S_S40960 (constantI S_ 32 256#32))) (broadcastInDim S40960 ![] bcast_S_S40960 (constantI S_ 32 1#32))) (Host.divsi (iotaInDim S40960 32 0) (broadcastInDim S40960 ![] bcast_S_S40960 (constantI S_ 32 256#32)))) (broadcastInDim S40960 ![] bcast_S_S40960 (shapeCast _ nu shapeCasts_S1_S_))

theorem live_apply (nu : IVec S1 32) (r : Fin 40960) :
    live nu (ix1 r) = BitVec.ofBool ((BitVec.ofNat 32 (r.val / 256)).slt (nu (ix1 (0 : Fin 1)))) := by
  unfold live
  pointwise
  exact congrArg (fun v => IntOp.cmpi .slt v (nu (ix1 (0 : Fin 1)))) (floor_word r.val r.isLt)

/-! ## The result -/

/-- The result over the row's slabs and the mask. -/
def combine (x : FVec Ideal S40960x2048 .bf16) (b : FVec Ideal S40960x1 .f32) (on : IVec S40960 1)
    (G U : FVec Ideal S40960x2048x1024 .f32) (D : FVec Ideal S40960x1024x2048 .f32) : FVec Ideal S40960x2048 .f32 :=
  select (broadcastInDim S40960x2048 ![0, 1] bcast_S40960x1_S40960x2048_0_1 (broadcastInDim S40960x1 ![0] bcast_S40960_S40960x1_0 on)) (mulf (Host.dotGeneral dot_S40960x1024_S40960x1024x2048_S40960x2048_1_1_n_2_0_0 none (mulf (mulf (Host.dotGeneral dot_S40960x2048_S40960x2048x1024_S40960x1024_1_1_n_2_0_0 none (extf .f32 x bitsLt_bf16_f32) G) (Host.divf (broadcastInDim S40960x1024 ![] bcast_S_S40960x1024 (constant S_ .f32 0x3F800000#32)) (addf (broadcastInDim S40960x1024 ![] bcast_S_S40960x1024 (constant S_ .f32 0x3F800000#32)) (Host.exp (Host.negf (Host.dotGeneral dot_S40960x2048_S40960x2048x1024_S40960x1024_1_1_n_2_0_0 none (extf .f32 x bitsLt_bf16_f32) G)))))) (Host.dotGeneral dot_S40960x2048_S40960x2048x1024_S40960x1024_1_1_n_2_0_0 none (extf .f32 x bitsLt_bf16_f32) U)) D) (broadcastInDim S40960x2048 ![0, 1] bcast_S40960x1_S40960x2048_0_1 b)) (broadcastInDim S40960x2048 ![] bcast_S_S40960x2048 (constant S_ .f32 0x00000000#32))

/-- The result from the arguments. -/
def res (be : IVec S160 32) (nu : IVec S1 32) (x : FVec Ideal S40960x2048 .bf16) (b : FVec Ideal S40960x1 .f32)
    (wg wu : FVec Ideal S32x2048x1024 .f32) (wd : FVec Ideal S32x1024x2048 .f32) : FVec Ideal S40960x2048 .f32 :=
  combine x b (live nu)
    (Host.gather (slabDims 32 40960 2048 1024 gather_S32x2048x1024_S40960x1_S40960x2048x1024_12_0_n_n_0_1_120481024_wf) wg (slot be))
    (Host.gather (slabDims 32 40960 2048 1024 gather_S32x2048x1024_S40960x1_S40960x2048x1024_12_0_n_n_0_1_120481024_wf) wu (slot be))
    (Host.gather (slabDims 32 40960 1024 2048 gather_S32x1024x2048_S40960x1_S40960x1024x2048_12_0_n_n_0_1_110242048_wf) wd (slot be))

theorem res_eq (m : (ℓ : Loc nD τ sig) → Buf (Elt Ideal) ℓ) (c : Dev nD) :
    res_main_v37 m c = res (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := rfl

theorem combine_apply (x : FVec Ideal S40960x2048 .bf16) (b : FVec Ideal S40960x1 .f32) (on : IVec S40960 1)
    (G U : FVec Ideal S40960x2048x1024 .f32) (D : FVec Ideal S40960x1024x2048 .f32) (r : Fin 40960) (d : Fin 2048) :
    combine x b on G U D (ix2 r d) = Scalar.select (on (ix1 r))
      ((∑ f : Fin 1024, ((∑ k : Fin 2048, x (ix2 r k) * G (ix3 r k f)) * Ideal.div 1 (1 + Ideal.exp (-∑ k : Fin 2048, x (ix2 r k) * G (ix3 r k f)))
          * ∑ k : Fin 2048, x (ix2 r k) * U (ix3 r k f)) * D (ix3 r f d)) * b (ix2 r (0 : Fin 1))) 0 := by
  unfold combine
  pointwise

end Cert.Proof.ExpertsRef

end
-- ==== Proof.ExpertsClaims.lean ====
module

public import proofs.«01_k».proof.Defs
public import proofs.«01_k».proof.Proof.ExpertsFrame
public import proofs.«01_k».proof.Proof.ExpertsValue
public import proofs.«01_k».proof.Proof.ExpertsRef
public import proofs.«01_k».proof.Proof.Gen.Pre_experts_named
public import Idealize.ShloMosaic.Lib.Quiescent

/-! The claims of the experts. The precondition keeps the first table's words below 32, so that every
point's weight blocks lie inside the weights and the reference's indices are not clamped. -/

@[expose] public section

set_option maxRecDepth 16384

noncomputable section

open Idealize.ShloMosaic Idealize.ShloMosaic.TcCoe Idealize.SL.Sem

namespace Cert.Proof.ExpertsClaims

/-! ## The precondition -/

/-- A word between 0 and 31, from the two signed comparisons. -/
theorem word_range (x : BitVec 32) (h : IntOp.andi (IntOp.cmpi .sge x 0#32) (IntOp.cmpi .slt x 32#32) = 1#1) :
    x.toNat < 32 := by
  have h' : (x.toInt ≥ 0) ∧ x.toInt < 32 := by
    simp only [IntOp.cmpi, IntOp.andi] at h
    cases h1 : (0#32).sle x <;> cases h2 : x.slt 32#32 <;> simp [h1, h2] at h
    rw [BitVec.sle_eq_decide] at h1
    rw [BitVec.slt_eq_decide] at h2
    exact ⟨of_decide_eq_true h1, of_decide_eq_true h2⟩
  rw [BitVec.toInt_eq_toNat_cond] at h'
  split at h' <;> omega

/-- The words the precondition admits. -/
theorem words {F : FTy → Type} [FloatOps F] (a0 : IVec Cert.Pre_experts_named.S160 32) (a1 : IVec Cert.Pre_experts_named.S1 32)
    (a2 : FVec F Cert.Pre_experts_named.S40960x2048 .bf16) (a3 : FVec F Cert.Pre_experts_named.S40960x1 .f32)
    (a4 a5 : FVec F Cert.Pre_experts_named.S32x2048x1024 .f32) (a6 : FVec F Cert.Pre_experts_named.S32x1024x2048 .f32)
    (h : Cert.Pre_experts_named.fn a0 a1 a2 a3 a4 a5 a6 = fun _ => 1#1) (j : Fin 160) : (a0 (ix1 j)).toNat < 32 :=
  word_range _ (congrFun h (ix1 j))

theorem ok_p (m : (ℓ : Loc Cert.Experts.nD Cert.Experts.τ Cert.Experts.sig) → Buf (Elt Bits) ℓ) (h : Cert.Pre_Experts m) :
    Cert.Experts.Run.Ok m :=
  Cert.Experts.Run.ok_of_range m (words _ _ _ _ _ _ _ (h 0))

theorem ok_pi (m : (ℓ : Loc Cert.ExpertsIdeal.nD Cert.ExpertsIdeal.τ Cert.ExpertsIdeal.sig) → Buf (Elt Ideal) ℓ) (h : Cert.Pre_ExpertsIdeal m) :
    Cert.ExpertsIdeal.Run.Ok m :=
  Cert.ExpertsIdeal.Run.ok_of_range m (words _ _ _ _ _ _ _ (h 0))

/-! ## The frames -/

theorem frame_p : Cert.quiescent_Experts := fun m ρ h =>
  (θ_run Cert.Experts.defs _ _).mono (fun r h => ⟨fun c => (h.1 c).2, h.2⟩) (Cert.Experts.Run.run_out m ρ (ok_p m h))

theorem frame_pi : Cert.quiescent_ExpertsIdeal := fun m ρ h =>
  (θ_run Cert.ExpertsIdeal.defs _ _).mono (fun r h => ⟨fun c => (h.1 c).2, h.2⟩) (Cert.ExpertsIdeal.Run.run_out m ρ (ok_pi m h))

theorem frame_ri : Cert.quiescent_ExpertsRefIdeal := fun m ρ _ =>
  (θ_run Cert.ExpertsRefIdeal.defs _ _).mono (fun r h => ⟨fun c => (h c).2,
      Idealize.ShloMosaic.sem_eq_zero_of_no_sems (by decide) r.2⟩)
    (Cert.ExpertsRefIdeal.Value.run (F := Ideal) m ρ)

theorem frame_ri_pre : Cert.quiescent_ExpertsRefIdeal_pre_experts_named := fun m ρ _ => frame_ri m ρ trivial

/-! ## The kernel's result is the reference's -/

open Cert.Proof.ExpertsRef in
/-- The reference's entry, over words below 32. -/
theorem res_apply (be : IVec Cert.ExpertsRefIdeal.S160 32) (nu : IVec Cert.ExpertsRefIdeal.S1 32)
    (x : FVec Ideal Cert.ExpertsRefIdeal.S40960x2048 .bf16) (b : FVec Ideal Cert.ExpertsRefIdeal.S40960x1 .f32)
    (wg wu : FVec Ideal Cert.ExpertsRefIdeal.S32x2048x1024 .f32) (wd : FVec Ideal Cert.ExpertsRefIdeal.S32x1024x2048 .f32)
    (hbe : ∀ j : Fin 160, (be (ix1 j)).toNat < 32) (r : Fin 40960) (d : Fin 2048) :
    res be nu x b wg wu wd (ix2 r d) = Cert.Proof.ExpertsValue.entry be nu x b wg wu wd r.val d.val := by
  have hint : ∀ j : Fin 160, (be (ix1 j)).toInt = (be (ix1 j)).toNat := fun j => by
    have := hbe j
    rw [BitVec.toInt_eq_toNat_cond, if_pos (by omega)]
  have hneg : ∀ j : Fin 160, (be (ix1 j)).slt 0#32 = false := fun j => by
    rw [BitVec.slt_eq_decide, hint, show (0#32).toInt = 0 from by decide]
    exact decide_eq_false (by omega)
  have hidx : min (slot be (ix2 r (0 : Fin 1))).toInt.toNat (32 - 1) = (be (ix1 ⟨r.val / 256, by omega⟩)).toNat % 32 := by
    rw [slot_apply be hneg, hint, Int.toNat_natCast]
    have := hbe ⟨r.val / 256, by omega⟩
    omega
  have hr : r.val % 40960 = r.val := Nat.mod_eq_of_lt r.isLt
  have hd : d.val % 2048 = d.val := Nat.mod_eq_of_lt d.isLt
  unfold res
  rw [combine_apply, live_apply]
  simp only [slab_apply (by decide : 0 < 32), hidx]
  unfold Cert.Proof.ExpertsValue.entry
  simp only [hr, hd]
  cases hc : (BitVec.ofNat 32 (r.val / 256)).slt (nu (ix1 (0 : Fin 1)))
  · rw [if_neg (by decide)]; rfl
  · rw [if_pos rfl]; rfl

theorem algebraic : Cert.algebraic_ExpertsIdeal_ExpertsRefIdeal := by
  intro m ρ m' ρ' hpre hagree
  have hO := ok_pi m hpre
  have hw := fun j => words _ _ _ _ _ _ _ (hpre 0) j
  refine ⟨_, (θ_run Cert.ExpertsIdeal.defs _ _).mono (fun r h => h.1) (Cert.ExpertsIdeal.Run.run_out m ρ hO), ?_⟩
  refine (θ_run Cert.ExpertsRefIdeal.defs _ _).mono (fun _ h c => ⟨(h c).1.trans ?_, (h c).2⟩)
    (Cert.ExpertsRefIdeal.Value.run (F := Ideal) m' ρ')
  obtain ⟨a0, a1, a2, a3, a4, a5, a6⟩ := hagree c
  obtain rfl : c = 0 := Subsingleton.elim _ _
  refine Eq.trans ?_ (Cert.Proof.ExpertsValue.arr m hO (fun i => hw (i 0)) 0).symm
  rw [Cert.Proof.ExpertsRef.res_eq, a0, a1, a2, a3, a4, a5, a6]
  funext y
  idx_vars y
  exact res_apply _ _ _ _ _ _ _ hw y0 y1

end Cert.Proof.ExpertsClaims

end
-- ==== Proof.CmpPay.lean ====
module

public import proofs.«01_k».proof.Proof.Gen.CmpIdeal.Skeleton
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.CmpIdeal.Val

open Cert.CmpIdeal Cert.CmpIdeal.Gen

/-- The activation of the hidden layer, in its form with the hyperbolic tangent. -/
def gl (h : EReal) : EReal :=
  h * (Ideal.ofBits .f32 0x3F000000#32 * (Ideal.ofBits .f32 0x3F800000#32
    + Ideal.tanh (Ideal.ofBits .f32 0x3F4C422A#32 * (h + Ideal.ofBits .f32 0x3D372713#32 * (h * (h * h))))))

/-- The product of a group's rows, shifted by an embedding's row, with a slab of the weights. -/
def dotp (x0 : Vec Ideal S1x512x1536 .f32) (v13 : Vec Ideal S1x128 .f32) (v18 : Vec Ideal S1x128x128 .bf16) (o : ℕ) (r : Fin 2048) (h : Fin 128) : EReal :=
  ∑ d : Fin 128, (x0 (ix3 (n0 := 1) (n1 := 512) (n2 := 1536) 0 ⟨r.val % 512, Nat.mod_lt _ (by decide)⟩ ⟨(o + 128 * (r.val / 512) + d.val) % 1536, Nat.mod_lt _ (by decide)⟩)
    + v13 (ix2 0 d)) * v18 (ix3 0 d h)

theorem ix3_congr {n0 n1 n2 : ℕ} {a a' : Fin n0} {b b' : Fin n1} {c c' : Fin n2} (ha : a = a') (hb : b.val = b'.val) (hc : c.val = c'.val) :
    (ix3 a b c : (⟨3, ![n0, n1, n2]⟩ : Shape).Idx) = ix3 a' b' c' := by
  rw [ha, Fin.ext hb, Fin.ext hc]

theorem pay21_apply (v3 : Vec Ideal S1x512x1536 .f32) (r : Fin 2048) (d : Fin 128) :
    k0_pay21 v3 (ix2 r d) = v3 (ix3 (n0 := 1) (n1 := 512) (n2 := 1536) 0 ⟨r.val % 512, Nat.mod_lt _ (by decide)⟩ ⟨(0 + 128 * (r.val / 512) + d.val) % 1536, Nat.mod_lt _ (by decide)⟩) := by
  pointwise [k0_pay21, k0_pay20]
  split_ifs <;> exact congrArg v3 (ix3_congr rfl (by dsimp only; omega) (by dsimp only; omega))

theorem pay26_apply (v3 : Vec Ideal S1x512x1536 .f32) (r : Fin 2048) (d : Fin 128) :
    k0_pay26 (k0_pay20 v3) (ix2 r d) = v3 (ix3 (n0 := 1) (n1 := 512) (n2 := 1536) 0 ⟨r.val % 512, Nat.mod_lt _ (by decide)⟩ ⟨(512 + 128 * (r.val / 512) + d.val) % 1536, Nat.mod_lt _ (by decide)⟩) := by
  pointwise [k0_pay26, k0_pay20]
  split_ifs <;> exact congrArg v3 (ix3_congr rfl (by dsimp only; omega) (by dsimp only; omega))

theorem pay22_apply (x0 : Vec Ideal S1x512x1536 .f32) (v10 : Vec Ideal S1x2048x128 .f32) (v13 : Vec Ideal S1x128 .f32) (v18 : Vec Ideal S1x128x128 .bf16) (r : Fin 2048) (h : Fin 128) :
    k0_pay22 x0 v10 v13 v18 (ix3 0 r h) = v10 (ix3 0 r h) + dotp x0 v13 v18 0 r h := by
  unfold dotp
  simp only [← pay21_apply]
  pointwise [k0_pay22]

theorem pay25_apply (x0 : Vec Ideal S1x512x1536 .f32) (v10 : Vec Ideal S1x2048x128 .f32) (v13 : Vec Ideal S1x128 .f32) (v18 : Vec Ideal S1x128x128 .bf16) (r : Fin 2048) (h : Fin 128) :
    k0_pay25 (k0_pay23 v10) (k0_pay24 x0 v13) v18 (ix3 0 r h) = v10 (ix3 0 r h) + dotp x0 v13 v18 0 r h := by
  unfold dotp
  simp only [← pay21_apply]
  pointwise [k0_pay25, k0_pay23, k0_pay24]

theorem pay27_apply (x0 : Vec Ideal S1x512x1536 .f32) (v10 : Vec Ideal S1x2048x128 .f32) (v13 : Vec Ideal S1x128 .f32) (v18 : Vec Ideal S1x128x128 .bf16) (r : Fin 2048) (h : Fin 128) :
    k0_pay27 (k0_pay20 x0) v10 v13 v18 (ix3 0 r h) = v10 (ix3 0 r h) + dotp x0 v13 v18 512 r h := by
  unfold dotp
  simp only [← pay26_apply]
  pointwise [k0_pay27]

theorem pay1_apply (x0 : Vec Ideal S1x512x1536 .f32) (v10 : Vec Ideal S1x2048x128 .f32) (v13 : Vec Ideal S1x128 .f32) (v18 : Vec Ideal S1x128x128 .bf16) (r : Fin 2048) (h : Fin 128) :
    k0_pay1 (k0_pay28 v10) (k0_pay29 (k0_pay20 x0) v13) v18 (ix3 0 r h) = v10 (ix3 0 r h) + dotp x0 v13 v18 512 r h := by
  unfold dotp
  simp only [← pay26_apply]
  pointwise [k0_pay1, k0_pay28, k0_pay29]

/-- A row of the result's block, from the two accumulated halves and the second layer's weights. -/
def outp (a b : Vec Ideal S1x512x128 .f32) (w : Vec Ideal S128x128 .bf16) (n : Fin 512) (d : Fin 128) : EReal :=
  if n.val = 511 then 0 else ∑ h : Fin 128, gl (a (ix3 0 n h) + b (ix3 (n0 := 1) (n1 := 512) (n2 := 128) 0 ⟨(n.val + 1) % 512, Nat.mod_lt _ (by decide)⟩ h)) * w (ix2 h d)

/-- Choosing zero on the last row. -/
theorem last (n : Fin 512) (v : EReal) :
    Scalar.select (IntOp.cmpi .eq (BitVec.ofNat 32 n.val) 511#32) 0 v = if n.val = 511 then 0 else v := by
  have h : IntOp.cmpi .eq (BitVec.ofNat 32 n.val) 511#32 = if n.val = 511 then 1#1 else 0#1 := by
    revert n; decide +kernel
  rw [h]
  split_ifs <;> rfl

theorem roll (n : ℕ) : (n + 512 - 511) % 512 = (n + 1) % 512 := by omega

theorem k0_apply (a b : Vec Ideal S1x512x128 .f32) (w : Vec Ideal S128x128 .bf16) (n : Fin 512) (d : Fin 128) :
    k0_pay4 a b w (ix4 0 0 n d) = outp a b w n d := by
  unfold outp gl
  pointwise [k0_pay4, k0_pay3]
  simp only [roll]
  exact last n _

theorem k1_apply (a b : Vec Ideal S1x512x128 .f32) (w : Vec Ideal S128x128 .bf16) (n : Fin 512) (d : Fin 128) :
    k0_pay6 k0_pay3 (k0_pay5 a) b w (ix4 0 0 n d) = outp a b w n d := by
  unfold outp gl
  pointwise [k0_pay6, k0_pay5, k0_pay3]
  simp only [roll]
  exact last n _

theorem k2_apply (a b : Vec Ideal S1x512x128 .f32) (w : Vec Ideal S128x128 .bf16) (n : Fin 512) (d : Fin 128) :
    k0_pay9 k0_pay3 (k0_pay7 a b) (k0_pay8 a b) w (ix4 0 0 n d) = outp a b w n d := by
  unfold outp gl
  pointwise [k0_pay9, k0_pay7, k0_pay8, k0_pay3]
  simp only [roll]
  exact last n _

theorem k3_apply (a b : Vec Ideal S1x512x128 .f32) (w : Vec Ideal S128x128 .bf16) (n : Fin 512) (d : Fin 128) :
    k0_pay12 k0_pay3 (k0_pay10 a b) (k0_pay11 a b) w (ix4 0 0 n d) = outp a b w n d := by
  unfold outp gl
  pointwise [k0_pay12, k0_pay10, k0_pay11, k0_pay3]
  simp only [roll]
  exact last n _

theorem v0_apply (a b : Vec Ideal S1x512x128 .f32) (w : Vec Ideal S128x128 .bf16) (n : Fin 512) (d : Fin 128) :
    k0_pay14 (k0_pay13 k0_pay3 a b w) (ix4 0 0 n d) = outp a b w n d := by
  unfold outp gl
  pointwise [k0_pay14, k0_pay13, k0_pay3]
  simp only [roll]
  exact last n _

theorem v1_apply (a b : Vec Ideal S1x512x128 .f32) (w : Vec Ideal S128x128 .bf16) (n : Fin 512) (d : Fin 128) :
    k0_pay15 k0_pay3 a b w (ix4 0 0 n d) = outp a b w n d := by
  unfold outp gl
  pointwise [k0_pay15, k0_pay3]
  simp only [roll]
  exact last n _

theorem v2_apply (a b : Vec Ideal S1x512x128 .f32) (w : Vec Ideal S128x128 .bf16) (n : Fin 512) (d : Fin 128) :
    k0_pay16 k0_pay3 a b w (ix4 0 0 n d) = outp a b w n d := by
  unfold outp gl
  pointwise [k0_pay16, k0_pay3]
  simp only [roll]
  exact last n _

theorem v3_apply (a b : Vec Ideal S1x512x128 .f32) (w : Vec Ideal S128x128 .bf16) (n : Fin 512) (d : Fin 128) :
    k0_pay2 k0_pay3 (k0_pay17 a b) w (ix4 0 0 n d) = outp a b w n d := by
  unfold outp gl
  pointwise [k0_pay2, k0_pay17, k0_pay3]
  simp only [roll]
  exact last n _

end Cert.CmpIdeal.Val

end
-- ==== Proof.CmpStep.lean ====
module

public import proofs.«01_k».proof.Proof.CmpPay
public import proofs.«01_k».proof.Proof.Gen.CmpIdeal.Frame

/-! What one grid point of the compression leaves in the two carried sums and, at a batch row's last
point, in the results. -/

@[expose] public section

set_option maxRecDepth 16384

noncomputable section

open Idealize.ShloMosaic Idealize.ShloMosaic.TcCoe Idealize.SL.Sem
open Idealize.ShloMosaic.Pipeline (Dat)

namespace Cert.CmpIdeal.Val

open Cert.CmpIdeal Cert.CmpIdeal.Gen

theorem off1 (i : grid0.Coords) : k0_off1 i = ![(i 1).val, 0] := by
  have h : ∀ x : Fin 16, (Scalar.indexCast (BitVec.ofNat 32 x.val) : Index).toNat = x.val := by decide +kernel
  show ![(Scalar.indexCast (BitVec.ofNat 32 (i 1).val) : Index).toNat, 0] = _
  rw [h (i 1)]

theorem off2 (i : grid0.Coords) : k0_off2 i = ![(i 1).val, 0, 0] := by
  have h : ∀ x : Fin 16, (Scalar.indexCast (BitVec.ofNat 32 x.val) : Index).toNat = x.val := by decide +kernel
  show ![(Scalar.indexCast (BitVec.ofNat 32 (i 1).val) : Index).toNat, 0, 0] = _
  rw [h (i 1)]

theorem off3 (i : grid0.Coords) : k0_off3 i = ![16 + (i 1).val, 0] := by
  have h : ∀ x : Fin 16, (Scalar.indexCast (Scalar.addi (BitVec.ofNat 32 x.val) 16#32) : Index).toNat = 16 + x.val := by decide +kernel
  show ![(Scalar.indexCast (Scalar.addi (BitVec.ofNat 32 (i 1).val) 16#32) : Index).toNat, 0] = _
  rw [h (i 1)]

theorem off4 (i : grid0.Coords) : k0_off4 i = ![16 + (i 1).val, 0, 0] := by
  have h : ∀ x : Fin 16, (Scalar.indexCast (Scalar.addi (BitVec.ofNat 32 x.val) 16#32) : Index).toNat = 16 + x.val := by decide +kernel
  show ![(Scalar.indexCast (Scalar.addi (BitVec.ofNat 32 (i 1).val) 16#32) : Index).toNat, 0, 0] = _
  rw [h (i 1)]

/-- A row of an embedding, as a load of it reads the staged array. -/
theorem ldp (X : Vec Ideal S32x128 .f32) (off : Fin 2 → Nat) (k : ℕ) (h : ∀ a, off a + S1x128.size a ≤ S32x128.size a)
    (ho : off = ![k, 0]) (hk : k < 32) (d : Fin 128) :
    View.ld X (Rect.unit off S1x128.size h) (ix2 0 d) = X (ix2 (n0 := 32) ⟨k, hk⟩ d) := by
  subst ho
  pointwise

/-- A slab of the first layer's weights, as a load of it reads the staged array. -/
theorem ldw (X : Vec Ideal S32x128x128 .bf16) (off : Fin 3 → Nat) (k : ℕ) (h : ∀ a, off a + S1x128x128.size a ≤ S32x128x128.size a)
    (ho : off = ![k, 0, 0]) (hk : k < 32) (d e : Fin 128) :
    View.ld X (Rect.unit off S1x128x128.size h) (ix3 0 d e) = X (ix3 (n0 := 32) ⟨k, hk⟩ d e) := by
  subst ho
  pointwise

theorem emb1 (r : Fin 2048) (h : Fin 128) :
    (Rect.unit (s := S2x2048x128) ![1, 0, 0] ![1, 2048, 128] inb_S2x2048x128_S1x2048x128_1_0_0).emb (ix3 (0 : Fin 1) r h) = ix3 (1 : Fin 2) r h := by
  funext a
  refine Fin.ext ?_
  match a with
  | ⟨0, _⟩ => rfl
  | ⟨1, _⟩ => show 0 + 1 * r.val = r.val; omega
  | ⟨2, _⟩ => show 0 + 1 * h.val = h.val; omega

theorem emb0 (r : Fin 2048) (h : Fin 128) :
    (Rect.unit (s := S2x2048x128) ![0, 0, 0] ![1, 2048, 128] inb_S2x2048x128_S1x2048x128_0_0_0).emb (ix3 (0 : Fin 1) r h) = ix3 (0 : Fin 2) r h := by
  funext a
  refine Fin.ext ?_
  match a with
  | ⟨0, _⟩ => rfl
  | ⟨1, _⟩ => show 0 + 1 * r.val = r.val; omega
  | ⟨2, _⟩ => show 0 + 1 * h.val = h.val; omega

theorem canon_at {s : Shape} {e : EltTy} (R : Rect s) (w : R.shape.Idx → Elt Ideal e) (L : List (View.Piece (Elt Ideal) s e)) (x : R.shape.Idx) (y : s.Idx)
    (hy : R.emb x = y) : View.canon (⟨R, w⟩ :: L) y = w x := by
  subst hy
  exact View.canon_cons_emb R w L x

theorem canon_skip {s : Shape} {e : EltTy} (R : Rect s) (w : R.shape.Idx → Elt Ideal e) (L : List (View.Piece (Elt Ideal) s e)) (y : s.Idx)
    (hy : y ∉ R.set) : View.canon (⟨R, w⟩ :: L) y = View.canon L y := View.canon_cons_of_not_mem _ L hy

theorem mem1 (r : Fin 2048) (h : Fin 128) :
    ix3 (0 : Fin 2) r h ∉ (Rect.unit (s := S2x2048x128) ![1, 0, 0] ![1, 2048, 128] inb_S2x2048x128_S1x2048x128_1_0_0).set := fun hm => by
  have h0 : 1 ≤ 0 := (Rect.mem_set_unit.mp hm (0 : Fin 3)).1
  omega

theorem mem0 (r : Fin 2048) (h : Fin 128) :
    ix3 (1 : Fin 2) r h ∉ (Rect.unit (s := S2x2048x128) ![0, 0, 0] ![1, 2048, 128] inb_S2x2048x128_S1x2048x128_0_0_0).set := fun hm => by
  have h0 : 1 < 0 + 1 := (Rect.mem_set_unit.mp hm (0 : Fin 3)).2
  omega

theorem embZ (kv : Fin 2) (r : Fin 2048) (h : Fin 128) :
    (Rect.unit (s := S2x2048x128) ![0, 0, 0] ![2, 2048, 128] inb_S2x2048x128_S2x2048x128_0_0_0).emb (ix3 kv r h) = ix3 kv r h := by
  funext a
  refine Fin.ext ?_
  match a with
  | ⟨0, _⟩ => show 0 + 1 * kv.val = kv.val; omega
  | ⟨1, _⟩ => show 0 + 1 * r.val = r.val; omega
  | ⟨2, _⟩ => show 0 + 1 * h.val = h.val; omega

theorem pay18_apply (kv : Fin 2) (r : Fin 2048) (h : Fin 128) : (k0_pay18 (F := Ideal)) (ix3 kv r h) = 0 := by
  pointwise [k0_pay18]

theorem pay19_apply (kv : Fin 2) (r : Fin 2048) (h : Fin 128) : (k0_pay19 (F := Ideal)) (ix3 kv r h) = 0 := by
  pointwise [k0_pay19]

/-- What a point adds to an entry of a carried sum: the products of row `o` of the block. -/
def term (x0 : Vec Ideal S1x512x1536 .f32) (x1 x2 : Vec Ideal S32x128 .f32) (x3 x4 : Vec Ideal S32x128x128 .bf16) (o : ℕ) (ho : o < 32) (kv : Fin 2) (r : Fin 2048) (h : Fin 128) : EReal :=
  ∑ d : Fin 128, (x0 (ix3 (n0 := 1) (n1 := 512) (n2 := 1536) 0 ⟨r.val % 512, Nat.mod_lt _ (by decide)⟩ ⟨(512 * kv.val + 128 * (r.val / 512) + d.val) % 1536, Nat.mod_lt _ (by decide)⟩)
    + (if kv.val = 0 then x1 else x2) (ix2 ⟨o, ho⟩ d)) * (if kv.val = 0 then x3 else x4) (ix3 ⟨o, ho⟩ d h)

theorem dotp_term0 (x0 : Vec Ideal S1x512x1536 .f32) (x1 x2 : Vec Ideal S32x128 .f32) (x3 x4 : Vec Ideal S32x128x128 .bf16) (o : ℕ) (ho : o < 32) (p : Vec Ideal S1x128 .f32) (w : Vec Ideal S1x128x128 .bf16)
    (hp : ∀ d : Fin 128, p (ix2 0 d) = x1 (ix2 ⟨o, ho⟩ d)) (hw : ∀ d e : Fin 128, w (ix3 0 d e) = x3 (ix3 ⟨o, ho⟩ d e)) (r : Fin 2048) (h : Fin 128) :
    dotp x0 p w 0 r h = term x0 x1 x2 x3 x4 o ho 0 r h := by
  unfold dotp term
  simp only [hp, hw]
  rfl

theorem dotp_term1 (x0 : Vec Ideal S1x512x1536 .f32) (x1 x2 : Vec Ideal S32x128 .f32) (x3 x4 : Vec Ideal S32x128x128 .bf16) (o : ℕ) (ho : o < 32) (p : Vec Ideal S1x128 .f32) (w : Vec Ideal S1x128x128 .bf16)
    (hp : ∀ d : Fin 128, p (ix2 0 d) = x2 (ix2 ⟨o, ho⟩ d)) (hw : ∀ d e : Fin 128, w (ix3 0 d e) = x4 (ix3 ⟨o, ho⟩ d e)) (r : Fin 2048) (h : Fin 128) :
    dotp x0 p w 512 r h = term x0 x1 x2 x3 x4 o ho 1 r h := by
  unfold dotp term
  simp only [hp, hw]
  rfl

theorem idxL (kv o : ℕ) (inb : ∀ a, (![kv, o, 0] : Fin 3 → ℕ) a + (![1, 512, 128] : Fin 3 → ℕ) a ≤ S2x2048x128.size a) (n : Fin 512) (h : Fin 128)
    (kvf : Fin 2) (p : Fin 2048) (hk : kvf.val = kv) (hp : p.val = o + n.val) :
    (Rect.unit (s := S2x2048x128) ![kv, o, 0] ![1, 512, 128] inb).idx (ix3 0 n h) = ix3 kvf p h := by
  funext a
  refine Fin.ext ?_
  match a with
  | ⟨0, _⟩ => show kv + 1 * 0 = kvf.val; omega
  | ⟨1, _⟩ => show o + 1 * n.val = p.val; omega
  | ⟨2, _⟩ => show 0 + 1 * h.val = h.val; omega

theorem xeq (n : Fin 512) (d : Fin 128) (x : S1x1x512x128.Idx) (h2 : n.val = (x 2).val) (h3 : d.val = (x 3).val) : x = ix4 0 0 n d := by
  have h0 : (x 0).val < 1 := (x 0).isLt
  have h1 : (x 1).val < 1 := (x 1).isLt
  funext a
  refine Fin.ext ?_
  match a with
  | ⟨0, _⟩ => show (x 0).val = 0; omega
  | ⟨1, _⟩ => show (x 1).val = 0; omega
  | ⟨2, _⟩ => exact h2.symm
  | ⟨3, _⟩ => exact h3.symm

theorem outp_congr {a a' b b' : Vec Ideal S1x512x128 .f32} {w : Vec Ideal S128x128 .bf16} {n : Fin 512} {d : Fin 128}
    (ha : ∀ (n : Fin 512) (h : Fin 128), a (ix3 0 n h) = a' (ix3 0 n h)) (hb : ∀ (n : Fin 512) (h : Fin 128), b (ix3 0 n h) = b' (ix3 0 n h)) :
    outp a b w n d = outp a' b' w n d := by
  unfold outp
  simp only [ha, hb]

variable (c : Dev nD) (i : grid0.Coords)
  (arg2 : Memref sig .tc .vmem S1x512x1536 .f32) (harg2 : arg2.IsWhole)
  (arg3 : Memref sig .tc .vmem S32x128 .f32) (harg3 : arg3.IsWhole)
  (arg4 : Memref sig .tc .vmem S32x128 .f32) (harg4 : arg4.IsWhole)
  (arg5 : Memref sig .tc .vmem S32x128x128 .bf16) (harg5 : arg5.IsWhole)
  (arg6 : Memref sig .tc .vmem S32x128x128 .bf16) (harg6 : arg6.IsWhole)
  (arg7 : Memref sig .tc .vmem S128x128 .bf16) (harg7 : arg7.IsWhole)
  (arg8 : Memref sig .tc .vmem S128x128 .bf16) (harg8 : arg8.IsWhole)
  (arg9 : Memref sig .tc .vmem S1x4x512x128 .bf16) (harg9 : arg9.IsWhole)
  (arg10 : Memref sig .tc .vmem S1x4x512x128 .bf16) (harg10 : arg10.IsWhole)
  (arg11 : Memref sig .tc .vmem S2x2048x128 .f32) (harg11 : arg11.IsWhole)
  (arg12 : Memref sig .tc .vmem S2x2048x128 .f32) (harg12 : arg12.IsWhole)
  (x0 : Vec Ideal S1x512x1536 .f32) (x1 : Vec Ideal S32x128 .f32) (x2 : Vec Ideal S32x128 .f32) (x3 : Vec Ideal S32x128x128 .bf16) (x4 : Vec Ideal S32x128x128 .bf16) (x5 : Vec Ideal S128x128 .bf16) (x6 : Vec Ideal S128x128 .bf16) (xs0 xs1 : Vec Ideal S2x2048x128 .f32)

theorem sB0 (hc0 : ¬cond0_0 i) (hc1 : ¬cond0_1 i) (kv : Fin 2) (r : Fin 2048) (h : Fin 128) :
    sout0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 (ix3 kv r h)
      = xs0 (ix3 kv r h) + term x0 x1 x2 x3 x4 ((i 1).val) (by have := (i 1).isLt; change _ < 16 at this; omega) kv r h := by
  have hi : (i 1).val < 16 := (i 1).isLt
  frame_out
  obtain ⟨kv, hkv⟩ := kv
  interval_cases kv
  · refine (canon_skip _ _ _ _ (mem1 r h)).trans ((canon_at _ _ _ _ _ (emb0 r h)).trans ?_)
    refine (pay22_apply _ _ _ _ r h).trans ?_
    refine congrArg₂ (· + ·) ?_ (dotp_term0 x0 x1 x2 x3 x4 ((i 1).val) (by omega) _ _ (fun d => ldp _ _ _ _ (off1 i) (by omega) d) (fun d e => ldw _ _ _ _ (off2 i) (by omega) d e) r h)
    skip
    pointwise

  · refine (canon_at _ _ _ _ _ (emb1 r h)).trans ?_
    refine (pay27_apply _ _ _ _ r h).trans ?_
    refine congrArg₂ (· + ·) ?_ (dotp_term1 x0 x1 x2 x3 x4 ((i 1).val) (by omega) _ _ (fun d => ldp _ _ _ _ (off1 i) (by omega) d) (fun d e => ldw _ _ _ _ (off2 i) (by omega) d e) r h)
    skip
    pointwise

theorem sB1 (hc0 : ¬cond0_0 i) (hc1 : ¬cond0_1 i) (kv : Fin 2) (r : Fin 2048) (h : Fin 128) :
    sout0_B_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 (ix3 kv r h)
      = xs1 (ix3 kv r h) + term x0 x1 x2 x3 x4 (16 + (i 1).val) (by have := (i 1).isLt; change _ < 16 at this; omega) kv r h := by
  have hi : (i 1).val < 16 := (i 1).isLt
  frame_out
  obtain ⟨kv, hkv⟩ := kv
  interval_cases kv
  · refine (canon_skip _ _ _ _ (mem1 r h)).trans ((canon_at _ _ _ _ _ (emb0 r h)).trans ?_)
    refine (pay25_apply _ _ _ _ r h).trans ?_
    refine congrArg₂ (· + ·) ?_ (dotp_term0 x0 x1 x2 x3 x4 (16 + (i 1).val) (by omega) _ _ (fun d => ldp _ _ _ _ (off3 i) (by omega) d) (fun d e => ldw _ _ _ _ (off4 i) (by omega) d e) r h)
    skip
    pointwise

  · refine (canon_at _ _ _ _ _ (emb1 r h)).trans ?_
    refine (pay1_apply _ _ _ _ r h).trans ?_
    refine congrArg₂ (· + ·) ?_ (dotp_term1 x0 x1 x2 x3 x4 (16 + (i 1).val) (by omega) _ _ (fun d => ldp _ _ _ _ (off3 i) (by omega) d) (fun d e => ldw _ _ _ _ (off4 i) (by omega) d e) r h)
    skip
    pointwise

theorem sC0 (hc0 : ¬cond0_0 i) (hc1 : cond0_1 i) (kv : Fin 2) (r : Fin 2048) (h : Fin 128) :
    sout0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 (ix3 kv r h)
      = xs0 (ix3 kv r h) + term x0 x1 x2 x3 x4 ((i 1).val) (by have := (i 1).isLt; change _ < 16 at this; omega) kv r h := by
  have hi : (i 1).val < 16 := (i 1).isLt
  frame_out
  obtain ⟨kv, hkv⟩ := kv
  interval_cases kv
  · refine (canon_skip _ _ _ _ (mem1 r h)).trans ((canon_at _ _ _ _ _ (emb0 r h)).trans ?_)
    refine (pay22_apply _ _ _ _ r h).trans ?_
    refine congrArg₂ (· + ·) ?_ (dotp_term0 x0 x1 x2 x3 x4 ((i 1).val) (by omega) _ _ (fun d => ldp _ _ _ _ (off1 i) (by omega) d) (fun d e => ldw _ _ _ _ (off2 i) (by omega) d e) r h)
    skip
    pointwise

  · refine (canon_at _ _ _ _ _ (emb1 r h)).trans ?_
    refine (pay27_apply _ _ _ _ r h).trans ?_
    refine congrArg₂ (· + ·) ?_ (dotp_term1 x0 x1 x2 x3 x4 ((i 1).val) (by omega) _ _ (fun d => ldp _ _ _ _ (off1 i) (by omega) d) (fun d e => ldw _ _ _ _ (off2 i) (by omega) d e) r h)
    skip
    pointwise

theorem sC1 (hc0 : ¬cond0_0 i) (hc1 : cond0_1 i) (kv : Fin 2) (r : Fin 2048) (h : Fin 128) :
    sout0_C_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 (ix3 kv r h)
      = xs1 (ix3 kv r h) + term x0 x1 x2 x3 x4 (16 + (i 1).val) (by have := (i 1).isLt; change _ < 16 at this; omega) kv r h := by
  have hi : (i 1).val < 16 := (i 1).isLt
  frame_out
  obtain ⟨kv, hkv⟩ := kv
  interval_cases kv
  · refine (canon_skip _ _ _ _ (mem1 r h)).trans ((canon_at _ _ _ _ _ (emb0 r h)).trans ?_)
    refine (pay25_apply _ _ _ _ r h).trans ?_
    refine congrArg₂ (· + ·) ?_ (dotp_term0 x0 x1 x2 x3 x4 (16 + (i 1).val) (by omega) _ _ (fun d => ldp _ _ _ _ (off3 i) (by omega) d) (fun d e => ldw _ _ _ _ (off4 i) (by omega) d e) r h)
    skip
    pointwise

  · refine (canon_at _ _ _ _ _ (emb1 r h)).trans ?_
    refine (pay1_apply _ _ _ _ r h).trans ?_
    refine congrArg₂ (· + ·) ?_ (dotp_term1 x0 x1 x2 x3 x4 (16 + (i 1).val) (by omega) _ _ (fun d => ldp _ _ _ _ (off3 i) (by omega) d) (fun d e => ldw _ _ _ _ (off4 i) (by omega) d e) r h)
    skip
    pointwise

theorem sA0 (hc0 : cond0_0 i) (hc1 : ¬cond0_1 i) (kv : Fin 2) (r : Fin 2048) (h : Fin 128) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 (ix3 kv r h)
      = term x0 x1 x2 x3 x4 ((i 1).val) (by have := (i 1).isLt; change _ < 16 at this; omega) kv r h := by
  have hi : (i 1).val < 16 := (i 1).isLt
  frame_out
  obtain ⟨kv, hkv⟩ := kv
  interval_cases kv
  · refine (canon_skip _ _ _ _ (mem1 r h)).trans ((canon_at _ _ _ _ _ (emb0 r h)).trans ?_)
    refine (pay22_apply _ _ _ _ r h).trans ?_
    refine (congrArg₂ (· + ·) ?_ (dotp_term0 x0 x1 x2 x3 x4 ((i 1).val) (by omega) _ _ (fun d => ldp _ _ _ _ (off1 i) (by omega) d) (fun d e => ldw _ _ _ _ (off2 i) (by omega) d e) r h)).trans (zero_add _)
    simp only [View.readCov_eq_canon']
    pointwise
    exact (canon_at _ _ _ _ _ (embZ 0 r h)).trans (pay18_apply _ r h)
  · refine (canon_at _ _ _ _ _ (emb1 r h)).trans ?_
    refine (pay27_apply _ _ _ _ r h).trans ?_
    refine (congrArg₂ (· + ·) ?_ (dotp_term1 x0 x1 x2 x3 x4 ((i 1).val) (by omega) _ _ (fun d => ldp _ _ _ _ (off1 i) (by omega) d) (fun d e => ldw _ _ _ _ (off2 i) (by omega) d e) r h)).trans (zero_add _)
    simp only [View.readCov_eq_canon']
    pointwise
    exact (canon_skip _ _ _ _ (mem0 r h)).trans ((canon_at _ _ _ _ _ (embZ 1 r h)).trans (pay18_apply _ r h))

theorem sA1 (hc0 : cond0_0 i) (hc1 : ¬cond0_1 i) (kv : Fin 2) (r : Fin 2048) (h : Fin 128) :
    sout0_A_1 c i arg2 harg2 arg3 harg3 arg4 harg4 arg5 harg5 arg6 harg6 arg7 harg7 arg8 harg8 arg9 harg9 arg10 harg10 arg11 harg11 arg12 harg12 hc0 hc1 x0 x1 x2 x3 x4 x5 x6 (ix3 kv r h)
      = term x0 x1 x2 x3 x4 (16 + (i 1).val) (by have := (i 1).isLt; change _ < 16 at this; omega) kv r h := by
  have hi : (i 1).val < 16 := (i 1).isLt
  frame_out
  obtain ⟨kv, hkv⟩ := kv
  interval_cases kv
  · refine (canon_skip _ _ _ _ (mem1 r h)).trans ((canon_at _ _ _ _ _ (emb0 r h)).trans ?_)
    refine (pay25_apply _ _ _ _ r h).trans ?_
    refine (congrArg₂ (· + ·) ?_ (dotp_term0 x0 x1 x2 x3 x4 (16 + (i 1).val) (by omega) _ _ (fun d => ldp _ _ _ _ (off3 i) (by omega) d) (fun d e => ldw _ _ _ _ (off4 i) (by omega) d e) r h)).trans (zero_add _)
    simp only [View.readCov_eq_canon']
    pointwise
    exact (canon_at _ _ _ _ _ (embZ 0 r h)).trans (pay19_apply _ r h)
  · refine (canon_at _ _ _ _ _ (emb1 r h)).trans ?_
    refine (pay1_apply _ _ _ _ r h).trans ?_
    refine (congrArg₂ (· + ·) ?_ (dotp_term1 x0 x1 x2 x3 x4 (16 + (i 1).val) (by omega) _ _ (fun d => ldp _ _ _ _ (off3 i) (by omega) d) (fun d e => ldw _ _ _ _ (off4 i) (by omega) d e) r h)).trans (zero_add _)
    simp only [View.readCov_eq_canon']
    pointwise
    exact (canon_skip _ _ _ _ (mem0 r h)).trans ((canon_at _ _ _ _ _ (embZ 1 r h)).trans (pay19_apply _ r h))

theorem oC7 (hc0 : ¬cond0_0 i) (hc1 : cond0_1 i) (g : Fin 4) (n : Fin 512) (d : Fin 128) :
    out0_C_7 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 (ix4 0 g n d)
      = outp (fun y => sout0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 (ix3 0 ⟨512 * g.val + (y 1).val, by have := (y 1).isLt; change _ < 512 at this; omega⟩ (y 2)))
          (fun y => sout0_C_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 (ix3 0 ⟨512 * g.val + (y 1).val, by have := (y 1).isLt; change _ < 512 at this; omega⟩ (y 2))) x5 n d := by
  obtain ⟨S0, e0⟩ : ∃ S, sout0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = S := ⟨_, rfl⟩
  obtain ⟨S1, e1⟩ : ∃ S, sout0_C_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = S := ⟨_, rfl⟩
  rw [e0, e1]
  frame_out at e0
  frame_out at e1
  frame_out
  simp only [View.readCov_eq_canon', e0, e1]
  canon_tiles x hx
  · have hxe := xeq n d x hx2 hx3
    have hg : g = 3 := Fin.ext (by change g.val = _ at hx1; change g.val = 3; omega)
    subst hxe hg
    exact (k3_apply _ _ _ n d).trans (outp_congr (fun n h => congrArg S0 (idxL _ _ _ n h 0 _ rfl rfl)) (fun n h => congrArg S1 (idxL _ _ _ n h 0 _ rfl rfl)))
  · have hxe := xeq n d x hx2 hx3
    have hg : g = 2 := Fin.ext (by change g.val = _ at hx1; change g.val = 2; omega)
    subst hxe hg
    exact (k2_apply _ _ _ n d).trans (outp_congr (fun n h => congrArg S0 (idxL _ _ _ n h 0 _ rfl rfl)) (fun n h => congrArg S1 (idxL _ _ _ n h 0 _ rfl rfl)))
  · have hxe := xeq n d x hx2 hx3
    have hg : g = 1 := Fin.ext (by change g.val = _ at hx1; change g.val = 1; omega)
    subst hxe hg
    exact (k1_apply _ _ _ n d).trans (outp_congr (fun n h => congrArg S0 (idxL _ _ _ n h 0 _ rfl rfl)) (fun n h => congrArg S1 (idxL _ _ _ n h 0 _ rfl rfl)))
  · have hxe := xeq n d x hx2 hx3
    have hg : g = 0 := Fin.ext (by change g.val = _ at hx1; change g.val = 0; omega)
    subst hxe hg
    exact (k0_apply _ _ _ n d).trans (outp_congr (fun n h => congrArg S0 (idxL _ _ _ n h 0 _ rfl rfl)) (fun n h => congrArg S1 (idxL _ _ _ n h 0 _ rfl rfl)))
theorem oC8 (hc0 : ¬cond0_0 i) (hc1 : cond0_1 i) (g : Fin 4) (n : Fin 512) (d : Fin 128) :
    out0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 (ix4 0 g n d)
      = outp (fun y => sout0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 (ix3 1 ⟨512 * g.val + (y 1).val, by have := (y 1).isLt; change _ < 512 at this; omega⟩ (y 2)))
          (fun y => sout0_C_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 (ix3 1 ⟨512 * g.val + (y 1).val, by have := (y 1).isLt; change _ < 512 at this; omega⟩ (y 2))) x6 n d := by
  obtain ⟨S0, e0⟩ : ∃ S, sout0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = S := ⟨_, rfl⟩
  obtain ⟨S1, e1⟩ : ∃ S, sout0_C_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = S := ⟨_, rfl⟩
  rw [e0, e1]
  frame_out at e0
  frame_out at e1
  frame_out
  simp only [View.readCov_eq_canon', e0, e1]
  canon_tiles x hx
  · have hxe := xeq n d x hx2 hx3
    have hg : g = 3 := Fin.ext (by change g.val = _ at hx1; change g.val = 3; omega)
    subst hxe hg
    exact (v3_apply _ _ _ n d).trans (outp_congr (fun n h => congrArg S0 (idxL _ _ _ n h 1 _ rfl rfl)) (fun n h => congrArg S1 (idxL _ _ _ n h 1 _ rfl rfl)))
  · have hxe := xeq n d x hx2 hx3
    have hg : g = 2 := Fin.ext (by change g.val = _ at hx1; change g.val = 2; omega)
    subst hxe hg
    exact (v2_apply _ _ _ n d).trans (outp_congr (fun n h => congrArg S0 (idxL _ _ _ n h 1 _ rfl rfl)) (fun n h => congrArg S1 (idxL _ _ _ n h 1 _ rfl rfl)))
  · have hxe := xeq n d x hx2 hx3
    have hg : g = 1 := Fin.ext (by change g.val = _ at hx1; change g.val = 1; omega)
    subst hxe hg
    exact (v1_apply _ _ _ n d).trans (outp_congr (fun n h => congrArg S0 (idxL _ _ _ n h 1 _ rfl rfl)) (fun n h => congrArg S1 (idxL _ _ _ n h 1 _ rfl rfl)))
  · have hxe := xeq n d x hx2 hx3
    have hg : g = 0 := Fin.ext (by change g.val = _ at hx1; change g.val = 0; omega)
    subst hxe hg
    exact (v0_apply _ _ _ n d).trans (outp_congr (fun n h => congrArg S0 (idxL _ _ _ n h 1 _ rfl rfl)) (fun n h => congrArg S1 (idxL _ _ _ n h 1 _ rfl rfl)))
end Cert.CmpIdeal.Val

end
-- ==== Proof.CmpValue.lean ====
module

public import proofs.«01_k».proof.Proof.CmpStep
public import proofs.«01_k».proof.Proof.Gen.CmpIdeal.Value

/-! The two results of the compression, entry by entry, from the launch's arguments. -/

@[expose] public section

set_option maxRecDepth 16384

noncomputable section

open Idealize.ShloMosaic Idealize.ShloMosaic.TcCoe Idealize.SL.Sem
open Idealize.ShloMosaic.Pipeline (Dat)

namespace Cert.CmpIdeal.Val

open Cert.CmpIdeal Cert.CmpIdeal.Gen

theorem idx (t : Fin cfg0.N) : win0_0.index t = ![(grid0.coords t 0).val, 0, (grid0.coords t 1).val] ∧ win0_1.index t = ![0, 0] ∧ win0_2.index t = ![0, 0]
    ∧ win0_3.index t = ![0, 0, 0] ∧ win0_4.index t = ![0, 0, 0] ∧ win0_5.index t = ![0, 0] ∧ win0_6.index t = ![0, 0]
    ∧ win0_7.index t = ![(grid0.coords t 0).val, 0, 0, 0] ∧ win0_8.index t = ![(grid0.coords t 0).val, 0, 0, 0] := by
  revert t
  decide +kernel

theorem coords (t : Fin cfg0.N) : (grid0.coords t 0).val = t.val / 16 ∧ (grid0.coords t 1).val = t.val % 16 := by
  revert t
  decide +kernel

theorem covers7 : (cfg0.win 7).Covers := by decide +kernel
theorem covers8 : (cfg0.win 8).Covers := by decide +kernel

/-- The products of one position's row of 128 columns with the slab of the first layer's weights for place `l` of a block. -/
def part (x : FVec Ideal S2x8192x1536 .f32) (p : FVec Ideal S32x128 .f32) (w : FVec Ideal S4096x128 .f32) (kv g b pos l : ℕ) (h : Fin 128) : EReal :=
  ∑ d : Fin 128, (x (ix3 (n0 := 2) (n1 := 8192) (n2 := 1536) ⟨b % 2, Nat.mod_lt _ (by decide)⟩ ⟨pos % 8192, Nat.mod_lt _ (by decide)⟩ ⟨(512 * kv + 128 * g + d.val) % 1536, Nat.mod_lt _ (by decide)⟩)
    + p (ix2 (n0 := 32) ⟨l % 32, Nat.mod_lt _ (by decide)⟩ d)) * w (ix2 (n0 := 4096) ⟨(128 * l + d.val) % 4096, Nat.mod_lt _ (by decide)⟩ h)

variable (m : (ℓ : Loc nD τ sig) → Buf (Elt Ideal) ℓ)

theorem rows_apply (x : FVec Ideal S2x8192x1536 .f32) (b : Fin 2) (n : Fin 512) (l : Fin 16) (e : Fin 1536) :
    (shapeCast _ x shapeCasts_S2x8192x1536_S2x512x24576 : FVec Ideal S2x512x24576 .f32) (ix3 (n0 := 2) (n1 := 512) (n2 := 24576) b n ⟨1536 * l.val + e.val, by omega⟩)
      = x (ix3 (n0 := 2) (n1 := 8192) (n2 := 1536) b ⟨(16 * n.val + l.val) % 8192, Nat.mod_lt _ (by decide)⟩ e) := by
  refine shapeCast_apply x _ _ _ ?_
  have hp : (16 * n.val + l.val) % 8192 = 16 * n.val + l.val := Nat.mod_eq_of_lt (by omega)
  simp only [hp]
  rw [rowMajor_val3 _ 12582912 1536 rfl rfl, rowMajor_val3 _ 12582912 24576 rfl rfl]
  show b.val * 12582912 + (16 * n.val + l.val) * 1536 + e.val = b.val * 12582912 + n.val * 24576 + (1536 * l.val + e.val)
  omega

/-- The first layer's weights, one slab per place of a block. -/
def slabs (w : FVec Ideal S4096x128 .f32) : FVec Ideal S32x128x128 .bf16 :=
  (shapeCast _ (truncf .bf16 w bitsLt_bf16_f32) shapeCasts_S4096x128_S32x128x128 : FVec Ideal S32x128x128 .bf16)

theorem slabs_apply (w : FVec Ideal S4096x128 .f32) (l : Fin 32) (d h : Fin 128) :
    slabs w (ix3 l d h) = w (ix2 (n0 := 4096) (n1 := 128) ⟨(128 * l.val + d.val) % 4096, Nat.mod_lt _ (by decide)⟩ h) := by
  have e : (128 * l.val + d.val) % 4096 = 128 * l.val + d.val := Nat.mod_eq_of_lt (by omega)
  unfold slabs
  simp only [e]
  pointwise
  exact congrArg (fun q => w (ix2 q h)) (Fin.ext (by show l.val * 128 + d.val = 128 * l.val + d.val; omega))

theorem blk0 (c : Dev nD) (t : Fin cfg0.N) (n : Fin 512) (e : Fin 1536) :
    iblk m c 0 t (ix3 (0 : Fin 1) n e) = m ((c : Thread nD τ).loc main_arg0) (ix3 (n0 := 2) (n1 := 8192) (n2 := 1536)
      ⟨(grid0.coords t 0).val % 2, Nat.mod_lt _ (by decide)⟩ ⟨(16 * n.val + (grid0.coords t 1).val) % 8192, Nat.mod_lt _ (by decide)⟩ e) := by
  have h0 : (grid0.coords t 0).val < 2 := (grid0.coords t 0).isLt
  have h1 : (grid0.coords t 1).val < 16 := (grid0.coords t 1).isLt
  have hm : (grid0.coords t 0).val % 2 = (grid0.coords t 0).val := Nat.mod_eq_of_lt h0
  simp only [hm]
  rw [← rows_apply (m ((c : Thread nD τ).loc main_arg0)) ⟨(grid0.coords t 0).val, h0⟩ n ⟨(grid0.coords t 1).val, h1⟩ e]
  blk_ext! [iblk, (idx t).1]

theorem blk1 (c : Dev nD) (t : Fin cfg0.N) (l : Fin 32) (d : Fin 128) :
    iblk m c 1 t (ix2 l d) = m ((c : Thread nD τ).loc main_arg1) (ix2 l d) := by
  blk_ext! [iblk, (idx t).2.1]

theorem blk2 (c : Dev nD) (t : Fin cfg0.N) (l : Fin 32) (d : Fin 128) :
    iblk m c 2 t (ix2 l d) = m ((c : Thread nD τ).loc main_arg2) (ix2 l d) := by
  blk_ext! [iblk, (idx t).2.2.1]

theorem blk3 (c : Dev nD) (t : Fin cfg0.N) (l : Fin 32) (d h : Fin 128) :
    iblk m c 3 t (ix3 l d h) = m ((c : Thread nD τ).loc main_arg3) (ix2 (n0 := 4096) (n1 := 128) ⟨(128 * l.val + d.val) % 4096, Nat.mod_lt _ (by decide)⟩ h) := by
  rw [← slabs_apply (m ((c : Thread nD τ).loc main_arg3)) l d h]
  unfold slabs
  blk_ext! [iblk, (idx t).2.2.2.1]

theorem blk4 (c : Dev nD) (t : Fin cfg0.N) (l : Fin 32) (d h : Fin 128) :
    iblk m c 4 t (ix3 l d h) = m ((c : Thread nD τ).loc main_arg4) (ix2 (n0 := 4096) (n1 := 128) ⟨(128 * l.val + d.val) % 4096, Nat.mod_lt _ (by decide)⟩ h) := by
  rw [← slabs_apply (m ((c : Thread nD τ).loc main_arg4)) l d h]
  unfold slabs
  blk_ext! [iblk, (idx t).2.2.2.2.1]

theorem blk5 (c : Dev nD) (t : Fin cfg0.N) (h d : Fin 128) :
    iblk m c 5 t (ix2 h d) = m ((c : Thread nD τ).loc main_arg5) (ix2 h d) := by
  blk_ext! [iblk, (idx t).2.2.2.2.2.1]

theorem blk6 (c : Dev nD) (t : Fin cfg0.N) (h d : Fin 128) :
    iblk m c 6 t (ix2 h d) = m ((c : Thread nD τ).loc main_arg6) (ix2 h d) := by
  blk_ext! [iblk, (idx t).2.2.2.2.2.2.1]

/-- An argument that differs between the keys (`0`) and the values (`1`). -/
abbrev pick {α : Type} (kv : Fin 2) (a b : α) : α := if kv.val = 0 then a else b

theorem term_eq (c : Dev nD) (t : Fin cfg0.N) (o : ℕ) (ho : o < 32) (kv : Fin 2) (r : Fin 2048) (h : Fin 128) :
    term (iblk m c 0 t) (iblk m c 1 t) (iblk m c 2 t) (iblk m c 3 t) (iblk m c 4 t) o ho kv r h
      = part (m ((c : Thread nD τ).loc main_arg0)) (pick kv (m ((c : Thread nD τ).loc main_arg1)) (m ((c : Thread nD τ).loc main_arg2)))
          (pick kv (m ((c : Thread nD τ).loc main_arg3)) (m ((c : Thread nD τ).loc main_arg4)))
          kv.val (r.val / 512) (t.val / 16) (16 * (r.val % 512) + t.val % 16) o h := by
  unfold term part pick
  refine Finset.sum_congr rfl fun d _ => ?_
  have ho' : o % 32 = o := Nat.mod_eq_of_lt ho
  rw [blk0, (coords t).1, (coords t).2]
  simp only [ho']
  by_cases hk : kv.val = 0
  · simp only [hk, if_true, blk1, blk3]
  · simp only [hk, if_false, blk2, blk4]

/-- The two carried sums after a point. -/
theorem sums (c : Dev nD) (n : ℕ) : ∀ (hn : n < cfg0.N) (kv : Fin 2) (r : Fin 2048) (h : Fin 128),
    (outsAt0 m c n hn).2.2.1 (ix3 kv r h)
      = ∑ j ∈ Finset.range (n % 16 + 1), part (m ((c : Thread nD τ).loc main_arg0)) (pick kv (m ((c : Thread nD τ).loc main_arg1)) (m ((c : Thread nD τ).loc main_arg2)))
          (pick kv (m ((c : Thread nD τ).loc main_arg3)) (m ((c : Thread nD τ).loc main_arg4))) kv.val (r.val / 512) (n / 16) (16 * (r.val % 512) + j) j h
    ∧ (outsAt0 m c n hn).2.2.2 (ix3 kv r h)
      = ∑ j ∈ Finset.range (n % 16 + 1), part (m ((c : Thread nD τ).loc main_arg0)) (pick kv (m ((c : Thread nD τ).loc main_arg1)) (m ((c : Thread nD τ).loc main_arg2)))
          (pick kv (m ((c : Thread nD τ).loc main_arg3)) (m ((c : Thread nD τ).loc main_arg4))) kv.val (r.val / 512) (n / 16) (16 * (r.val % 512) + j) (16 + j) h := by
  induction n with
  | zero =>
    intro hn kv r h
    rw [outsAt0_A m c ⟨0, hn⟩ rfl (by show ¬ 0 % 16 = 15; decide)]
    dsimp only
    rw [sA0, sA1, term_eq, term_eq]
    simp only [(coords ⟨0, hn⟩).2]
    simp
  | succ n ih =>
    intro hn kv r h
    have hn' : n < cfg0.N := Nat.lt_of_succ_lt hn
    by_cases h0 : (n + 1) % 16 = 0
    · rw [outsAt0_A m c ⟨n + 1, hn⟩ h0 (by show ¬ (n + 1) % 16 = 15; omega)]
      dsimp only
      rw [sA0, sA1, term_eq, term_eq]
      simp only [(coords ⟨n + 1, hn⟩).2, h0]
      simp
    · have hm : (n + 1) % 16 = n % 16 + 1 := by omega
      have hd : (n + 1) / 16 = n / 16 := by omega
      have hs := ih hn' kv r h
      by_cases h1 : (n + 1) % 16 = 15
      · rw [outsAt0_C m c ⟨n + 1, hn⟩ h0 h1]
        dsimp only
        rw [sC0, sC1, term_eq, term_eq]
        simp only [(coords ⟨n + 1, hn⟩).2, hm, hd, Nat.add_sub_cancel]
        rw [Finset.sum_range_succ _ (n % 16 + 1), Finset.sum_range_succ _ (n % 16 + 1)]
        exact ⟨congrArg (· + _) hs.1, congrArg (· + _) hs.2⟩
      · rw [outsAt0_B m c ⟨n + 1, hn⟩ h0 h1]
        dsimp only
        rw [sB0, sB1, term_eq, term_eq]
        simp only [(coords ⟨n + 1, hn⟩).2, hm, hd, Nat.add_sub_cancel]
        rw [Finset.sum_range_succ _ (n % 16 + 1), Finset.sum_range_succ _ (n % 16 + 1)]
        exact ⟨congrArg (· + _) hs.1, congrArg (· + _) hs.2⟩

/-- A result's entry. -/
def entry (x : FVec Ideal S2x8192x1536 .f32) (p : FVec Ideal S32x128 .f32) (w : FVec Ideal S4096x128 .f32) (w2 : FVec Ideal S128x128 .f32) (kv b g n d : ℕ) : EReal :=
  if n = 511 then 0 else ∑ h : Fin 128, gl ((∑ j ∈ Finset.range 16, part x p w kv g b (16 * n + j) j h)
    + ∑ j ∈ Finset.range 16, part x p w kv g b (16 * ((n + 1) % 512) + j) (16 + j) h) * w2 (ix2 h ⟨d % 128, Nat.mod_lt _ (by decide)⟩)

theorem outp_eq (a b : Vec Ideal S1x512x128 .f32) (w : Vec Ideal S128x128 .bf16) (n : Fin 512) (d : Fin 128) (A B W : Fin 128 → EReal)
    (ha : ∀ h : Fin 128, a (ix3 0 n h) = A h) (hb : ∀ h : Fin 128, b (ix3 (n0 := 1) (n1 := 512) (n2 := 128) 0 ⟨(n.val + 1) % 512, Nat.mod_lt _ (by decide)⟩ h) = B h) (hw : ∀ h : Fin 128, w (ix2 h d) = W h) :
    outp a b w n d = if n.val = 511 then 0 else ∑ h : Fin 128, gl (A h + B h) * W h := by
  unfold outp
  simp only [ha, hb, hw]

theorem arr7 (c : Dev nD) : (dats m 0 c).arrAt 7 cfg0.N = fun y : S2x4x512x128.Idx =>
    entry (m ((c : Thread nD τ).loc main_arg0)) (m ((c : Thread nD τ).loc main_arg1)) (m ((c : Thread nD τ).loc main_arg3)) (m ((c : Thread nD τ).loc main_arg5)) 0 (y 0).val (y 1).val (y 2).val (y 3).val := by
  refine (dats m 0 c).arrAt_eq_of_covers 7 _ covers7 fun t hf (y : Shape.Idx S1x4x512x128) => ?_
  have h15 : t.val % 16 = 15 := (flush0_7 t).mp hf
  have h0 : (grid0.coords t 0).val < 2 := (grid0.coords t 0).isLt
  have hs := sums m c t.val t.isLt
  blk_simp [(idx t).2.2.2.2.2.2.2.1]
  rw [after0_7]
  rw [outsAt0_C m c t (by omega) h15] at hs ⊢
  dsimp only at hs ⊢
  idx_vars y
  obtain rfl : y0 = 0 := Subsingleton.elim _ _
  rw [oC7]
  unfold entry
  have hy (p : Fin 512) : (512 * y1.val + p.val) / 512 = y1.val := by omega
  have hz (p : Fin 512) : (512 * y1.val + p.val) % 512 = p.val := by omega
  refine outp_eq _ _ _ _ _ _ _ _ (fun h => (hs 0 _ _).1.trans ?_) (fun h => (hs 0 _ _).2.trans ?_) (fun h => ?_)
  · rw [h15]
    refine Finset.sum_congr rfl fun j _ => ?_
    show part _ _ _ 0 ((512 * y1.val + y2.val) / 512) (t.val / 16) (16 * ((512 * y1.val + y2.val) % 512) + j) j h = _
    rw [hy, hz, ← (coords t).1]
    rfl
  · rw [h15]
    refine Finset.sum_congr rfl fun j _ => ?_
    show part _ _ _ 0 ((512 * y1.val + (y2.val + 1) % 512) / 512) (t.val / 16) (16 * ((512 * y1.val + (y2.val + 1) % 512) % 512) + j) (16 + j) h = _
    have hy' := hy ⟨(y2.val + 1) % 512, Nat.mod_lt _ (by decide)⟩
    have hz' := hz ⟨(y2.val + 1) % 512, Nat.mod_lt _ (by decide)⟩
    dsimp only at hy' hz'
    rw [hy', hz', ← (coords t).1]
    rfl
  · rw [blk5]
    exact congrArg _ (congrArg (ix2 h) (Fin.ext (Nat.mod_eq_of_lt y3.isLt).symm))

theorem arr8 (c : Dev nD) : (dats m 0 c).arrAt 8 cfg0.N = fun y : S2x4x512x128.Idx =>
    entry (m ((c : Thread nD τ).loc main_arg0)) (m ((c : Thread nD τ).loc main_arg2)) (m ((c : Thread nD τ).loc main_arg4)) (m ((c : Thread nD τ).loc main_arg6)) 1 (y 0).val (y 1).val (y 2).val (y 3).val := by
  refine (dats m 0 c).arrAt_eq_of_covers 8 _ covers8 fun t hf (y : Shape.Idx S1x4x512x128) => ?_
  have h15 : t.val % 16 = 15 := (flush0_8 t).mp hf
  have h0 : (grid0.coords t 0).val < 2 := (grid0.coords t 0).isLt
  have hs := sums m c t.val t.isLt
  blk_simp [(idx t).2.2.2.2.2.2.2.2]
  rw [after0_8]
  rw [outsAt0_C m c t (by omega) h15] at hs ⊢
  dsimp only at hs ⊢
  idx_vars y
  obtain rfl : y0 = 0 := Subsingleton.elim _ _
  rw [oC8]
  unfold entry
  have hy (p : Fin 512) : (512 * y1.val + p.val) / 512 = y1.val := by omega
  have hz (p : Fin 512) : (512 * y1.val + p.val) % 512 = p.val := by omega
  refine outp_eq _ _ _ _ _ _ _ _ (fun h => (hs 1 _ _).1.trans ?_) (fun h => (hs 1 _ _).2.trans ?_) (fun h => ?_)
  · rw [h15]
    refine Finset.sum_congr rfl fun j _ => ?_
    show part _ _ _ 1 ((512 * y1.val + y2.val) / 512) (t.val / 16) (16 * ((512 * y1.val + y2.val) % 512) + j) j h = _
    rw [hy, hz, ← (coords t).1]
    rfl
  · rw [h15]
    refine Finset.sum_congr rfl fun j _ => ?_
    show part _ _ _ 1 ((512 * y1.val + (y2.val + 1) % 512) / 512) (t.val / 16) (16 * ((512 * y1.val + (y2.val + 1) % 512) % 512) + j) (16 + j) h = _
    have hy' := hy ⟨(y2.val + 1) % 512, Nat.mod_lt _ (by decide)⟩
    have hz' := hz ⟨(y2.val + 1) % 512, Nat.mod_lt _ (by decide)⟩
    dsimp only at hy' hz'
    rw [hy', hz', ← (coords t).1]
    rfl
  · rw [blk6]
    exact congrArg _ (congrArg (ix2 h) (Fin.ext (Nat.mod_eq_of_lt y3.isLt).symm))

end Cert.CmpIdeal.Val

end
-- ==== Proof.CmpRef.lean ====
module

public import proofs.«01_k».proof.Proof.CmpValue
public import proofs.«01_k».proof.Proof.Gen.CmpRefIdeal.Run
public import Idealize.ShloMosaic.Lib.Pointwise
public import Idealize.ShloMosaic.Lib.ValueIdxCore
public import Idealize.ShloMosaic.Lib.KernelVsHost

/-! What the reference of the compression computes, entry by entry: block `n` holds positions
`16 n` to `16 n + 31`, each with the row of its place added, laid end to end and sent through two
products with a gelu between them. -/

@[expose] public section

set_option maxRecDepth 16384

noncomputable section

namespace Cert.Proof.CmpRef

open Cert.CmpRefIdeal Cert.CmpRefIdeal.Gen Cert.CmpRefIdeal.Value
open Idealize.ShloMosaic Idealize.ShloMosaic.TcCoe Idealize.SL.Sem

/-! ## Taking the positions of every block -/

/-- The dimension numbers of `x[:, i]` for an array of positions `i`, one per block and place. -/
abbrev rowDims (wf : GatherDims.WF S2x8192x4x128 S511x32x1 S2x511x32x4x128 [0, 3, 4] [1] [] [1] [] 2 ![2, 1, 4, 128]) :
    GatherDims S2x8192x4x128 S511x32x1 S2x511x32x4x128 where
  offsetDims := [0, 3, 4]
  collapsedSliceDims := [1]
  operandBatchingDims := []
  startIndicesBatchingDims := []
  startIndexMap := [1]
  indexVectorDim := 2
  sliceSizes := ![2, 1, 4, 128]
  wf := wf

/-- `x[:, i]` at an index: the row of the place's position, read signed and clamped. -/
theorem row_apply {α : Type}
    (wf : GatherDims.WF S2x8192x4x128 S511x32x1 S2x511x32x4x128 [0, 3, 4] [1] [] [1] [] 2 ![2, 1, 4, 128])
    (x : S2x8192x4x128.Idx → α) (i : IVec S511x32x1 32) (b : Fin 2) (n : Fin 511) (l : Fin 32) (g : Fin 4) (d : Fin 128) :
    Host.gather (rowDims wf) x i (ix5 b n l g d)
      = x (ix4 (n0 := 2) (n1 := 8192) (n2 := 4) (n3 := 128) b ⟨min (i (ix3 n l (0 : Fin 1))).toInt.toNat 8191, by omega⟩ g d) := by
  unfold Host.gather
  congr 1
  funext k
  refine Fin.ext ?_
  show (rowDims wf).start (ix5 b n l g d) i k + (rowDims wf).batchCoord (ix5 b n l g d) k
      + (rowDims wf).offCoord (ix5 b n l g d) k = _
  rw [GatherDims.batchCoord_eq_zero _ _ _ List.not_mem_nil, Nat.add_zero]
  match k with
  | ⟨1, _⟩ =>
    have hk : (1 : Fin 4) ∉ (rowDims wf).sKept := fun h =>
      ((GatherDims.mem_sKept _ _).mp h).1 (List.mem_singleton.mpr rfl)
    show (rowDims wf).start (ix5 b n l g d) i 1 + (rowDims wf).offCoord (ix5 b n l g d) 1 = _
    rw [GatherDims.offCoord_eq_zero _ _ _ hk, Nat.add_zero]
    unfold GatherDims.start
    rw [dif_pos (show (1 : Fin 4) ∈ (rowDims wf).startIndexMap from List.mem_singleton.mpr rfl)]
    have hsi : (rowDims wf).siIdx (ix5 b n l g d) ⟨List.idxOf (1 : Fin 4) (rowDims wf).startIndexMap,
        List.idxOf_lt_length_iff.2 (List.mem_singleton.mpr rfl)⟩ = ix3 n l (0 : Fin 1) := by
      funext j; refine Fin.ext ?_
      match j with
      | ⟨0, _⟩ => rfl
      | ⟨1, _⟩ => rfl
      | ⟨2, _⟩ => rfl
    rw [hsi]
    rfl
  | ⟨0, _⟩ =>
    show (rowDims wf).start (ix5 b n l g d) i 0 + (rowDims wf).offCoord (ix5 b n l g d) 0 = b.val
    unfold GatherDims.start
    rw [dif_neg (by decide : (0 : Fin 4) ∉ ([1] : List (Fin 4))), Nat.zero_add]
    rfl
  | ⟨2, _⟩ =>
    show (rowDims wf).start (ix5 b n l g d) i 2 + (rowDims wf).offCoord (ix5 b n l g d) 2 = g.val
    unfold GatherDims.start
    rw [dif_neg (by decide : (2 : Fin 4) ∉ ([1] : List (Fin 4))), Nat.zero_add]
    rfl
  | ⟨3, _⟩ =>
    show (rowDims wf).start (ix5 b n l g d) i 3 + (rowDims wf).offCoord (ix5 b n l g d) 3 = d.val
    unfold GatherDims.start
    rw [dif_neg (by decide : (3 : Fin 4) ∉ ([1] : List (Fin 4))), Nat.zero_add]
    rfl

/-- The position of every block and place. -/
def idxs : IVec S511x32x1 32 :=
  broadcastInDim S511x32x1 ![0, 1] bcast_S511x32_S511x32x1_0_1 (select (cmpi .slt (addi (broadcastInDim S511x32 ![0, 1] bcast_S511x1_S511x32_0_1 (muli (broadcastInDim S511x1 ![0] bcast_S511_S511x1_0 (iotaInDim S511 32 0)) (broadcastInDim S511x1 ![] bcast_S_S511x1 (constantI S_ 32 16#32)))) (broadcastInDim S511x32 ![0, 1] bcast_S1x32_S511x32_0_1 (broadcastInDim S1x32 ![1] bcast_S32_S1x32_1 (iotaInDim S32 32 0)))) (broadcastInDim S511x32 ![] bcast_S_S511x32 (constantI S_ 32 0#32))) (addi (addi (broadcastInDim S511x32 ![0, 1] bcast_S511x1_S511x32_0_1 (muli (broadcastInDim S511x1 ![0] bcast_S511_S511x1_0 (iotaInDim S511 32 0)) (broadcastInDim S511x1 ![] bcast_S_S511x1 (constantI S_ 32 16#32)))) (broadcastInDim S511x32 ![0, 1] bcast_S1x32_S511x32_0_1 (broadcastInDim S1x32 ![1] bcast_S32_S1x32_1 (iotaInDim S32 32 0)))) (broadcastInDim S511x32 ![] bcast_S_S511x32 (constantI S_ 32 8192#32))) (addi (broadcastInDim S511x32 ![0, 1] bcast_S511x1_S511x32_0_1 (muli (broadcastInDim S511x1 ![0] bcast_S511_S511x1_0 (iotaInDim S511 32 0)) (broadcastInDim S511x1 ![] bcast_S_S511x1 (constantI S_ 32 16#32)))) (broadcastInDim S511x32 ![0, 1] bcast_S1x32_S511x32_0_1 (broadcastInDim S1x32 ![1] bcast_S32_S1x32_1 (iotaInDim S32 32 0)))))

theorem word (n : Fin 511) (l : Fin 32) :
    BitVec.ofNat 32 n.val * 16#32 + BitVec.ofNat 32 l.val = BitVec.ofNat 32 (16 * n.val + l.val) := by
  apply BitVec.eq_of_toNat_eq
  simp only [BitVec.toNat_add, BitVec.toNat_mul, BitVec.toNat_ofNat, Nat.reducePow, Nat.reduceMod]
  omega

theorem word_slt (p : ℕ) (hp : p < 8192) : (BitVec.ofNat 32 p).slt 0#32 = false := by
  rw [BitVec.slt_zero_eq_msb, BitVec.msb_eq_false_iff_two_mul_lt, BitVec.toNat_ofNat]
  omega

theorem word_toInt (p : ℕ) (hp : p < 8192) : (BitVec.ofNat 32 p).toInt.toNat = p := by
  rw [BitVec.toInt_eq_toNat_of_lt (by rw [BitVec.toNat_ofNat]; omega), BitVec.toNat_ofNat]
  omega

theorem idxs_apply (n : Fin 511) (l : Fin 32) : idxs (ix3 n l (0 : Fin 1)) = BitVec.ofNat 32 (16 * n.val + l.val) := by
  unfold idxs
  pointwise
  simp only [IntOp.addi, IntOp.muli, IntOp.cmpi, word, word_slt (16 * n.val + l.val) (by omega)]
  rfl

/-- `x[:, i]` where the position's word is known. -/
theorem row_at {α : Type}
    (wf : GatherDims.WF S2x8192x4x128 S511x32x1 S2x511x32x4x128 [0, 3, 4] [1] [] [1] [] 2 ![2, 1, 4, 128])
    (x : S2x8192x4x128.Idx → α) (i : IVec S511x32x1 32) (b : Fin 2) (n : Fin 511) (l : Fin 32) (g : Fin 4) (d : Fin 128)
    (q : ℕ) (hq : q < 8192) (hi : i (ix3 n l (0 : Fin 1)) = BitVec.ofNat 32 q) :
    Host.gather (rowDims wf) x i (ix5 b n l g d) = x (ix4 (n0 := 2) (n1 := 8192) (n2 := 4) (n3 := 128) b ⟨q, hq⟩ g d) := by
  have e : min (i (ix3 n l (0 : Fin 1))).toInt.toNat 8191 = q := by rw [hi, word_toInt q hq]; omega
  rw [row_apply]
  simp only [e]

/-! ## The blocks, the hidden layer and the result -/

/-- The blocks, each laid end to end. -/
def cat (x : FVec Ideal S2x8192x512 .f32) (p : FVec Ideal S32x128 .f32) : FVec Ideal S2x511x4x4096 .f32 :=
  shapeCast _ (transpose S2x511x4x32x128 [0, 1, 3, 2, 4] (addf (Host.gather (rowDims gather_S2x8192x4x128_S511x32x1_S2x511x32x4x128_034_1_n_n_1_2_214128_wf) (shapeCast _ x shapeCasts_S2x8192x512_S2x8192x4x128) idxs) (broadcastInDim S2x511x32x4x128 ![0, 1, 2, 3, 4] bcast_S1x1x32x1x128_S2x511x32x4x128_0_1_2_3_4 (broadcastInDim S1x1x32x1x128 ![2, 3, 4] bcast_S32x1x128_S1x1x32x1x128_2_3_4 (broadcastInDim S32x1x128 ![0, 2] bcast_S32x128_S32x1x128_0_2 p)))) transposes_S2x511x32x4x128_S2x511x4x32x128_0_1_3_2_4) shapeCasts_S2x511x4x32x128_S2x511x4x4096

theorem cat_apply (x : FVec Ideal S2x8192x512 .f32) (p : FVec Ideal S32x128 .f32) (b : Fin 2) (n : Fin 511) (g : Fin 4) (k : Fin 4096) :
    cat x p (ix4 b n g k)
      = x (ix3 (n0 := 2) (n1 := 8192) (n2 := 512) b ⟨16 * n.val + k.val / 128, by omega⟩ ⟨128 * g.val + k.val % 128, by omega⟩)
        + p (ix2 (n0 := 32) (n1 := 128) ⟨k.val / 128, by omega⟩ ⟨k.val % 128, by omega⟩) := by
  unfold cat
  pointwise
  refine congrArg (· + _) ?_
  refine (row_at _ _ _ b n ⟨k.val / 128, by omega⟩ g ⟨k.val % 128, by omega⟩ (16 * n.val + k.val / 128) (by omega) (idxs_apply n ⟨k.val / 128, by omega⟩)).trans ?_
  pointwise
  exact congrArg (fun q => x (ix3 (n0 := 2) (n1 := 8192) (n2 := 512) b ⟨16 * n.val + k.val / 128, by omega⟩ q))
    (Fin.ext (by show g.val * 128 + k.val % 128 = 128 * g.val + k.val % 128; omega))

/-- The hidden layer before the gelu. -/
def hid (X : FVec Ideal S2x511x4x4096 .f32) (w : FVec Ideal S4096x128 .f32) : FVec Ideal S2x511x4x128 .f32 :=
  Host.dotGeneral dot_S2x511x4x4096_S4096x128_S2x511x4x128_3_0_012_1_n_n none X w

theorem hid_apply (X : FVec Ideal S2x511x4x4096 .f32) (w : FVec Ideal S4096x128 .f32) (b : Fin 2) (n : Fin 511) (g : Fin 4) (h : Fin 128) :
    hid X w (ix4 b n g h) = ∑ k : Fin 4096, X (ix4 b n g k) * w (ix2 k h) := by
  unfold hid
  pointwise

/-- The result from the hidden layer. -/
def out (H : FVec Ideal S2x511x4x128 .f32) (w2 : FVec Ideal S128x128 .f32) : FVec Ideal S2x4x512x128 .bf16 :=
  truncf .bf16 (pad S2x4x512x128 ![0, 0, 0, 0] ![0, 0, 1, 0] ![0, 0, 0, 0] (transpose S2x4x511x128 [0, 2, 1, 3] (Host.dotGeneral dot_S2x511x4x128_S128x128_S2x511x4x128_3_0_012_1_n_n none (mulf H (mulf (broadcastInDim S2x511x4x128 ![] bcast_S_S2x511x4x128 (constant S_ .f32 0x3F000000#32)) (addf (broadcastInDim S2x511x4x128 ![] bcast_S_S2x511x4x128 (constant S_ .f32 0x3F800000#32)) (Host.tanh (mulf (broadcastInDim S2x511x4x128 ![] bcast_S_S2x511x4x128 (constant S_ .f32 0x3F4C422A#32)) (addf H (mulf (broadcastInDim S2x511x4x128 ![] bcast_S_S2x511x4x128 (constant S_ .f32 0x3D372713#32)) (mulf (mulf H H) H)))))))) w2) transposes_S2x511x4x128_S2x4x511x128_0_2_1_3) (sitofp .f32 (constantI S_ 32 0#32)) pads_S2x4x511x128_S2x4x512x128_000_000_010_000 h_S_) bitsLt_bf16_f32

theorem zf : (FloatOps.sitofp (F := Ideal) .f32 (0#32) : Ideal .f32) = 0 := sitofp_zero

theorem out_apply (H : FVec Ideal S2x511x4x128 .f32) (w2 : FVec Ideal S128x128 .f32) (b : Fin 2) (g : Fin 4) (n : Fin 512) (d : Fin 128) :
    out H w2 (ix4 b g n d) = if hn : n.val < 511 then ∑ h : Fin 128, Cert.CmpIdeal.Val.gl (H (ix4 b (⟨n.val, hn⟩ : Fin 511) g h)) * w2 (ix2 h d) else 0 := by
  unfold out Cert.CmpIdeal.Val.gl
  pointwise
  simp only [zf, mul_assoc]

theorem split (F : ℕ → ℕ → EReal) : ∑ k : Fin 4096, F (k.val / 128) (k.val % 128) = ∑ l ∈ Finset.range 32, ∑ d : Fin 128, F l d.val := by
  rw [Finset.sum_range, ← Fintype.sum_prod_type']
  refine (Equiv.sum_comp (finProdFinEquiv (m := 32) (n := 128)) (fun k : Fin 4096 => F (k.val / 128) (k.val % 128))).symm.trans
    (Finset.sum_congr rfl fun q _ => ?_)
  have e : (finProdFinEquiv (m := 32) (n := 128) q).val = q.2.val + 128 * q.1.val := rfl
  have e1 : (q.2.val + 128 * q.1.val) / 128 = q.1.val := by omega
  have e2 : (q.2.val + 128 * q.1.val) % 128 = q.2.val := by omega
  show F ((finProdFinEquiv (m := 32) (n := 128) q).val / 128) ((finProdFinEquiv (m := 32) (n := 128) q).val % 128) = _
  rw [e, e1, e2]

open Cert.CmpIdeal.Val (part entry gl)

/-- A hidden entry as the sum over the places of a block. -/
theorem hid_part (x : FVec Ideal S2x8192x1536 .f32) (s : FVec Ideal S2x8192x512 .f32) (p : FVec Ideal S32x128 .f32) (w : FVec Ideal S4096x128 .f32) (kv : ℕ) (hkv : kv < 2)
    (hs : ∀ (b : Fin 2) (r : Fin 8192) (e : Fin 512), s (ix3 b r e) = x (ix3 (n0 := 2) (n1 := 8192) (n2 := 1536) b r ⟨512 * kv + e.val, by omega⟩))
    (b : Fin 2) (n : Fin 511) (g : Fin 4) (h : Fin 128) :
    hid (cat s p) w (ix4 b n g h) = ∑ l ∈ Finset.range 32, part x p w kv g.val b.val (16 * n.val + l) l h := by
  rw [hid_apply]
  refine Eq.trans ?_ (split fun l d => (x (ix3 (n0 := 2) (n1 := 8192) (n2 := 1536) ⟨b.val % 2, Nat.mod_lt _ (by decide)⟩ ⟨(16 * n.val + l) % 8192, Nat.mod_lt _ (by decide)⟩ ⟨(512 * kv + 128 * g.val + d) % 1536, Nat.mod_lt _ (by decide)⟩)
    + p (ix2 (n0 := 32) (n1 := 128) ⟨l % 32, Nat.mod_lt _ (by decide)⟩ ⟨d % 128, Nat.mod_lt _ (by decide)⟩)) * w (ix2 (n0 := 4096) ⟨(128 * l + d) % 4096, Nat.mod_lt _ (by decide)⟩ h)) |>.trans ?_
  · refine Finset.sum_congr rfl fun k _ => ?_
    have hb : b.val % 2 = b.val := Nat.mod_eq_of_lt b.isLt
    have h1 : (16 * n.val + k.val / 128) % 8192 = 16 * n.val + k.val / 128 := Nat.mod_eq_of_lt (by omega)
    have h2 : (512 * kv + 128 * g.val + k.val % 128) % 1536 = 512 * kv + (128 * g.val + k.val % 128) := by
      rw [Nat.mod_eq_of_lt (by omega), Nat.add_assoc]
    have h3 : k.val / 128 % 32 = k.val / 128 := Nat.mod_eq_of_lt (by omega)
    have h4 : k.val % 128 % 128 = k.val % 128 := Nat.mod_mod _ _
    have h5 : (128 * (k.val / 128) + k.val % 128) % 4096 = k.val := by omega
    rw [cat_apply, hs]
    simp only [hb, h1, h2, h3, h4, h5]
  · refine Finset.sum_congr rfl fun l _ => ?_
    unfold part
    refine Finset.sum_congr rfl fun d _ => ?_
    have h4 : d.val % 128 = d.val := Nat.mod_eq_of_lt d.isLt
    simp only [h4]

/-- The result's entry. -/
theorem res_apply (x : FVec Ideal S2x8192x1536 .f32) (s : FVec Ideal S2x8192x512 .f32) (p : FVec Ideal S32x128 .f32) (w : FVec Ideal S4096x128 .f32) (w2 : FVec Ideal S128x128 .f32) (kv : ℕ) (hkv : kv < 2)
    (hs : ∀ (b : Fin 2) (r : Fin 8192) (e : Fin 512), s (ix3 b r e) = x (ix3 (n0 := 2) (n1 := 8192) (n2 := 1536) b r ⟨512 * kv + e.val, by omega⟩))
    (b : Fin 2) (g : Fin 4) (n : Fin 512) (d : Fin 128) :
    out (hid (cat s p) w) w2 (ix4 b g n d) = entry x p w w2 kv b.val g.val n.val d.val := by
  rw [out_apply]
  unfold entry
  by_cases hn : n.val < 511
  · rw [dif_pos hn, if_neg (by omega)]
    refine Finset.sum_congr rfl fun h _ => ?_
    have hm : (n.val + 1) % 512 = n.val + 1 := Nat.mod_eq_of_lt (by omega)
    have hd : d.val % 128 = d.val := Nat.mod_eq_of_lt d.isLt
    simp only [hd]
    rw [hid_part x s p w kv hkv hs, hm, Finset.sum_range_add (n := 16) (m := 16)]
    refine congrArg (fun z => gl (_ + z) * _) (Finset.sum_congr rfl fun j _ => ?_)
    have e : 16 * n.val + (16 + j) = 16 * (n.val + 1) + j := by omega
    show part x p w kv g.val b.val (16 * n.val + (16 + j)) (16 + j) h = _
    rw [e]
  · rw [dif_neg hn, if_pos (by omega)]

theorem keys_apply (x : FVec Ideal S2x8192x1536 .f32) (b : Fin 2) (r : Fin 8192) (e : Fin 512) :
    (extractStridedSlice S2x8192x512 ![0, 0, 0] x slices_S2x8192x1536_S2x8192x512_0_0_0 : FVec Ideal S2x8192x512 .f32) (ix3 b r e)
      = x (ix3 (n0 := 2) (n1 := 8192) (n2 := 1536) b r ⟨512 * 0 + e.val, by omega⟩) := by
  pointwise

theorem vals_apply (x : FVec Ideal S2x8192x1536 .f32) (b : Fin 2) (r : Fin 8192) (e : Fin 512) :
    (extractStridedSlice S2x8192x512 ![0, 0, 512] x slices_S2x8192x1536_S2x8192x512_0_0_512 : FVec Ideal S2x8192x512 .f32) (ix3 b r e)
      = x (ix3 (n0 := 2) (n1 := 8192) (n2 := 1536) b r ⟨512 * 1 + e.val, by omega⟩) := by
  pointwise

theorem keys (m : (ℓ : Loc nD τ sig) → Buf (Elt Ideal) ℓ) (c : Dev nD) :
    res_main_v41 m c = out (hid (cat (extractStridedSlice S2x8192x512 ![0, 0, 0] (m ((c.tc : Thread nD τ).loc main_arg0)) slices_S2x8192x1536_S2x8192x512_0_0_0)
      (m ((c.tc : Thread nD τ).loc main_arg1))) (m ((c.tc : Thread nD τ).loc main_arg3))) (m ((c.tc : Thread nD τ).loc main_arg5)) := rfl

theorem vals (m : (ℓ : Loc nD τ sig) → Buf (Elt Ideal) ℓ) (c : Dev nD) :
    res_main_v74 m c = out (hid (cat (extractStridedSlice S2x8192x512 ![0, 0, 512] (m ((c.tc : Thread nD τ).loc main_arg0)) slices_S2x8192x1536_S2x8192x512_0_0_512)
      (m ((c.tc : Thread nD τ).loc main_arg2))) (m ((c.tc : Thread nD τ).loc main_arg4))) (m ((c.tc : Thread nD τ).loc main_arg6)) := rfl

end Cert.Proof.CmpRef

end
-- ==== Proof.CmpClaims.lean ====
module

public import proofs.«01_k».proof.Defs
public import proofs.«01_k».proof.Proof.Gen.Cmp.Frame
public import proofs.«01_k».proof.Proof.CmpValue
public import proofs.«01_k».proof.Proof.CmpRef
public import Idealize.ShloMosaic.Lib.Quiescent

/-! The claims of the compression of the keys and the values. -/

@[expose] public section

set_option maxRecDepth 16384

noncomputable section

open Idealize.ShloMosaic Idealize.ShloMosaic.TcCoe Idealize.SL.Sem

namespace Cert.Proof.CmpClaims

theorem frame_p : Cert.quiescent_Cmp := fun m ρ _ => Cert.Cmp.Gen.frame m ρ
theorem frame_pi : Cert.quiescent_CmpIdeal := fun m ρ _ => Cert.CmpIdeal.Gen.frame m ρ
theorem frame_ri : Cert.quiescent_CmpRefIdeal := fun m ρ _ =>
  (θ_run Cert.CmpRefIdeal.defs _ _).mono (fun r h => ⟨fun c => (h c).2.2,
      Idealize.ShloMosaic.sem_eq_zero_of_no_sems (by decide) r.2⟩)
    (Cert.CmpRefIdeal.Value.run (F := Ideal) m ρ)

theorem algebraic : Cert.algebraic_CmpIdeal_CmpRefIdeal := by
  intro m ρ m' ρ' hpre hagree
  refine ⟨_, _, Cert.CmpIdeal.Value.run_blocks (F := Ideal) m ρ, ?_⟩
  refine (θ_run Cert.CmpRefIdeal.defs _ _).mono (fun _ h c => ⟨(h c).1.trans ?_, (h c).2.1.trans ?_, (h c).2.2⟩)
    (Cert.CmpRefIdeal.Value.run (F := Ideal) m' ρ')
  · obtain ⟨a0, a1, a2, a3, a4, a5, a6⟩ := hagree c
    rw [CmpRef.keys, a0, a1, a3, a5, Cert.CmpIdeal.Val.arr7]
    funext y
    idx_vars y
    exact CmpRef.res_apply _ _ _ _ _ 0 (by decide) (CmpRef.keys_apply _) y0 y1 y2 y3
  · obtain ⟨a0, a1, a2, a3, a4, a5, a6⟩ := hagree c
    rw [CmpRef.vals, a0, a2, a4, a6, Cert.CmpIdeal.Val.arr8]
    funext y
    idx_vars y
    exact CmpRef.res_apply _ _ _ _ _ 1 (by decide) (CmpRef.vals_apply _) y0 y1 y2 y3

end Cert.Proof.CmpClaims

end
-- ==== Proof.NsaClaims.lean ====
module

public import proofs.«01_k».proof.Defs
public import proofs.«01_k».proof.Proof.Gen.Nsa.Frame
public import proofs.«01_k».proof.Proof.Gen.NsaIdeal.Frame

/-! The claims of the sparse attention. -/

@[expose] public section

noncomputable section

open Idealize.ShloMosaic Idealize.ShloMosaic.TcCoe Idealize.SL.Sem

namespace Cert.Proof.NsaClaims

theorem frame_p : Cert.quiescent_Nsa := fun m ρ _ => Cert.Nsa.Gen.frame m ρ
theorem frame_pi : Cert.quiescent_NsaIdeal := fun m ρ _ => Cert.NsaIdeal.Gen.frame m ρ

end Cert.Proof.NsaClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Claims
public import proofs.«01_k».proof.Proof.QkvClaims
public import proofs.«01_k».proof.Proof.SsmInClaims
public import proofs.«01_k».proof.Proof.NsaAClaims
public import proofs.«01_k».proof.Proof.NsaBClaims
public import proofs.«01_k».proof.Proof.OutClaims
public import proofs.«01_k».proof.Proof.AddLnClaims
public import proofs.«01_k».proof.Proof.RouterClaims
public import proofs.«01_k».proof.Proof.ExpertsClaims
public import proofs.«01_k».proof.Proof.CmpClaims
public import proofs.«01_k».proof.Proof.NsaClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts,
  Cert.KernelIdeal.Gen.facts,
  Cert.ReferenceIdeal.Gen.facts,
  Cert.Qkv.Gen.facts,
  Cert.QkvIdeal.Gen.facts,
  Cert.QkvRefIdeal.Gen.facts,
  Cert.SsmIn.Gen.facts,
  Cert.SsmInIdeal.Gen.facts,
  Cert.SsmInRefIdeal.Gen.facts,
  Cert.NsaA.Gen.facts,
  Cert.NsaAIdeal.Gen.facts,
  Cert.NsaARefIdeal.Gen.facts,
  Cert.NsaB.Gen.facts,
  Cert.NsaBIdeal.Gen.facts,
  Cert.NsaBRefIdeal.Gen.facts,
  Cert.Out.Gen.facts,
  Cert.OutIdeal.Gen.facts,
  Cert.OutRefIdeal.Gen.facts,
  Cert.AddLn.Gen.facts,
  Cert.AddLnIdeal.Gen.facts,
  Cert.AddLnRefIdeal.Gen.facts,
  Cert.Router.Gen.facts,
  Cert.RouterIdeal.Gen.facts,
  Cert.RouterRefIdeal.Gen.facts,
  Cert.Experts.Gen.facts,
  Cert.ExpertsIdeal.Gen.facts,
  Cert.ExpertsRefIdeal.Gen.facts,
  Cert.Cmp.Gen.facts,
  Cert.CmpIdeal.Gen.facts,
  Cert.CmpRefIdeal.Gen.facts,
  Cert.Nsa.Gen.facts,
  Cert.NsaIdeal.Gen.facts,
  Cert.Pre_finite.Gen.facts,
  Cert.Pre_experts_named.Gen.facts,
  DiffClaims.frame_p,
  DiffClaims.frame_pi,
  DiffClaims.frame_pi_pre,
  DiffClaims.frame_ri,
  DiffClaims.frame_ri_pre,
  QkvClaims.frame_p,
  QkvClaims.frame_pi,
  QkvClaims.frame_ri,
  SsmInClaims.frame_p,
  SsmInClaims.frame_pi,
  SsmInClaims.frame_ri,
  NsaAClaims.frame_p,
  NsaAClaims.frame_pi,
  NsaAClaims.frame_ri,
  NsaBClaims.frame_p,
  NsaBClaims.frame_pi,
  NsaBClaims.frame_ri,
  OutClaims.frame_p,
  OutClaims.frame_pi,
  OutClaims.frame_ri,
  AddLnClaims.frame_p,
  AddLnClaims.frame_pi,
  AddLnClaims.frame_ri,
  RouterClaims.frame_p,
  RouterClaims.frame_pi,
  RouterClaims.frame_ri,
  ExpertsClaims.frame_p,
  ExpertsClaims.frame_pi,
  ExpertsClaims.frame_ri,
  ExpertsClaims.frame_ri_pre,
  CmpClaims.frame_p,
  CmpClaims.frame_pi,
  CmpClaims.frame_ri,
  NsaClaims.frame_p,
  NsaClaims.frame_pi,
  DiffClaims.preserves,
  DiffClaims.algebraic,
  trivial,
  QkvClaims.algebraic,
  trivial,
  SsmInClaims.algebraic,
  trivial,
  NsaAClaims.algebraic,
  trivial,
  NsaBClaims.algebraic,
  trivial,
  OutClaims.algebraic,
  trivial,
  AddLnClaims.algebraic,
  trivial,
  RouterClaims.algebraic,
  trivial,
  ExpertsClaims.algebraic,
  trivial,
  CmpClaims.algebraic,
  trivial⟩

end Cert.Proof

end
